-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v16_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v15)) (v1 : (c : Dev Cert.Kernel2Ideal.nD) → Buf (Elt Ideal) ((c.tc : Thread Cert.Kernel2Ideal.nD Cert.Kernel2Ideal.τ).loc Cert.Kernel2Ideal.main_v17)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v20)) (v4 : (c : Dev Cert.Kernel2Ideal.nD) → Buf (Elt Ideal) ((c.tc : Thread Cert.Kernel2Ideal.nD Cert.Kernel2Ideal.τ).loc Cert.Kernel2Ideal.main_v21)) (v5 : (c : Dev Cert.Kernel2Ideal.nD) → Buf (Elt Ideal) ((c.tc : Thread Cert.Kernel2Ideal.nD Cert.Kernel2Ideal.τ).loc Cert.Kernel2Ideal.main_v22)) (v6 : (c : Dev Cert.Kernel2Ideal.nD) → Buf (Elt Ideal) ((c.tc : Thread Cert.Kernel2Ideal.nD Cert.Kernel2Ideal.τ).loc Cert.Kernel2Ideal.main_v23)) (v7 : (c : Dev Cert.Kernel2Ideal.nD) → Buf (Elt Ideal) ((c.tc : Thread Cert.Kernel2Ideal.nD Cert.Kernel2Ideal.τ).loc Cert.Kernel2Ideal.main_v24)) (v8 : (c : Dev Cert.Kernel2Ideal.nD) → Buf (Elt Ideal) ((c.tc : Thread Cert.Kernel2Ideal.nD Cert.Kernel2Ideal.τ).loc Cert.Kernel2Ideal.main_v25)) (v9 : (c : Dev Cert.Kernel2Ideal.nD) → Buf (Elt Ideal) ((c.tc : Thread Cert.Kernel2Ideal.nD Cert.Kernel2Ideal.τ).loc Cert.Kernel2Ideal.main_v26)) (v10 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_v17) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_v22) = v5 c
          ∧ r.2.mem ((c.tc : Thread Cert.Kernel2Ideal.nD Cert.Kernel2Ideal.τ).loc Cert.Kernel2Ideal.main_v23) = v6 c
          ∧ r.2.mem ((c.tc : Thread Cert.Kernel2Ideal.nD Cert.Kernel2Ideal.τ).loc Cert.Kernel2Ideal.main_v24) = v7 c
          ∧ r.2.mem ((c.tc : Thread Cert.Kernel2Ideal.nD Cert.Kernel2Ideal.τ).loc Cert.Kernel2Ideal.main_v25) = v8 c
          ∧ r.2.mem ((c.tc : Thread Cert.Kernel2Ideal.nD Cert.Kernel2Ideal.τ).loc Cert.Kernel2Ideal.main_v26) = v9 c
          ∧ r.2.mem ((c.tc : Thread Cert.Kernel2Ideal.nD Cert.Kernel2Ideal.τ).loc Cert.Kernel2Ideal.main_v27) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_v3) = v4 c
          ∧ r.2.mem ((c.tc : Thread Cert.Reference2Ideal.nD Cert.Reference2Ideal.τ).loc Cert.Reference2Ideal.main_v6) = v5 c
          ∧ r.2.mem ((c.tc : Thread Cert.Reference2Ideal.nD Cert.Reference2Ideal.τ).loc Cert.Reference2Ideal.main_v8) = v6 c
          ∧ r.2.mem ((c.tc : Thread Cert.Reference2Ideal.nD Cert.Reference2Ideal.τ).loc Cert.Reference2Ideal.main_v9) = v7 c
          ∧ r.2.mem ((c.tc : Thread Cert.Reference2Ideal.nD Cert.Reference2Ideal.τ).loc Cert.Reference2Ideal.main_v7) = v8 c
          ∧ r.2.mem ((c.tc : Thread Cert.Reference2Ideal.nD Cert.Reference2Ideal.τ).loc Cert.Reference2Ideal.main_v10) = v9 c
          ∧ r.2.mem ((c.tc : Thread Cert.Reference2Ideal.nD Cert.Reference2Ideal.τ).loc Cert.Reference2Ideal.main_v11) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v19)) (v1 : (c : Dev Cert.Kernel6Ideal.nD) → Buf (Elt Ideal) ((c.tc : Thread Cert.Kernel6Ideal.nD Cert.Kernel6Ideal.τ).loc Cert.Kernel6Ideal.main_v21)) (v2 : (c : Dev Cert.Kernel6Ideal.nD) → Buf (Elt Ideal) ((c.tc : Thread Cert.Kernel6Ideal.nD Cert.Kernel6Ideal.τ).loc Cert.Kernel6Ideal.main_v33)) (v3 : (c : Dev Cert.Kernel6Ideal.nD) → Buf (Elt Ideal) ((c.tc : Thread Cert.Kernel6Ideal.nD Cert.Kernel6Ideal.τ).loc Cert.Kernel6Ideal.main_v26)) (v4 : (c : Dev Cert.Kernel6Ideal.nD) → Buf (Elt Ideal) ((c.tc : Thread Cert.Kernel6Ideal.nD Cert.Kernel6Ideal.τ).loc Cert.Kernel6Ideal.main_v27)) (v5 : (c : Dev Cert.Kernel6Ideal.nD) → Buf (Elt Ideal) ((c.tc : Thread Cert.Kernel6Ideal.nD Cert.Kernel6Ideal.τ).loc Cert.Kernel6Ideal.main_v28)) (v6 : (c : Dev Cert.Kernel6Ideal.nD) → Buf (Elt Ideal) ((c.tc : Thread Cert.Kernel6Ideal.nD Cert.Kernel6Ideal.τ).loc Cert.Kernel6Ideal.main_v29)) (v7 : (c : Dev Cert.Kernel6Ideal.nD) → Buf (Elt Ideal) ((c.tc : Thread Cert.Kernel6Ideal.nD Cert.Kernel6Ideal.τ).loc Cert.Kernel6Ideal.main_v30)) (v8 : (c : Dev Cert.Kernel6Ideal.nD) → Buf (Elt Ideal) ((c.tc : Thread Cert.Kernel6Ideal.nD Cert.Kernel6Ideal.τ).loc Cert.Kernel6Ideal.main_v31)) (v9 : (c : Dev Cert.Kernel6Ideal.nD) → Buf (Elt Ideal) ((c.tc : Thread Cert.Kernel6Ideal.nD Cert.Kernel6Ideal.τ).loc Cert.Kernel6Ideal.main_v32)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_v21) = v1 c
          ∧ r.2.mem ((c.tc : Thread Cert.Kernel6Ideal.nD Cert.Kernel6Ideal.τ).loc Cert.Kernel6Ideal.main_v33) = v2 c
          ∧ r.2.mem ((c.tc : Thread Cert.Kernel6Ideal.nD Cert.Kernel6Ideal.τ).loc Cert.Kernel6Ideal.main_v26) = v3 c
          ∧ r.2.mem ((c.tc : Thread Cert.Kernel6Ideal.nD Cert.Kernel6Ideal.τ).loc Cert.Kernel6Ideal.main_v27) = v4 c
          ∧ r.2.mem ((c.tc : Thread Cert.Kernel6Ideal.nD Cert.Kernel6Ideal.τ).loc Cert.Kernel6Ideal.main_v28) = v5 c
          ∧ r.2.mem ((c.tc : Thread Cert.Kernel6Ideal.nD Cert.Kernel6Ideal.τ).loc Cert.Kernel6Ideal.main_v29) = v6 c
          ∧ r.2.mem ((c.tc : Thread Cert.Kernel6Ideal.nD Cert.Kernel6Ideal.τ).loc Cert.Kernel6Ideal.main_v30) = v7 c
          ∧ r.2.mem ((c.tc : Thread Cert.Kernel6Ideal.nD Cert.Kernel6Ideal.τ).loc Cert.Kernel6Ideal.main_v31) = v8 c
          ∧ r.2.mem ((c.tc : Thread Cert.Kernel6Ideal.nD Cert.Kernel6Ideal.τ).loc Cert.Kernel6Ideal.main_v32) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v3) = v3 c
          ∧ r.2.mem ((c.tc : Thread Cert.Reference6Ideal.nD Cert.Reference6Ideal.τ).loc Cert.Reference6Ideal.main_v6) = v4 c
          ∧ r.2.mem ((c.tc : Thread Cert.Reference6Ideal.nD Cert.Reference6Ideal.τ).loc Cert.Reference6Ideal.main_v8) = v5 c
          ∧ r.2.mem ((c.tc : Thread Cert.Reference6Ideal.nD Cert.Reference6Ideal.τ).loc Cert.Reference6Ideal.main_v9) = v6 c
          ∧ r.2.mem ((c.tc : Thread Cert.Reference6Ideal.nD Cert.Reference6Ideal.τ).loc Cert.Reference6Ideal.main_v7) = v7 c
          ∧ r.2.mem ((c.tc : Thread Cert.Reference6Ideal.nD Cert.Reference6Ideal.τ).loc Cert.Reference6Ideal.main_v10) = v8 c
          ∧ r.2.mem ((c.tc : Thread Cert.Reference6Ideal.nD Cert.Reference6Ideal.τ).loc Cert.Reference6Ideal.main_v11) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v17)) (v1 : (c : Dev Cert.Kernel7Ideal.nD) → Buf (Elt Ideal) ((c.tc : Thread Cert.Kernel7Ideal.nD Cert.Kernel7Ideal.τ).loc Cert.Kernel7Ideal.main_v19)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_v19) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v15)) (v1 : (c : Dev Cert.Kernel8Ideal.nD) → Buf (Elt Ideal) ((c.tc : Thread Cert.Kernel8Ideal.nD Cert.Kernel8Ideal.τ).loc Cert.Kernel8Ideal.main_v21)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_v21) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_v46) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v17)) (v1 : (c : Dev Cert.Kernel9Ideal.nD) → Buf (Elt Ideal) ((c.tc : Thread Cert.Kernel9Ideal.nD Cert.Kernel9Ideal.τ).loc Cert.Kernel9Ideal.main_v15_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v17) = v0 c
          ∧ r.2.mem ((c.tc : Thread Cert.Kernel9Ideal.nD Cert.Kernel9Ideal.τ).loc Cert.Kernel9Ideal.main_v15_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S2x4096x1024 : Shape := ⟨3, ![2, 4096, 1024]⟩
abbrev S2x4096x512 : Shape := ⟨3, ![2, 4096, 512]⟩
abbrev S2x64x8 : Shape := ⟨3, ![2, 64, 8]⟩
abbrev S128 : Shape := ⟨1, ![128]⟩
abbrev S2x8x128x128 : Shape := ⟨4, ![2, 8, 128, 128]⟩
abbrev S128x8x1 : Shape := ⟨3, ![128, 8, 1]⟩
abbrev S128x8x128 : Shape := ⟨3, ![128, 8, 128]⟩
abbrev S8192x1024 : Shape := ⟨2, ![8192, 1024]⟩
abbrev S_ : Shape := ⟨0, ![]⟩
abbrev S8192x7168 : Shape := ⟨2, ![8192, 7168]⟩
abbrev S8192x512 : Shape := ⟨2, ![8192, 512]⟩
abbrev S1x128 : Shape := ⟨2, ![1, 128]⟩
abbrev S64x1024 : Shape := ⟨2, ![64, 1024]⟩
abbrev S64x512 : Shape := ⟨2, ![64, 512]⟩
abbrev S1x8x128 : Shape := ⟨3, ![1, 8, 128]⟩
abbrev S1x8x128x128 : Shape := ⟨4, ![1, 8, 128, 128]⟩
abbrev S8x128x128 : Shape := ⟨3, ![8, 128, 128]⟩
abbrev S64x128 : Shape := ⟨2, ![64, 128]⟩
abbrev S1x64x128 : Shape := ⟨3, ![1, 64, 128]⟩
abbrev S8x64x128 : Shape := ⟨3, ![8, 64, 128]⟩
abbrev S64x64 : Shape := ⟨2, ![64, 64]⟩
abbrev S1x64x64 : Shape := ⟨3, ![1, 64, 64]⟩
abbrev S8x64x64 : Shape := ⟨3, ![8, 64, 64]⟩
abbrev S1x1x128 : Shape := ⟨3, ![1, 1, 128]⟩
abbrev S8x1x128 : Shape := ⟨3, ![8, 1, 128]⟩
abbrev S8x64 : Shape := ⟨2, ![8, 64]⟩
abbrev S8x64x1 : Shape := ⟨3, ![8, 64, 1]⟩

abbrev nBuf : Space → Nat
  | .hbm => 23
  | .vmem => 22
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x4096x1024, .bf16⟩
  | .hbm, ⟨3, _⟩ => ⟨S2x4096x1024, .bf16⟩
  | .hbm, ⟨4, _⟩ => ⟨S2x4096x512, .bf16⟩
  | .hbm, ⟨5, _⟩ => ⟨S2x64x8, .f32⟩
  | .hbm, ⟨6, _⟩ => ⟨S2x4096x1024, .f32⟩
  | .hbm, ⟨7, _⟩ => ⟨S128, .f32⟩
  | .hbm, ⟨8, _⟩ => ⟨S2x8x128x128, .f32⟩
  | .hbm, ⟨9, _⟩ => ⟨S128x8x1, .f32⟩
  | .hbm, ⟨10, _⟩ => ⟨S128x8x128, .f32⟩
  | .hbm, ⟨11, _⟩ => ⟨S8192x1024, .f32⟩
  | .hbm, ⟨12, _⟩ => ⟨S_, .i32⟩
  | .hbm, ⟨13, _⟩ => ⟨S_, .f32⟩
  | .hbm, ⟨14, _⟩ => ⟨S8192x7168, .f32⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x512, .bf16⟩
  | .hbm, ⟨20, _⟩ => ⟨S1x128, .f32⟩
  | .hbm, ⟨21, _⟩ => ⟨S8192x1024, .bf16⟩
  | .hbm, ⟨22, _⟩ => ⟨S2x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x512, .bf16⟩
  | .local _ .vmem, ⟨9, _⟩ => ⟨S64x512, .bf16⟩
  | .local _ .vmem, ⟨10, _⟩ => ⟨S1x8x128, .f32⟩
  | .local _ .vmem, ⟨11, _⟩ => ⟨S1x8x128, .f32⟩
  | .local _ .vmem, ⟨12, _⟩ => ⟨S64x1024, .f32⟩
  | .local _ .vmem, ⟨13, _⟩ => ⟨S64x1024, .f32⟩
  | .local _ .vmem, ⟨14, _⟩ => ⟨S1x128, .f32⟩
  | .local _ .vmem, ⟨15, _⟩ => ⟨S1x8x128x128, .f32⟩
  | .local _ .vmem, ⟨16, _⟩ => ⟨S1x8x128x128, .f32⟩
  | .local _ .vmem, ⟨17, _⟩ => ⟨S64x1024, .bf16⟩
  | .local _ .vmem, ⟨18, _⟩ => ⟨S64x1024, .bf16⟩
  | .local _ .vmem, ⟨19, _⟩ => ⟨S1x8x128x128, .f32⟩
  | .local _ .vmem, ⟨20, _⟩ => ⟨S1x8x128x128, .f32⟩
  | .local _ .vmem, ⟨21, _⟩ => ⟨S8x128x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v207 : BitVec 1 := Scalar.cmpi .eq arg1 c63_i32
  let v208 : BitVec 32 := Scalar.extui v207
  let c0_i32_52 : BitVec 32 := 0#32
  let v209 : BitVec 1 := Scalar.cmpi .ne v208 c0_i32_52
  v209

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2x4096x1024 : Shape := ⟨3, ![2, 4096, 1024]⟩
abbrev S2x4096x512 : Shape := ⟨3, ![2, 4096, 512]⟩
abbrev S2x64x8 : Shape := ⟨3, ![2, 64, 8]⟩
abbrev S128 : Shape := ⟨1, ![128]⟩
abbrev S2x8x128x128 : Shape := ⟨4, ![2, 8, 128, 128]⟩
abbrev S2x64x64x8x128 : Shape := ⟨5, ![2, 64, 64, 8, 128]⟩
abbrev S64x2x8x64x128 : Shape := ⟨5, ![64, 2, 8, 64, 128]⟩
abbrev S2x64x64x8x64 : Shape := ⟨5, ![2, 64, 64, 8, 64]⟩
abbrev S64x2x8x64x64 : Shape := ⟨5, ![64, 2, 8, 64, 64]⟩
abbrev S64x2x8 : Shape := ⟨3, ![64, 2, 8]⟩
abbrev S_ : Shape := ⟨0, ![]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8 : Shape := ⟨3, ![1, 2, 8]⟩
abbrev S2x8 : Shape := ⟨2, ![2, 8]⟩
abbrev S2x8x1x1 : Shape := ⟨4, ![2, 8, 1, 1]⟩
abbrev S2x8x128x64 : Shape := ⟨4, ![2, 8, 128, 64]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S8192x1024 : Shape := ⟨2, ![8192, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x4096x1024, .bf16⟩
  | .hbm, ⟨3, _⟩ => ⟨S2x4096x1024, .bf16⟩
  | .hbm, ⟨4, _⟩ => ⟨S2x4096x512, .bf16⟩
  | .hbm, ⟨5, _⟩ => ⟨S2x64x8, .f32⟩
  | .hbm, ⟨6, _⟩ => ⟨S2x4096x1024, .f32⟩
  | .hbm, ⟨7, _⟩ => ⟨S128, .f32⟩
  | .hbm, ⟨8, _⟩ => ⟨S2x8x128x128, .f32⟩
  | .hbm, ⟨9, _⟩ => ⟨S2x4096x1024, .f32⟩
  | .hbm, ⟨10, _⟩ => ⟨S2x64x64x8x128, .f32⟩
  | .hbm, ⟨11, _⟩ => ⟨S64x2x8x64x128, .f32⟩
  | .hbm, ⟨12, _⟩ => ⟨S2x4096x512, .f32⟩
  | .hbm, ⟨13, _⟩ => ⟨S2x64x64x8x64, .f32⟩
  | .hbm, ⟨14, _⟩ => ⟨S64x2x8x64x64, .f32⟩
  | .hbm, ⟨15, _⟩ => ⟨S2x64x64x8x128, .f32⟩
  | .hbm, ⟨16, _⟩ => ⟨S64x2x8x64x128, .f32⟩
  | .hbm, ⟨17, _⟩ => ⟨S2x4096x1024, .f32⟩
  | .hbm, ⟨18, _⟩ => ⟨S2x64x64x8x128, .f32⟩
  | .hbm, ⟨19, _⟩ => ⟨S64x2x8x64x128, .f32⟩
  | .hbm, ⟨20, _⟩ => ⟨S2x4096x1024, .f32⟩
  | .hbm, ⟨21, _⟩ => ⟨S2x64x64x8x128, .f32⟩
  | .hbm, ⟨22, _⟩ => ⟨S64x2x8x64x128, .f32⟩
  | .hbm, ⟨23, _⟩ => ⟨S64x2x8, .f32⟩
  | .hbm, ⟨24, _⟩ => ⟨S_, .f32⟩
  | .hbm, ⟨25, _⟩ => ⟨S64x2x8x64x128, .f32⟩
  | .hbm, ⟨26, _⟩ => ⟨S_, .i32⟩
  | .hbm, ⟨27, _⟩ => ⟨S64x2x8x64x128, .f32⟩
  | .hbm, ⟨28, _⟩ => ⟨S64x2x8x64x64, .f32⟩
  | .hbm, ⟨29, _⟩ => ⟨S64x2x8x64x128, .f32⟩
  | .hbm, ⟨30, _⟩ => ⟨S64x2x8x64x128, .f32⟩
  | .hbm, ⟨31, _⟩ => ⟨S64x2x8x64x128, .f32⟩
  | .hbm, ⟨32, _⟩ => ⟨S64x2x8, .f32⟩
  | .hbm, ⟨33, _⟩ => ⟨S_, .i32⟩
  | .hbm, ⟨34, _⟩ => ⟨S2x8x128x128, .f32⟩
  | .hbm, ⟨35, _⟩ => ⟨S64x2x8x64x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x8x64x128, .f32⟩
  | .hbm, ⟨43, _⟩ => ⟨S2x8x64x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x2x8x64x64, .f32⟩
  | .hbm, ⟨49, _⟩ => ⟨S2x8x64x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x2x8x64x128, .f32⟩
  | .hbm, ⟨55, _⟩ => ⟨S2x8x64x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x2x8x64x128, .f32⟩
  | .hbm, ⟨61, _⟩ => ⟨S2x8x64x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x2x8x64x128, .f32⟩
  | .hbm, ⟨67, _⟩ => ⟨S2x8x64x128, .f32⟩
  | .hbm, ⟨68, _⟩ => ⟨S_, .i32⟩
  | .hbm, ⟨69, _⟩ => ⟨S_, .i32⟩
  | .hbm, ⟨70, _⟩ => ⟨S1x2x8, .f32⟩
  | .hbm, ⟨71, _⟩ => ⟨S2x8, .f32⟩
  | .hbm, ⟨72, _⟩ => ⟨S2x8x64x128, .f32⟩
  | .hbm, ⟨73, _⟩ => ⟨S2x8x64x128, .f32⟩
  | .hbm, ⟨74, _⟩ => ⟨S2x8x64x128, .f32⟩
  | .hbm, ⟨75, _⟩ => ⟨S2x8x64x128, .f32⟩
  | .hbm, ⟨76, _⟩ => ⟨S2x8x64x128, .f32⟩
  | .hbm, ⟨77, _⟩ => ⟨S2x8x1x1, .f32⟩
  | .hbm, ⟨78, _⟩ => ⟨S2x8x128x128, .f32⟩
  | .hbm, ⟨79, _⟩ => ⟨S2x8x128x128, .f32⟩
  | .hbm, ⟨80, _⟩ => ⟨S2x8x128x64, .f32⟩
  | .hbm, ⟨81, _⟩ => ⟨S2x8x128x128, .f32⟩
  | .hbm, ⟨82, _⟩ => ⟨S2x8x128x128, .f32⟩
  | .hbm, ⟨83, _⟩ => ⟨S1x2x8x64x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S64x2x8x64x128, .f32⟩
  | .hbm, ⟨89, _⟩ => ⟨S_, .i32⟩
  | .hbm, ⟨90, _⟩ => ⟨S_, .i32⟩
  | .hbm, ⟨91, _⟩ => ⟨S2x64x64x8x128, .f32⟩
  | .hbm, ⟨92, _⟩ => ⟨S2x4096x8x128, .f32⟩
  | .hbm, ⟨93, _⟩ => ⟨S2x4096x8x128, .f32⟩
  | .hbm, ⟨94, _⟩ => ⟨S_, .f32⟩
  | .hbm, ⟨95, _⟩ => ⟨S2x4096x8, .f32⟩
  | .hbm, ⟨96, _⟩ => ⟨S2x4096x8x1, .f32⟩
  | .hbm, ⟨97, _⟩ => ⟨S_, .f32⟩
  | .hbm, ⟨98, _⟩ => ⟨S2x4096x8x1, .f32⟩
  | .hbm, ⟨99, _⟩ => ⟨S2x4096x8x1, .f32⟩
  | .hbm, ⟨100, _⟩ => ⟨S_, .f32⟩
  | .hbm, ⟨101, _⟩ => ⟨S2x4096x8x1, .f32⟩
  | .hbm, ⟨102, _⟩ => ⟨S2x4096x8x1, .f32⟩
  | .hbm, ⟨103, _⟩ => ⟨S2x4096x8x1, .f32⟩
  | .hbm, ⟨104, _⟩ => ⟨S2x4096x8x128, .f32⟩
  | .hbm, ⟨105, _⟩ => ⟨S2x4096x8x128, .f32⟩
  | .hbm, ⟨106, _⟩ => ⟨S1x1x1x128, .f32⟩
  | .hbm, ⟨107, _⟩ => ⟨S2x4096x8x128, .f32⟩
  | .hbm, ⟨108, _⟩ => ⟨S2x4096x8x128, .f32⟩
  | .hbm, ⟨109, _⟩ => ⟨S2x4096x8x128, .f32⟩
  | .hbm, ⟨110, _⟩ => ⟨S2x4096x8x128, .f32⟩
  | .hbm, ⟨111, _⟩ => ⟨S2x4096x8x128, .f32⟩
  | .hbm, ⟨112, _⟩ => ⟨S_, .f32⟩
  | .hbm, ⟨113, _⟩ => ⟨S2x4096x8x128, .f32⟩
  | .hbm, ⟨114, _⟩ => ⟨S2x4096x8x128, .f32⟩
  | .hbm, ⟨115, _⟩ => ⟨S_, .f32⟩
  | .hbm, ⟨116, _⟩ => ⟨S2x4096x8x128, .f32⟩
  | .hbm, ⟨117, _⟩ => ⟨S2x4096x8x128, .f32⟩
  | .hbm, ⟨118, _⟩ => ⟨S2x4096x8x128, .f32⟩
  | .hbm, ⟨119, _⟩ => ⟨S2x4096x8x128, .f32⟩
  | .hbm, ⟨120, _⟩ => ⟨S8192x1024, .f32⟩
  | .hbm, ⟨121, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev main_while0c_c_11 : Ref sig .tc := ⟨.hbm, 36, rfl⟩
abbrev main_while0c_v37 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v0 : Ref sig .tc := ⟨.hbm, 42, rfl⟩
abbrev main_while0b_v37 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v38 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v39 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v40 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v41 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_v0 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_c_2 : Ref sig .tc := ⟨.hbm, 87, rfl⟩
abbrev main_while0b_v54 : Ref sig .tc := ⟨.hbm, 88, rfl⟩
abbrev main_while0b_c_11 : Ref sig .tc := ⟨.hbm, 89, rfl⟩
abbrev main_while0b_v55 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_cst_0 : Ref sig .tc := ⟨.hbm, 94, rfl⟩
abbrev main_v20 : Ref sig .tc := ⟨.hbm, 95, rfl⟩
abbrev main_v21 : Ref sig .tc := ⟨.hbm, 96, rfl⟩
abbrev main_cst_1 : Ref sig .tc := ⟨.hbm, 97, rfl⟩
abbrev main_v22 : Ref sig .tc := ⟨.hbm, 98, rfl⟩
abbrev main_v23 : Ref sig .tc := ⟨.hbm, 99, rfl⟩
abbrev main_cst_2 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_call7_v0 : Ref sig .tc := ⟨.hbm, 110, rfl⟩
abbrev main_call7_v1 : Ref sig .tc := ⟨.hbm, 111, rfl⟩
abbrev main_call7_cst : Ref sig .tc := ⟨.hbm, 112, rfl⟩
abbrev main_call7_v2 : Ref sig .tc := ⟨.hbm, 113, rfl⟩
abbrev main_call7_v3 : Ref sig .tc := ⟨.hbm, 114, rfl⟩
abbrev main_call7_cst_0 : Ref sig .tc := ⟨.hbm, 115, rfl⟩
abbrev main_call7_v4 : Ref sig .tc := ⟨.hbm, 116, rfl⟩
abbrev main_call7_v5 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x4096x2048 : Shape := ⟨3, ![2, 4096, 2048]⟩
abbrev S4x2048x6696 : Shape := ⟨3, ![4, 2048, 6696]⟩
abbrev S8192x2048 : Shape := ⟨2, ![8192, 2048]⟩
abbrev S4x2048x1024 : Shape := ⟨3, ![4, 2048, 1024]⟩
abbrev S4x2048x512 : Shape := ⟨3, ![4, 2048, 512]⟩
abbrev S4x2048x24 : Shape := ⟨3, ![4, 2048, 24]⟩
abbrev S4x2048x3072 : Shape := ⟨3, ![4, 2048, 3072]⟩
abbrev S4x2048x16 : Shape := ⟨3, ![4, 2048, 16]⟩
abbrev S_ : Shape := ⟨0, ![]⟩
abbrev S4x2048x472 : Shape := ⟨3, ![4, 2048, 472]⟩
abbrev S4x2048x7168 : Shape := ⟨3, ![4, 2048, 7168]⟩
abbrev S8192x7168 : Shape := ⟨2, ![8192, 7168]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S2x4096x7168 : Shape := ⟨3, ![2, 4096, 7168]⟩
abbrev S2x4096x512 : Shape := ⟨3, ![2, 4096, 512]⟩
abbrev S2x4096x2x2x128 : Shape := ⟨5, ![2, 4096, 2, 2, 128]⟩
abbrev S2x512x512 : Shape := ⟨3, ![2, 512, 512]⟩
abbrev S2x512x2x2x128 : Shape := ⟨5, ![2, 512, 2, 2, 128]⟩
abbrev S2x3x3072 : Shape := ⟨3, ![2, 3, 3072]⟩
abbrev S2x4096x1024 : Shape := ⟨3, ![2, 4096, 1024]⟩
abbrev S2x4096x3072 : Shape := ⟨3, ![2, 4096, 3072]⟩
abbrev S2x4096x24 : Shape := ⟨3, ![2, 4096, 24]⟩
abbrev S2x4096x8 : Shape := ⟨3, ![2, 4096, 8]⟩

abbrev nBuf : Space → Nat
  | .hbm => 31
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S4x2048x6696, .f32⟩
  | .hbm, ⟨2, _⟩ => ⟨S8192x2048, .f32⟩
  | .hbm, ⟨3, _⟩ => ⟨S4x2048x1024, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x24, .f32⟩
  | .hbm, ⟨8, _⟩ => ⟨S4x2048x3072, .f32⟩
  | .hbm, ⟨9, _⟩ => ⟨S4x2048x1024, .f32⟩
  | .hbm, ⟨10, _⟩ => ⟨S4x2048x16, .f32⟩
  | .hbm, ⟨11, _⟩ => ⟨S_, .f32⟩
  | .hbm, ⟨12, _⟩ => ⟨S4x2048x472, .f32⟩
  | .hbm, ⟨13, _⟩ => ⟨S4x2048x7168, .f32⟩
  | .hbm, ⟨14, _⟩ => ⟨S4x2048x7168, .bf16⟩
  | .hbm, ⟨15, _⟩ => ⟨S8192x7168, .f32⟩
  | .hbm, ⟨16, _⟩ => ⟨S2x4096x7168, .f32⟩
  | .hbm, ⟨17, _⟩ => ⟨S2x4096x512, .f32⟩
  | .hbm, ⟨18, _⟩ => ⟨S2x4096x2x2x128, .f32⟩
  | .hbm, ⟨19, _⟩ => ⟨S2x4096x512, .f32⟩
  | .hbm, ⟨20, _⟩ => ⟨S2x4096x2x2x128, .f32⟩
  | .hbm, ⟨21, _⟩ => ⟨S2x512x512, .f32⟩
  | .hbm, ⟨22, _⟩ => ⟨S2x512x2x2x128, .f32⟩
  | .hbm, ⟨23, _⟩ => ⟨S2x3x3072, .f32⟩
  | .hbm, ⟨24, _⟩ => ⟨S2x4096x1024, .f32⟩
  | .hbm, ⟨25, _⟩ => ⟨S2x4096x512, .f32⟩
  | .hbm, ⟨26, _⟩ => ⟨S2x4096x3072, .f32⟩
  | .hbm, ⟨27, _⟩ => ⟨S2x4096x1024, .f32⟩
  | .hbm, ⟨28, _⟩ => ⟨S2x4096x24, .f32⟩
  | .hbm, ⟨29, _⟩ => ⟨S2x4096x8, .f32⟩
  | .hbm, ⟨30, _⟩ => ⟨S2x4096x8, .f32⟩
  | .local _ .vmem, ⟨0, _⟩ => ⟨S1024x2048, .f32⟩
  | .local _ .vmem, ⟨1, _⟩ => ⟨S1024x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x4096x2048 : Shape := ⟨3, ![2, 4096, 2048]⟩
abbrev S4x2048x6696 : Shape := ⟨3, ![4, 2048, 6696]⟩
abbrev S1x2048x6696 : Shape := ⟨3, ![1, 2048, 6696]⟩
abbrev S2048x6696 : Shape := ⟨2, ![2048, 6696]⟩
abbrev S2x4096x6696 : Shape := ⟨3, ![2, 4096, 6696]⟩
abbrev S2x4096x1024 : Shape := ⟨3, ![2, 4096, 1024]⟩
abbrev S2x4096x512 : Shape := ⟨3, ![2, 4096, 512]⟩
abbrev S2x4096x24 : Shape := ⟨3, ![2, 4096, 24]⟩
abbrev S2x4096x3072 : Shape := ⟨3, ![2, 4096, 3072]⟩
abbrev S2x4096x8 : Shape := ⟨3, ![2, 4096, 8]⟩
abbrev S2x512x512 : Shape := ⟨3, ![2, 512, 512]⟩
abbrev S2x4096x2x2x128 : Shape := ⟨5, ![2, 4096, 2, 2, 128]⟩
abbrev S2x512x2x2x128 : Shape := ⟨5, ![2, 512, 2, 2, 128]⟩
abbrev S2x3x3072 : Shape := ⟨3, ![2, 3, 3072]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048x6696, .f32⟩
  | .hbm, ⟨2, _⟩ => ⟨S1x2048x6696, .f32⟩
  | .hbm, ⟨3, _⟩ => ⟨S2048x6696, .f32⟩
  | .hbm, ⟨4, _⟩ => ⟨S2x4096x6696, .f32⟩
  | .hbm, ⟨5, _⟩ => ⟨S2x4096x1024, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4096x24, .f32⟩
  | .hbm, ⟨10, _⟩ => ⟨S2x4096x3072, .f32⟩
  | .hbm, ⟨11, _⟩ => ⟨S2x4096x1024, .f32⟩
  | .hbm, ⟨12, _⟩ => ⟨S2x4096x8, .f32⟩
  | .hbm, ⟨13, _⟩ => ⟨S2x4096x8, .f32⟩
  | .hbm, ⟨14, _⟩ => ⟨S2x512x512, .f32⟩
  | .hbm, ⟨15, _⟩ => ⟨S2x4096x2x2x128, .f32⟩
  | .hbm, ⟨16, _⟩ => ⟨S2x4096x2x2x128, .f32⟩
  | .hbm, ⟨17, _⟩ => ⟨S2x512x2x2x128, .f32⟩
  | .hbm, ⟨18, _⟩ => ⟨S2x3x3072, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Kernel3.lean ====
abbrev S8192x5632 : Shape := ⟨2, ![8192, 5632]⟩
abbrev S4x5632x2048 : Shape := ⟨3, ![4, 5632, 2048]⟩
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S4x2048, .f32⟩
  | .hbm, ⟨4, _⟩ => ⟨S4x2048, .f32⟩
  | .hbm, ⟨5, _⟩ => ⟨S4x5632x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x5632 : Shape := ⟨2, ![8192, 5632]⟩
abbrev S4x5632x2048 : Shape := ⟨3, ![4, 5632, 2048]⟩
abbrev S8192x2048 : Shape := ⟨2, ![8192, 2048]⟩
abbrev S4x2048 : Shape := ⟨2, ![4, 2048]⟩
abbrev S_ : Shape := ⟨0, ![]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S1x5632x2048, .f32⟩
  | .hbm, ⟨10, _⟩ => ⟨S5632x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel4.lean ====
abbrev S8192x1024 : Shape := ⟨2, ![8192, 1024]⟩
abbrev S4x2048x2048 : Shape := ⟨3, ![4, 2048, 2048]⟩
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S256x1024 : Shape := ⟨2, ![256, 1024]⟩
abbrev S1x2048x2048 : Shape := ⟨3, ![1, 2048, 2048]⟩
abbrev S256x2048 : Shape := ⟨2, ![256, 2048]⟩
abbrev S1x1024x2048 : Shape := ⟨3, ![1, 1024, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x2048x2048, .f32⟩
  | .hbm, ⟨3, _⟩ => ⟨S8192x2048, .f32⟩
  | .hbm, ⟨4, _⟩ => ⟨S4x2048, .f32⟩
  | .hbm, ⟨5, _⟩ => ⟨S4x2048, .f32⟩
  | .hbm, ⟨6, _⟩ => ⟨S4x2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x1024 : Shape := ⟨2, ![8192, 1024]⟩
abbrev S4x2048x2048 : Shape := ⟨3, ![4, 2048, 2048]⟩
abbrev S8192x2048 : Shape := ⟨2, ![8192, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x2048x2048, .f32⟩
  | .hbm, ⟨3, _⟩ => ⟨S8192x2048, .f32⟩
  | .hbm, ⟨4, _⟩ => ⟨S4x2048, .f32⟩
  | .hbm, ⟨5, _⟩ => ⟨S4x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S1x2048x2048, .f32⟩
  | .hbm, ⟨10, _⟩ => ⟨S2048x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel5.lean ====
abbrev S8192x2048 : Shape := ⟨2, ![8192, 2048]⟩
abbrev S4x2048x11264 : Shape := ⟨3, ![4, 2048, 11264]⟩
abbrev S4x3x5632 : Shape := ⟨3, ![4, 3, 5632]⟩
abbrev S1x3x5632 : Shape := ⟨3, ![1, 3, 5632]⟩
abbrev S3x5632 : Shape := ⟨2, ![3, 5632]⟩
abbrev S8192x5632 : Shape := ⟨2, ![8192, 5632]⟩
abbrev S2x8x5632 : Shape := ⟨3, ![2, 8, 5632]⟩
abbrev S512x2048 : Shape := ⟨2, ![512, 2048]⟩
abbrev S1x2048x2816 : Shape := ⟨3, ![1, 2048, 2816]⟩
abbrev S3x2816 : Shape := ⟨2, ![3, 2816]⟩
abbrev S512x2816 : Shape := ⟨2, ![512, 2816]⟩
abbrev S1x8x2816 : Shape := ⟨3, ![1, 8, 2816]⟩
abbrev S8x2816 : Shape := ⟨2, ![8, 2816]⟩
abbrev S1x2048x256 : Shape := ⟨3, ![1, 2048, 256]⟩
abbrev S2048x256 : Shape := ⟨2, ![2048, 256]⟩
abbrev S512x256 : Shape := ⟨2, ![512, 256]⟩
abbrev S8x256 : Shape := ⟨2, ![8, 256]⟩
abbrev S3x256 : Shape := ⟨2, ![3, 256]⟩
abbrev S520x256 : Shape := ⟨2, ![520, 256]⟩
abbrev S1x256 : Shape := ⟨2, ![1, 256]⟩
abbrev S1x8x256 : Shape := ⟨3, ![1, 8, 256]⟩
abbrev S2x2x5632 : Shape := ⟨3, ![2, 2, 5632]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S4x3x5632, .f32⟩
  | .hbm, ⟨3, _⟩ => ⟨S4x2048x11264, .bf16⟩
  | .hbm, ⟨4, _⟩ => ⟨S1x3x5632, .f32⟩
  | .hbm, ⟨5, _⟩ => ⟨S3x5632, .f32⟩
  | .hbm, ⟨6, _⟩ => ⟨S8192x5632, .bf16⟩
  | .hbm, ⟨7, _⟩ => ⟨S2x8x5632, .f32⟩
  | .hbm, ⟨8, _⟩ => ⟨S2x2x5632, .f32⟩
  | .local _ .vmem, ⟨0, _⟩ => ⟨S512x2048, .bf16⟩
  | .local _ .vmem, ⟨1, _⟩ => ⟨S512x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S3x2816, .f32⟩
  | .local _ .vmem, ⟨5, _⟩ => ⟨S3x2816, .f32⟩
  | .local _ .vmem, ⟨6, _⟩ => ⟨S512x2816, .bf16⟩
  | .local _ .vmem, ⟨7, _⟩ => ⟨S512x2816, .bf16⟩
  | .local _ .vmem, ⟨8, _⟩ => ⟨S1x8x2816, .f32⟩
  | .local _ .vmem, ⟨9, _⟩ => ⟨S1x8x2816, .f32⟩
  | .local _ .vmem, ⟨10, _⟩ => ⟨S8x2816, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S3x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2048 : Shape := ⟨2, ![8192, 2048]⟩
abbrev S4x2048x11264 : Shape := ⟨3, ![4, 2048, 11264]⟩
abbrev S4x3x5632 : Shape := ⟨3, ![4, 3, 5632]⟩
abbrev S2x4096x2048 : Shape := ⟨3, ![2, 4096, 2048]⟩
abbrev S1x2048x11264 : Shape := ⟨3, ![1, 2048, 11264]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S_ : Shape := ⟨0, ![]⟩
abbrev S2x2x5632 : Shape := ⟨3, ![2, 2, 5632]⟩
abbrev S2x4098x5632 : Shape := ⟨3, ![2, 4098, 5632]⟩
abbrev S1x1x5632 : Shape := ⟨3, ![1, 1, 5632]⟩
abbrev S5632 : Shape := ⟨1, ![5632]⟩
abbrev S8192x5632 : Shape := ⟨2, ![8192, 5632]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S4x3x5632, .f32⟩
  | .hbm, ⟨3, _⟩ => ⟨S8192x2048, .f32⟩
  | .hbm, ⟨4, _⟩ => ⟨S2x4096x2048, .f32⟩
  | .hbm, ⟨5, _⟩ => ⟨S1x2048x11264, .f32⟩
  | .hbm, ⟨6, _⟩ => ⟨S2048x11264, .f32⟩
  | .hbm, ⟨7, _⟩ => ⟨S2x4096x11264, .f32⟩
  | .hbm, ⟨8, _⟩ => ⟨S2x4096x5632, .f32⟩
  | .hbm, ⟨9, _⟩ => ⟨S2x4096x5632, .f32⟩
  | .hbm, ⟨10, _⟩ => ⟨S_, .f32⟩
  | .hbm, ⟨11, _⟩ => ⟨S2x2x5632, .f32⟩
  | .hbm, ⟨12, _⟩ => ⟨S2x4098x5632, .f32⟩
  | .hbm, ⟨13, _⟩ => ⟨S2x4096x5632, .f32⟩
  | .hbm, ⟨14, _⟩ => ⟨S1x1x5632, .f32⟩
  | .hbm, ⟨15, _⟩ => ⟨S5632, .f32⟩
  | .hbm, ⟨16, _⟩ => ⟨S1x1x5632, .f32⟩
  | .hbm, ⟨17, _⟩ => ⟨S2x4096x5632, .f32⟩
  | .hbm, ⟨18, _⟩ => ⟨S2x4096x5632, .f32⟩
  | .hbm, ⟨19, _⟩ => ⟨S_, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S1x1x5632, .f32⟩
  | .hbm, ⟨24, _⟩ => ⟨S5632, .f32⟩
  | .hbm, ⟨25, _⟩ => ⟨S1x1x5632, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S1x1x5632, .f32⟩
  | .hbm, ⟨31, _⟩ => ⟨S5632, .f32⟩
  | .hbm, ⟨32, _⟩ => ⟨S1x1x5632, .f32⟩
  | .hbm, ⟨33, _⟩ => ⟨S2x4096x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S_, .f32⟩
  | .hbm, ⟨39, _⟩ => ⟨S2x4096x5632, .f32⟩
  | .hbm, ⟨40, _⟩ => ⟨S2x4096x5632, .f32⟩
  | .hbm, ⟨41, _⟩ => ⟨S2x4096x5632, .f32⟩
  | .hbm, ⟨42, _⟩ => ⟨S_, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S_, .f32⟩
  | .hbm, ⟨47, _⟩ => ⟨S2x4096x5632, .f32⟩
  | .hbm, ⟨48, _⟩ => ⟨S2x4096x5632, .f32⟩
  | .hbm, ⟨49, _⟩ => ⟨S_, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S2x4096x5632, .f32⟩
  | .hbm, ⟨54, _⟩ => ⟨S2x4096x5632, .bf16⟩
  | .hbm, ⟨55, _⟩ => ⟨S8192x5632, .bf16⟩
  | .hbm, ⟨56, _⟩ => ⟨S2x2x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel6.lean ====
abbrev S8x4x2048 : Shape := ⟨3, ![8, 4, 2048]⟩
abbrev S4x8x3x3072 : Shape := ⟨4, ![4, 8, 3, 3072]⟩
abbrev S4x2048x6696 : Shape := ⟨3, ![4, 2048, 6696]⟩
abbrev S_ : Shape := ⟨0, ![]⟩
abbrev S8x16x2048 : Shape := ⟨3, ![8, 16, 2048]⟩
abbrev S1 : Shape := ⟨1, ![1]⟩
abbrev S128x2048 : Shape := ⟨2, ![128, 2048]⟩
abbrev S4x2048x1024 : Shape := ⟨3, ![4, 2048, 1024]⟩
abbrev S4x2048x512 : Shape := ⟨3, ![4, 2048, 512]⟩
abbrev S4x2048x24 : Shape := ⟨3, ![4, 2048, 24]⟩
abbrev S4x2048x3072 : Shape := ⟨3, ![4, 2048, 3072]⟩
abbrev S4x2048x16 : Shape := ⟨3, ![4, 2048, 16]⟩
abbrev S4x2048x472 : Shape := ⟨3, ![4, 2048, 472]⟩
abbrev S4x2048x7168 : Shape := ⟨3, ![4, 2048, 7168]⟩
abbrev S128x7168 : Shape := ⟨2, ![128, 7168]⟩
abbrev S1x2048x1024 : Shape := ⟨3, ![1, 2048, 1024]⟩
abbrev S128x1024 : Shape := ⟨2, ![128, 1024]⟩
abbrev S2048x1024 : Shape := ⟨2, ![2048, 1024]⟩
abbrev S8x16x7168 : Shape := ⟨3, ![8, 16, 7168]⟩
abbrev S8x4x7168 : Shape := ⟨3, ![8, 4, 7168]⟩
abbrev S8x4x512 : Shape := ⟨3, ![8, 4, 512]⟩
abbrev S8x4x2x2x128 : Shape := ⟨5, ![8, 4, 2, 2, 128]⟩
abbrev S1x8x3x3072 : Shape := ⟨4, ![1, 8, 3, 3072]⟩
abbrev S8x3x3072 : Shape := ⟨3, ![8, 3, 3072]⟩
abbrev S8x4x3072 : Shape := ⟨3, ![8, 4, 3072]⟩
abbrev S8x7x3072 : Shape := ⟨3, ![8, 7, 3072]⟩
abbrev S8x4x1024 : Shape := ⟨3, ![8, 4, 1024]⟩
abbrev S8x4x24 : Shape := ⟨3, ![8, 4, 24]⟩
abbrev S8x4x8 : Shape := ⟨3, ![8, 4, 8]⟩

abbrev nBuf : Space → Nat
  | .hbm => 40
  | .vmem => 5
  | .smem => 0
  | _ => 0

abbrev bufTy : (tb : Table) → Fin (tcTables nBuf tb) → BufTy
  | .hbm, ⟨0, _⟩ => ⟨S8x4x2048, .f32⟩
  | .hbm, ⟨1, _⟩ => ⟨S4x8x3x3072, .f32⟩
  | .hbm, ⟨2, _⟩ => ⟨S4x2048x6696, .f32⟩
  | .hbm, ⟨3, _⟩ => ⟨S_, .f32⟩
  | .hbm, ⟨4, _⟩ => ⟨S8x16x2048, .f32⟩
  | .hbm, ⟨5, _⟩ => ⟨S_, .i32⟩
  | .hbm, ⟨6, _⟩ => ⟨S1, .i32⟩
  | .hbm, ⟨7, _⟩ => ⟨S8x16x2048, .f32⟩
  | .hbm, ⟨8, _⟩ => ⟨S128x2048, .f32⟩
  | .hbm, ⟨9, _⟩ => ⟨S4x2048x1024, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x24, .f32⟩
  | .hbm, ⟨14, _⟩ => ⟨S4x2048x3072, .f32⟩
  | .hbm, ⟨15, _⟩ => ⟨S4x2048x1024, .f32⟩
  | .hbm, ⟨16, _⟩ => ⟨S4x2048x16, .f32⟩
  | .hbm, ⟨17, _⟩ => ⟨S_, .f32⟩
  | .hbm, ⟨18, _⟩ => ⟨S4x2048x472, .f32⟩
  | .hbm, ⟨19, _⟩ => ⟨S4x2048x7168, .f32⟩
  | .hbm, ⟨20, _⟩ => ⟨S4x2048x7168, .bf16⟩
  | .hbm, ⟨21, _⟩ => ⟨S128x7168, .f32⟩
  | .hbm, ⟨22, _⟩ => ⟨S8x16x7168, .f32⟩
  | .hbm, ⟨23, _⟩ => ⟨S8x4x7168, .f32⟩
  | .hbm, ⟨24, _⟩ => ⟨S8x4x512, .f32⟩
  | .hbm, ⟨25, _⟩ => ⟨S8x4x2x2x128, .f32⟩
  | .hbm, ⟨26, _⟩ => ⟨S8x4x512, .f32⟩
  | .hbm, ⟨27, _⟩ => ⟨S8x4x2x2x128, .f32⟩
  | .hbm, ⟨28, _⟩ => ⟨S1x8x3x3072, .f32⟩
  | .hbm, ⟨29, _⟩ => ⟨S8x3x3072, .f32⟩
  | .hbm, ⟨30, _⟩ => ⟨S8x4x3072, .f32⟩
  | .hbm, ⟨31, _⟩ => ⟨S8x7x3072, .f32⟩
  | .hbm, ⟨32, _⟩ => ⟨S8x4x1024, .f32⟩
  | .hbm, ⟨33, _⟩ => ⟨S8x4x512, .f32⟩
  | .hbm, ⟨34, _⟩ => ⟨S8x4x3072, .f32⟩
  | .hbm, ⟨35, _⟩ => ⟨S8x4x1024, .f32⟩
  | .hbm, ⟨36, _⟩ => ⟨S8x4x24, .f32⟩
  | .hbm, ⟨37, _⟩ => ⟨S8x4x8, .f32⟩
  | .hbm, ⟨38, _⟩ => ⟨S8x4x8, .f32⟩
  | .hbm, ⟨39, _⟩ => ⟨S8x3x3072, .f32⟩
  | .local _ .vmem, ⟨0, _⟩ => ⟨S128x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S128x1024, .f32⟩
  | .local _ .vmem, ⟨4, _⟩ => ⟨S128x1024, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x4x2048 : Shape := ⟨3, ![8, 4, 2048]⟩
abbrev S4x8x3x3072 : Shape := ⟨4, ![4, 8, 3, 3072]⟩
abbrev S4x2048x6696 : Shape := ⟨3, ![4, 2048, 6696]⟩
abbrev S1x2048x6696 : Shape := ⟨3, ![1, 2048, 6696]⟩
abbrev S2048x6696 : Shape := ⟨2, ![2048, 6696]⟩
abbrev S8x4x6696 : Shape := ⟨3, ![8, 4, 6696]⟩
abbrev S8x4x1024 : Shape := ⟨3, ![8, 4, 1024]⟩
abbrev S8x4x512 : Shape := ⟨3, ![8, 4, 512]⟩
abbrev S8x4x24 : Shape := ⟨3, ![8, 4, 24]⟩
abbrev S8x4x3072 : Shape := ⟨3, ![8, 4, 3072]⟩
abbrev S8x4x8 : Shape := ⟨3, ![8, 4, 8]⟩
abbrev S8x4x2x2x128 : Shape := ⟨5, ![8, 4, 2, 2, 128]⟩
abbrev S1x8x3x3072 : Shape := ⟨4, ![1, 8, 3, 3072]⟩
abbrev S8x3x3072 : Shape := ⟨3, ![8, 3, 3072]⟩
abbrev S8x7x3072 : Shape := ⟨3, ![8, 7, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S4x8x3x3072, .f32⟩
  | .hbm, ⟨2, _⟩ => ⟨S4x2048x6696, .f32⟩
  | .hbm, ⟨3, _⟩ => ⟨S1x2048x6696, .f32⟩
  | .hbm, ⟨4, _⟩ => ⟨S2048x6696, .f32⟩
  | .hbm, ⟨5, _⟩ => ⟨S8x4x6696, .f32⟩
  | .hbm, ⟨6, _⟩ => ⟨S8x4x1024, .f32⟩
  | .hbm, ⟨7, _⟩ => ⟨S8x4x512, .f32⟩
  | .hbm, ⟨8, _⟩ => ⟨S8x4x512, .f32⟩
  | .hbm, ⟨9, _⟩ => ⟨S8x4x512, .f32⟩
  | .hbm, ⟨10, _⟩ => ⟨S8x4x24, .f32⟩
  | .hbm, ⟨11, _⟩ => ⟨S8x4x3072, .f32⟩
  | .hbm, ⟨12, _⟩ => ⟨S8x4x1024, .f32⟩
  | .hbm, ⟨13, _⟩ => ⟨S8x4x8, .f32⟩
  | .hbm, ⟨14, _⟩ => ⟨S8x4x8, .f32⟩
  | .hbm, ⟨15, _⟩ => ⟨S8x4x2x2x128, .f32⟩
  | .hbm, ⟨16, _⟩ => ⟨S8x4x2x2x128, .f32⟩
  | .hbm, ⟨17, _⟩ => ⟨S1x8x3x3072, .f32⟩
  | .hbm, ⟨18, _⟩ => ⟨S8x3x3072, .f32⟩
  | .hbm, ⟨19, _⟩ => ⟨S8x7x3072, .f32⟩
  | .hbm, ⟨20, _⟩ => ⟨S8x3x3072, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel7.lean ====
abbrev S8x4x5632 : Shape := ⟨3, ![8, 4, 5632]⟩
abbrev S4x5632x2048 : Shape := ⟨3, ![4, 5632, 2048]⟩
abbrev S8x4x2048 : Shape := ⟨3, ![8, 4, 2048]⟩
abbrev S4x2048 : Shape := ⟨2, ![4, 2048]⟩
abbrev S_ : Shape := ⟨0, ![]⟩
abbrev S8x16x5632 : Shape := ⟨3, ![8, 16, 5632]⟩
abbrev S1 : Shape := ⟨1, ![1]⟩
abbrev S128x5632 : Shape := ⟨2, ![128, 5632]⟩
abbrev S8x16x2048 : Shape := ⟨3, ![8, 16, 2048]⟩
abbrev S128x2048 : Shape := ⟨2, ![128, 2048]⟩
abbrev S1x2048 : Shape := ⟨2, ![1, 2048]⟩
abbrev S2048 : Shape := ⟨1, ![2048]⟩
abbrev S128x1408 : Shape := ⟨2, ![128, 1408]⟩
abbrev S1x1408x2048 : Shape := ⟨3, ![1, 1408, 2048]⟩
abbrev S1408x2048 : Shape := ⟨2, ![1408, 2048]⟩
abbrev S128 : Shape := ⟨1, ![128]⟩
abbrev S128x1 : Shape := ⟨2, ![128, 1]⟩

abbrev nBuf : Space → Nat
  | .hbm => 30
  | .vmem => 10
  | .smem => 0
  | _ => 0

abbrev bufTy : (tb : Table) → Fin (tcTables nBuf tb) → BufTy
  | .hbm, ⟨0, _⟩ => ⟨S8x4x5632, .bf16⟩
  | .hbm, ⟨1, _⟩ => ⟨S4x5632x2048, .f32⟩
  | .hbm, ⟨2, _⟩ => ⟨S8x4x2048, .f32⟩
  | .hbm, ⟨3, _⟩ => ⟨S4x2048, .f32⟩
  | .hbm, ⟨4, _⟩ => ⟨S4x2048, .f32⟩
  | .hbm, ⟨5, _⟩ => ⟨S_, .bf16⟩
  | .hbm, ⟨6, _⟩ => ⟨S8x16x5632, .bf16⟩
  | .hbm, ⟨7, _⟩ => ⟨S_, .i32⟩
  | .hbm, ⟨8, _⟩ => ⟨S1, .i32⟩
  | .hbm, ⟨9, _⟩ => ⟨S8x16x5632, .bf16⟩
  | .hbm, ⟨10, _⟩ => ⟨S128x5632, .bf16⟩
  | .hbm, ⟨11, _⟩ => ⟨S4x5632x2048, .bf16⟩
  | .hbm, ⟨12, _⟩ => ⟨S_, .f32⟩
  | .hbm, ⟨13, _⟩ => ⟨S8x16x2048, .f32⟩
  | .hbm, ⟨14, _⟩ => ⟨S_, .i32⟩
  | .hbm, ⟨15, _⟩ => ⟨S1, .i32⟩
  | .hbm, ⟨16, _⟩ => ⟨S8x16x2048, .f32⟩
  | .hbm, ⟨17, _⟩ => ⟨S128x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S128x2048, .f32⟩
  | .hbm, ⟨25, _⟩ => ⟨S128x2048, .bf16⟩
  | .hbm, ⟨26, _⟩ => ⟨S8x16x2048, .f32⟩
  | .hbm, ⟨27, _⟩ => ⟨S8x4x2048, .f32⟩
  | .hbm, ⟨28, _⟩ => ⟨S8x16x2048, .bf16⟩
  | .hbm, ⟨29, _⟩ => ⟨S8x4x2048, .bf16⟩
  | .local _ .vmem, ⟨0, _⟩ => ⟨S128x1408, .bf16⟩
  | .local _ .vmem, ⟨1, _⟩ => ⟨S128x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S128x2048, .f32⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .f32⟩
  | _, _ => ⟨S8x4x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S8x4x5632 : Shape := ⟨3, ![8, 4, 5632]⟩
abbrev S4x5632x2048 : Shape := ⟨3, ![4, 5632, 2048]⟩
abbrev S8x4x2048 : Shape := ⟨3, ![8, 4, 2048]⟩
abbrev S4x2048 : Shape := ⟨2, ![4, 2048]⟩
abbrev S_ : Shape := ⟨0, ![]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S8x4 : Shape := ⟨2, ![8, 4]⟩
abbrev S8x4x1 : Shape := ⟨3, ![8, 4, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x4x5632, .bf16⟩
  | .hbm, ⟨1, _⟩ => ⟨S4x5632x2048, .f32⟩
  | .hbm, ⟨2, _⟩ => ⟨S8x4x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S8x4x2048, .f32⟩
  | .hbm, ⟨7, _⟩ => ⟨S8x4x2048, .f32⟩
  | .hbm, ⟨8, _⟩ => ⟨S8x4x5632, .f32⟩
  | .hbm, ⟨9, _⟩ => ⟨S1x5632x2048, .f32⟩
  | .hbm, ⟨10, _⟩ => ⟨S5632x2048, .f32⟩
  | .hbm, ⟨11, _⟩ => ⟨S8x4x2048, .f32⟩
  | .hbm, ⟨12, _⟩ => ⟨S8x4x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S8x4, .f32⟩
  | .hbm, ⟨19, _⟩ => ⟨S8x4x1, .f32⟩
  | .hbm, ⟨20, _⟩ => ⟨S_, .f32⟩
  | .hbm, ⟨21, _⟩ => ⟨S8x4x1, .f32⟩
  | .hbm, ⟨22, _⟩ => ⟨S8x4x1, .f32⟩
  | .hbm, ⟨23, _⟩ => ⟨S8x4x2048, .f32⟩
  | .hbm, ⟨24, _⟩ => ⟨S8x4x2048, .f32⟩
  | .hbm, ⟨25, _⟩ => ⟨S8x4x2048, .f32⟩
  | .hbm, ⟨26, _⟩ => ⟨S_, .f32⟩
  | .hbm, ⟨27, _⟩ => ⟨S8x4, .f32⟩
  | .hbm, ⟨28, _⟩ => ⟨S8x4x1, .f32⟩
  | .hbm, ⟨29, _⟩ => ⟨S_, .f32⟩
  | .hbm, ⟨30, _⟩ => ⟨S8x4x1, .f32⟩
  | .hbm, ⟨31, _⟩ => ⟨S8x4x1, .f32⟩
  | .hbm, ⟨32, _⟩ => ⟨S8x4x2048, .f32⟩
  | .hbm, ⟨33, _⟩ => ⟨S8x4x2048, .f32⟩
  | .hbm, ⟨34, _⟩ => ⟨S_, .f32⟩
  | .hbm, ⟨35, _⟩ => ⟨S8x4x1, .f32⟩
  | .hbm, ⟨36, _⟩ => ⟨S8x4x1, .f32⟩
  | .hbm, ⟨37, _⟩ => ⟨S8x4x1, .f32⟩
  | .hbm, ⟨38, _⟩ => ⟨S8x4x2048, .f32⟩
  | .hbm, ⟨39, _⟩ => ⟨S8x4x2048, .f32⟩
  | .hbm, ⟨40, _⟩ => ⟨S1x1x2048, .f32⟩
  | .hbm, ⟨41, _⟩ => ⟨S8x4x2048, .f32⟩
  | .hbm, ⟨42, _⟩ => ⟨S8x4x2048, .f32⟩
  | .hbm, ⟨43, _⟩ => ⟨S1x1x2048, .f32⟩
  | .hbm, ⟨44, _⟩ => ⟨S8x4x2048, .f32⟩
  | .hbm, ⟨45, _⟩ => ⟨S8x4x2048, .f32⟩
  | .hbm, ⟨46, _⟩ => ⟨S8x4x2048, .bf16⟩
  | _, _ => ⟨S8x4x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel8.lean ====
abbrev S8x4x2048 : Shape := ⟨3, ![8, 4, 2048]⟩
abbrev S4x2048x11264 : Shape := ⟨3, ![4, 2048, 11264]⟩
abbrev S4x3x5632 : Shape := ⟨3, ![4, 3, 5632]⟩
abbrev S4x8x2x5632 : Shape := ⟨4, ![4, 8, 2, 5632]⟩
abbrev S_ : Shape := ⟨0, ![]⟩
abbrev S8x16x2048 : Shape := ⟨3, ![8, 16, 2048]⟩
abbrev S1 : Shape := ⟨1, ![1]⟩
abbrev S128x2048 : Shape := ⟨2, ![128, 2048]⟩
abbrev S1x3x5632 : Shape := ⟨3, ![1, 3, 5632]⟩
abbrev S3x5632 : Shape := ⟨2, ![3, 5632]⟩
abbrev S1x8x2x5632 : Shape := ⟨4, ![1, 8, 2, 5632]⟩
abbrev S8x2x5632 : Shape := ⟨3, ![8, 2, 5632]⟩
abbrev S8x16x5632 : Shape := ⟨3, ![8, 16, 5632]⟩
abbrev S128x5632 : Shape := ⟨2, ![128, 5632]⟩
abbrev S1x2048x1408 : Shape := ⟨3, ![1, 2048, 1408]⟩
abbrev S3x1408 : Shape := ⟨2, ![3, 1408]⟩
abbrev S128x1408 : Shape := ⟨2, ![128, 1408]⟩
abbrev S128x1 : Shape := ⟨2, ![128, 1]⟩
abbrev S1x2048x256 : Shape := ⟨3, ![1, 2048, 256]⟩
abbrev S2048x256 : Shape := ⟨2, ![2048, 256]⟩
abbrev S128x256 : Shape := ⟨2, ![128, 256]⟩
abbrev S3x256 : Shape := ⟨2, ![3, 256]⟩
abbrev S1x256 : Shape := ⟨2, ![1, 256]⟩
abbrev S1x2048x128 : Shape := ⟨3, ![1, 2048, 128]⟩
abbrev S2048x128 : Shape := ⟨2, ![2048, 128]⟩
abbrev S128x128 : Shape := ⟨2, ![128, 128]⟩
abbrev S3x128 : Shape := ⟨2, ![3, 128]⟩
abbrev S1x128 : Shape := ⟨2, ![1, 128]⟩
abbrev S8x4x5632 : Shape := ⟨3, ![8, 4, 5632]⟩
abbrev S8x6x5632 : Shape := ⟨3, ![8, 6, 5632]⟩

abbrev nBuf : Space → Nat
  | .hbm => 31
  | .vmem => 13
  | .smem => 0
  | _ => 0

abbrev bufTy : (tb : Table) → Fin (tcTables nBuf tb) → BufTy
  | .hbm, ⟨0, _⟩ => ⟨S8x4x2048, .bf16⟩
  | .hbm, ⟨1, _⟩ => ⟨S4x2048x11264, .f32⟩
  | .hbm, ⟨2, _⟩ => ⟨S4x3x5632, .f32⟩
  | .hbm, ⟨3, _⟩ => ⟨S4x8x2x5632, .f32⟩
  | .hbm, ⟨4, _⟩ => ⟨S_, .bf16⟩
  | .hbm, ⟨5, _⟩ => ⟨S8x16x2048, .bf16⟩
  | .hbm, ⟨6, _⟩ => ⟨S_, .i32⟩
  | .hbm, ⟨7, _⟩ => ⟨S1, .i32⟩
  | .hbm, ⟨8, _⟩ => ⟨S8x16x2048, .bf16⟩
  | .hbm, ⟨9, _⟩ => ⟨S128x2048, .bf16⟩
  | .hbm, ⟨10, _⟩ => ⟨S4x2048x11264, .bf16⟩
  | .hbm, ⟨11, _⟩ => ⟨S1x3x5632, .f32⟩
  | .hbm, ⟨12, _⟩ => ⟨S3x5632, .f32⟩
  | .hbm, ⟨13, _⟩ => ⟨S1x8x2x5632, .f32⟩
  | .hbm, ⟨14, _⟩ => ⟨S8x2x5632, .f32⟩
  | .hbm, ⟨15, _⟩ => ⟨S_, .f32⟩
  | .hbm, ⟨16, _⟩ => ⟨S8x16x5632, .f32⟩
  | .hbm, ⟨17, _⟩ => ⟨S_, .i32⟩
  | .hbm, ⟨18, _⟩ => ⟨S1, .i32⟩
  | .hbm, ⟨19, _⟩ => ⟨S8x16x5632, .f32⟩
  | .hbm, ⟨20, _⟩ => ⟨S128x5632, .f32⟩
  | .hbm, ⟨21, _⟩ => ⟨S128x5632, .bf16⟩
  | .hbm, ⟨22, _⟩ => ⟨S128x5632, .f32⟩
  | .hbm, ⟨23, _⟩ => ⟨S8x16x5632, .bf16⟩
  | .hbm, ⟨24, _⟩ => ⟨S8x4x5632, .bf16⟩
  | .hbm, ⟨25, _⟩ => ⟨S8x16x5632, .f32⟩
  | .hbm, ⟨26, _⟩ => ⟨S8x4x5632, .f32⟩
  | .hbm, ⟨27, _⟩ => ⟨S1x8x2x5632, .f32⟩
  | .hbm, ⟨28, _⟩ => ⟨S8x2x5632, .f32⟩
  | .hbm, ⟨29, _⟩ => ⟨S8x6x5632, .f32⟩
  | .hbm, ⟨30, _⟩ => ⟨S8x2x5632, .f32⟩
  | .local _ .vmem, ⟨0, _⟩ => ⟨S128x2048, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S3x1408, .f32⟩
  | .local _ .vmem, ⟨6, _⟩ => ⟨S3x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .bf16⟩
  | .local _ .vmem, ⟨10, _⟩ => ⟨S128x1408, .bf16⟩
  | .local _ .vmem, ⟨11, _⟩ => ⟨S128x1408, .f32⟩
  | .local _ .vmem, ⟨12, _⟩ => ⟨S128x1408, .f32⟩
  | _, _ => ⟨S8x4x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8x4x2048 : Shape := ⟨3, ![8, 4, 2048]⟩
abbrev S4x2048x11264 : Shape := ⟨3, ![4, 2048, 11264]⟩
abbrev S4x3x5632 : Shape := ⟨3, ![4, 3, 5632]⟩
abbrev S4x8x2x5632 : Shape := ⟨4, ![4, 8, 2, 5632]⟩
abbrev S1x2048x11264 : Shape := ⟨3, ![1, 2048, 11264]⟩
abbrev S2048x11264 : Shape := ⟨2, ![2048, 11264]⟩
abbrev S8x4x11264 : Shape := ⟨3, ![8, 4, 11264]⟩
abbrev S8x4x5632 : Shape := ⟨3, ![8, 4, 5632]⟩
abbrev S1x8x2x5632 : Shape := ⟨4, ![1, 8, 2, 5632]⟩
abbrev S8x2x5632 : Shape := ⟨3, ![8, 2, 5632]⟩
abbrev S8x6x5632 : Shape := ⟨3, ![8, 6, 5632]⟩
abbrev S1x1x5632 : Shape := ⟨3, ![1, 1, 5632]⟩
abbrev S5632 : Shape := ⟨1, ![5632]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8x4x2048, .bf16⟩
  | .hbm, ⟨1, _⟩ => ⟨S4x2048x11264, .f32⟩
  | .hbm, ⟨2, _⟩ => ⟨S4x3x5632, .f32⟩
  | .hbm, ⟨3, _⟩ => ⟨S4x8x2x5632, .f32⟩
  | .hbm, ⟨4, _⟩ => ⟨S8x4x2048, .f32⟩
  | .hbm, ⟨5, _⟩ => ⟨S1x2048x11264, .f32⟩
  | .hbm, ⟨6, _⟩ => ⟨S2048x11264, .f32⟩
  | .hbm, ⟨7, _⟩ => ⟨S8x4x11264, .f32⟩
  | .hbm, ⟨8, _⟩ => ⟨S8x4x5632, .f32⟩
  | .hbm, ⟨9, _⟩ => ⟨S8x4x5632, .f32⟩
  | .hbm, ⟨10, _⟩ => ⟨S1x8x2x5632, .f32⟩
  | .hbm, ⟨11, _⟩ => ⟨S8x2x5632, .f32⟩
  | .hbm, ⟨12, _⟩ => ⟨S8x6x5632, .f32⟩
  | .hbm, ⟨13, _⟩ => ⟨S8x4x5632, .f32⟩
  | .hbm, ⟨14, _⟩ => ⟨S1x1x5632, .f32⟩
  | .hbm, ⟨15, _⟩ => ⟨S5632, .f32⟩
  | .hbm, ⟨16, _⟩ => ⟨S1x1x5632, .f32⟩
  | .hbm, ⟨17, _⟩ => ⟨S8x4x5632, .f32⟩
  | .hbm, ⟨18, _⟩ => ⟨S8x4x5632, .f32⟩
  | .hbm, ⟨19, _⟩ => ⟨S_, .f32⟩
  | .hbm, ⟨20, _⟩ => ⟨S8x4x5632, .f32⟩
  | .hbm, ⟨21, _⟩ => ⟨S8x4x5632, .f32⟩
  | .hbm, ⟨22, _⟩ => ⟨S8x4x5632, .f32⟩
  | .hbm, ⟨23, _⟩ => ⟨S1x1x5632, .f32⟩
  | .hbm, ⟨24, _⟩ => ⟨S5632, .f32⟩
  | .hbm, ⟨25, _⟩ => ⟨S1x1x5632, .f32⟩
  | .hbm, ⟨26, _⟩ => ⟨S8x4x5632, .f32⟩
  | .hbm, ⟨27, _⟩ => ⟨S8x4x5632, .f32⟩
  | .hbm, ⟨28, _⟩ => ⟨S8x4x5632, .f32⟩
  | .hbm, ⟨29, _⟩ => ⟨S8x4x5632, .f32⟩
  | .hbm, ⟨30, _⟩ => ⟨S1x1x5632, .f32⟩
  | .hbm, ⟨31, _⟩ => ⟨S5632, .f32⟩
  | .hbm, ⟨32, _⟩ => ⟨S1x1x5632, .f32⟩
  | .hbm, ⟨33, _⟩ => ⟨S8x4x5632, .f32⟩
  | .hbm, ⟨34, _⟩ => ⟨S8x4x5632, .f32⟩
  | .hbm, ⟨35, _⟩ => ⟨S8x4x5632, .f32⟩
  | .hbm, ⟨36, _⟩ => ⟨S8x4x5632, .f32⟩
  | .hbm, ⟨37, _⟩ => ⟨S8x4x5632, .f32⟩
  | .hbm, ⟨38, _⟩ => ⟨S_, .f32⟩
  | .hbm, ⟨39, _⟩ => ⟨S8x4x5632, .f32⟩
  | .hbm, ⟨40, _⟩ => ⟨S8x4x5632, .f32⟩
  | .hbm, ⟨41, _⟩ => ⟨S8x4x5632, .f32⟩
  | .hbm, ⟨42, _⟩ => ⟨S_, .f32⟩
  | .hbm, ⟨43, _⟩ => ⟨S8x4x5632, .f32⟩
  | .hbm, ⟨44, _⟩ => ⟨S8x4x5632, .f32⟩
  | .hbm, ⟨45, _⟩ => ⟨S8x4x5632, .f32⟩
  | .hbm, ⟨46, _⟩ => ⟨S_, .f32⟩
  | .hbm, ⟨47, _⟩ => ⟨S8x4x5632, .f32⟩
  | .hbm, ⟨48, _⟩ => ⟨S8x4x5632, .f32⟩
  | .hbm, ⟨49, _⟩ => ⟨S_, .f32⟩
  | .hbm, ⟨50, _⟩ => ⟨S8x4x5632, .f32⟩
  | .hbm, ⟨51, _⟩ => ⟨S8x4x5632, .f32⟩
  | .hbm, ⟨52, _⟩ => ⟨S8x4x5632, .f32⟩
  | .hbm, ⟨53, _⟩ => ⟨S8x4x5632, .f32⟩
  | .hbm, ⟨54, _⟩ => ⟨S8x4x5632, .bf16⟩
  | .hbm, ⟨55, _⟩ => ⟨S8x2x5632, .f32⟩
  | _, _ => ⟨S8x4x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Kernel9.lean ====
abbrev S8x4x1024 : Shape := ⟨3, ![8, 4, 1024]⟩
abbrev S8x4x8x4 : Shape := ⟨4, ![8, 4, 8, 4]⟩
abbrev S8x8 : Shape := ⟨2, ![8, 8]⟩
abbrev S128 : Shape := ⟨1, ![128]⟩
abbrev S8x8x128x128 : Shape := ⟨4, ![8, 8, 128, 128]⟩
abbrev S_ : Shape := ⟨0, ![]⟩
abbrev S8x16x8x16 : Shape := ⟨4, ![8, 16, 8, 16]⟩
abbrev S128x128 : Shape := ⟨2, ![128, 128]⟩
abbrev S8x8x1 : Shape := ⟨3, ![8, 8, 1]⟩
abbrev S8x8x128 : Shape := ⟨3, ![8, 8, 128]⟩
abbrev S8x16x7168 : Shape := ⟨3, ![8, 16, 7168]⟩
abbrev S128x7168 : Shape := ⟨2, ![128, 7168]⟩
abbrev S8x16x1024 : Shape := ⟨3, ![8, 16, 1024]⟩
abbrev S128x1024 : Shape := ⟨2, ![128, 1024]⟩
abbrev S1x128 : Shape := ⟨2, ![1, 128]⟩
abbrev S16x1024 : Shape := ⟨2, ![16, 1024]⟩
abbrev S16x128 : Shape := ⟨2, ![16, 128]⟩
abbrev S1x8x128 : Shape := ⟨3, ![1, 8, 128]⟩
abbrev S1x8x128x128 : Shape := ⟨4, ![1, 8, 128, 128]⟩
abbrev S8x128x128 : Shape := ⟨3, ![8, 128, 128]⟩
abbrev S1x16x128 : Shape := ⟨3, ![1, 16, 128]⟩
abbrev S8x16x128 : Shape := ⟨3, ![8, 16, 128]⟩
abbrev S16x16 : Shape := ⟨2, ![16, 16]⟩
abbrev S1x16x16 : Shape := ⟨3, ![1, 16, 16]⟩
abbrev S8x16x16 : Shape := ⟨3, ![8, 16, 16]⟩
abbrev S1x1x128 : Shape := ⟨3, ![1, 1, 128]⟩
abbrev S8x1x128 : Shape := ⟨3, ![8, 1, 128]⟩
abbrev S8x16 : Shape := ⟨2, ![8, 16]⟩
abbrev S8x16x1 : Shape := ⟨3, ![8, 16, 1]⟩

abbrev nBuf : Space → Nat
  | .hbm => 40
  | .vmem => 22
  | .smem => 0
  | _ => 0

abbrev bufTy : (tb : Table) → Fin (tcTables nBuf tb) → BufTy
  | .hbm, ⟨0, _⟩ => ⟨S8x4x1024, .f32⟩
  | .hbm, ⟨1, _⟩ => ⟨S8x4x1024, .bf16⟩
  | .hbm, ⟨2, _⟩ => ⟨S8x4x1024, .bf16⟩
  | .hbm, ⟨3, _⟩ => ⟨S8x4x1024, .bf16⟩
  | .hbm, ⟨4, _⟩ => ⟨S8x4x8x4, .bf16⟩
  | .hbm, ⟨5, _⟩ => ⟨S8x8, .f32⟩
  | .hbm, ⟨6, _⟩ => ⟨S8x4x1024, .f32⟩
  | .hbm, ⟨7, _⟩ => ⟨S128, .f32⟩
  | .hbm, ⟨8, _⟩ => ⟨S8x8x128x128, .f32⟩
  | .hbm, ⟨9, _⟩ => ⟨S_, .i32⟩
  | .hbm, ⟨10, _⟩ => ⟨S_, .bf16⟩
  | .hbm, ⟨11, _⟩ => ⟨S8x16x8x16, .bf16⟩
  | .hbm, ⟨12, _⟩ => ⟨S128x128, .bf16⟩
  | .hbm, ⟨13, _⟩ => ⟨S8x8x1, .f32⟩
  | .hbm, ⟨14, _⟩ => ⟨S8x8x128, .f32⟩
  | .hbm, ⟨15, _⟩ => ⟨S_, .i32⟩
  | .hbm, ⟨16, _⟩ => ⟨S_, .f32⟩
  | .hbm, ⟨17, _⟩ => ⟨S8x16x7168, .f32⟩
  | .hbm, ⟨18, _⟩ => ⟨S128x7168, .f32⟩
  | .hbm, ⟨19, _⟩ => ⟨S_, .i32⟩
  | .hbm, ⟨20, _⟩ => ⟨S_, .f32⟩
  | .hbm, ⟨21, _⟩ => ⟨S8x16x1024, .f32⟩
  | .hbm, ⟨22, _⟩ => ⟨S128x1024, .f32⟩
  | .hbm, ⟨23, _⟩ => ⟨S_, .i32⟩
  | .hbm, ⟨24, _⟩ => ⟨S_, .bf16⟩
  | .hbm, ⟨25, _⟩ => ⟨S8x16x1024, .bf16⟩
  | .hbm, ⟨26, _⟩ => ⟨S128x1024, .bf16⟩
  | .hbm, ⟨27, _⟩ => ⟨S_, .i32⟩
  | .hbm, ⟨28, _⟩ => ⟨S_, .bf16⟩
  | .hbm, ⟨29, _⟩ => ⟨S8x16x1024, .bf16⟩
  | .hbm, ⟨30, _⟩ => ⟨S128x1024, .bf16⟩
  | .hbm, ⟨31, _⟩ => ⟨S_, .i32⟩
  | .hbm, ⟨32, _⟩ => ⟨S_, .bf16⟩
  | .hbm, ⟨33, _⟩ => ⟨S8x16x1024, .bf16⟩
  | .hbm, ⟨34, _⟩ => ⟨S128x1024, .bf16⟩
  | .hbm, ⟨35, _⟩ => ⟨S1x128, .f32⟩
  | .hbm, ⟨36, _⟩ => ⟨S128x1024, .bf16⟩
  | .hbm, ⟨37, _⟩ => ⟨S8x8x128x128, .f32⟩
  | .hbm, ⟨38, _⟩ => ⟨S8x16x1024, .bf16⟩
  | .hbm, ⟨39, _⟩ => ⟨S8x4x1024, .bf16⟩
  | .local _ .vmem, ⟨0, _⟩ => ⟨S16x1024, .f32⟩
  | .local _ .vmem, ⟨1, _⟩ => ⟨S16x1024, .f32⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S16x128, .bf16⟩
  | .local _ .vmem, ⟨9, _⟩ => ⟨S16x128, .bf16⟩
  | .local _ .vmem, ⟨10, _⟩ => ⟨S1x8x128, .f32⟩
  | .local _ .vmem, ⟨11, _⟩ => ⟨S1x8x128, .f32⟩
  | .local _ .vmem, ⟨12, _⟩ => ⟨S16x1024, .f32⟩
  | .local _ .vmem, ⟨13, _⟩ => ⟨S16x1024, .f32⟩
  | .local _ .vmem, ⟨14, _⟩ => ⟨S1x128, .f32⟩
  | .local _ .vmem, ⟨15, _⟩ => ⟨S1x8x128x128, .f32⟩
  | .local _ .vmem, ⟨16, _⟩ => ⟨S1x8x128x128, .f32⟩
  | .local _ .vmem, ⟨17, _⟩ => ⟨S16x1024, .bf16⟩
  | .local _ .vmem, ⟨18, _⟩ => ⟨S16x1024, .bf16⟩
  | .local _ .vmem, ⟨19, _⟩ => ⟨S1x8x128x128, .f32⟩
  | .local _ .vmem, ⟨20, _⟩ => ⟨S1x8x128x128, .f32⟩
  | .local _ .vmem, ⟨21, _⟩ => ⟨S8x128x128, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_call4_v0 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_call5_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_52 : BitVec 32 := 0#32
  let v207 : BitVec 1 := Scalar.cmpi .eq arg1 c0_i32_52
  let v208 : BitVec 32 := Scalar.extui v207
  let c0_i32_53 : BitVec 32 := 0#32
  let v209 : BitVec 1 := Scalar.cmpi .ne v208 c0_i32_53
  v209

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference9Ideal.lean ====
abbrev S8x4x1024 : Shape := ⟨3, ![8, 4, 1024]⟩
abbrev S8x4x8x4 : Shape := ⟨4, ![8, 4, 8, 4]⟩
abbrev S8x8 : Shape := ⟨2, ![8, 8]⟩
abbrev S128 : Shape := ⟨1, ![128]⟩
abbrev S8x8x128x128 : Shape := ⟨4, ![8, 8, 128, 128]⟩
abbrev S8x4x8x128 : Shape := ⟨4, ![8, 4, 8, 128]⟩
abbrev S8x8x4x128 : Shape := ⟨4, ![8, 8, 4, 128]⟩
abbrev S8x8x4x4 : Shape := ⟨4, ![8, 8, 4, 4]⟩
abbrev S8x8x1x1 : Shape := ⟨4, ![8, 8, 1, 1]⟩
abbrev S8x8x128x4 : Shape := ⟨4, ![8, 8, 128, 4]⟩
abbrev S_ : Shape := ⟨0, ![]⟩
abbrev S8x4x8 : Shape := ⟨3, ![8, 4, 8]⟩
abbrev S8x4x8x1 : Shape := ⟨4, ![8, 4, 8, 1]⟩
abbrev S1x1x1x128 : Shape := ⟨4, ![1, 1, 1, 128]⟩

abbrev nBuf : Space → Nat
  | .hbm => 63
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S8x4x1024, .bf16⟩
  | .hbm, ⟨2, _⟩ => ⟨S8x4x1024, .bf16⟩
  | .hbm, ⟨3, _⟩ => ⟨S8x4x1024, .bf16⟩
  | .hbm, ⟨4, _⟩ => ⟨S8x4x8x4, .bf16⟩
  | .hbm, ⟨5, _⟩ => ⟨S8x8, .f32⟩
  | .hbm, ⟨6, _⟩ => ⟨S8x4x1024, .f32⟩
  | .hbm, ⟨7, _⟩ => ⟨S128, .f32⟩
  | .hbm, ⟨8, _⟩ => ⟨S8x8x128x128, .f32⟩
  | .hbm, ⟨9, _⟩ => ⟨S8x4x8x128, .f32⟩
  | .hbm, ⟨10, _⟩ => ⟨S8x8x4x128, .f32⟩
  | .hbm, ⟨11, _⟩ => ⟨S8x4x1024, .f32⟩
  | .hbm, ⟨12, _⟩ => ⟨S8x4x8x128, .f32⟩
  | .hbm, ⟨13, _⟩ => ⟨S8x8x4x128, .f32⟩
  | .hbm, ⟨14, _⟩ => ⟨S8x4x1024, .f32⟩
  | .hbm, ⟨15, _⟩ => ⟨S8x4x8x128, .f32⟩
  | .hbm, ⟨16, _⟩ => ⟨S8x8x4x128, .f32⟩
  | .hbm, ⟨17, _⟩ => ⟨S8x4x1024, .f32⟩
  | .hbm, ⟨18, _⟩ => ⟨S8x4x8x128, .f32⟩
  | .hbm, ⟨19, _⟩ => ⟨S8x8x4x128, .f32⟩
  | .hbm, ⟨20, _⟩ => ⟨S8x4x8x4, .f32⟩
  | .hbm, ⟨21, _⟩ => ⟨S8x8x4x4, .f32⟩
  | .hbm, ⟨22, _⟩ => ⟨S8x8x4x128, .f32⟩
  | .hbm, ⟨23, _⟩ => ⟨S8x8x4x128, .f32⟩
  | .hbm, ⟨24, _⟩ => ⟨S8x8x4x128, .f32⟩
  | .hbm, ⟨25, _⟩ => ⟨S8x8x4x128, .f32⟩
  | .hbm, ⟨26, _⟩ => ⟨S8x8x4x128, .f32⟩
  | .hbm, ⟨27, _⟩ => ⟨S8x8x1x1, .f32⟩
  | .hbm, ⟨28, _⟩ => ⟨S8x8x128x128, .f32⟩
  | .hbm, ⟨29, _⟩ => ⟨S8x8x128x128, .f32⟩
  | .hbm, ⟨30, _⟩ => ⟨S8x8x128x4, .f32⟩
  | .hbm, ⟨31, _⟩ => ⟨S8x8x128x128, .f32⟩
  | .hbm, ⟨32, _⟩ => ⟨S8x8x128x128, .f32⟩
  | .hbm, ⟨33, _⟩ => ⟨S8x4x8x128, .f32⟩
  | .hbm, ⟨34, _⟩ => ⟨S8x4x8x128, .f32⟩
  | .hbm, ⟨35, _⟩ => ⟨S_, .f32⟩
  | .hbm, ⟨36, _⟩ => ⟨S8x4x8, .f32⟩
  | .hbm, ⟨37, _⟩ => ⟨S8x4x8x1, .f32⟩
  | .hbm, ⟨38, _⟩ => ⟨S_, .f32⟩
  | .hbm, ⟨39, _⟩ => ⟨S8x4x8x1, .f32⟩
  | .hbm, ⟨40, _⟩ => ⟨S8x4x8x1, .f32⟩
  | .hbm, ⟨41, _⟩ => ⟨S_, .f32⟩
  | .hbm, ⟨42, _⟩ => ⟨S8x4x8x1, .f32⟩
  | .hbm, ⟨43, _⟩ => ⟨S8x4x8x1, .f32⟩
  | .hbm, ⟨44, _⟩ => ⟨S8x4x8x1, .f32⟩
  | .hbm, ⟨45, _⟩ => ⟨S8x4x8x128, .f32⟩
  | .hbm, ⟨46, _⟩ => ⟨S8x4x8x128, .f32⟩
  | .hbm, ⟨47, _⟩ => ⟨S1x1x1x128, .f32⟩
  | .hbm, ⟨48, _⟩ => ⟨S8x4x8x128, .f32⟩
  | .hbm, ⟨49, _⟩ => ⟨S8x4x8x128, .f32⟩
  | .hbm, ⟨50, _⟩ => ⟨S8x4x8x128, .f32⟩
  | .hbm, ⟨51, _⟩ => ⟨S8x4x8x128, .f32⟩
  | .hbm, ⟨52, _⟩ => ⟨S8x4x8x128, .f32⟩
  | .hbm, ⟨53, _⟩ => ⟨S_, .f32⟩
  | .hbm, ⟨54, _⟩ => ⟨S8x4x8x128, .f32⟩
  | .hbm, ⟨55, _⟩ => ⟨S8x4x8x128, .f32⟩
  | .hbm, ⟨56, _⟩ => ⟨S_, .f32⟩
  | .hbm, ⟨57, _⟩ => ⟨S8x4x8x128, .f32⟩
  | .hbm, ⟨58, _⟩ => ⟨S8x4x8x128, .f32⟩
  | .hbm, ⟨59, _⟩ => ⟨S8x4x8x128, .f32⟩
  | .hbm, ⟨60, _⟩ => ⟨S8x4x8x128, .f32⟩
  | .hbm, ⟨61, _⟩ => ⟨S8x4x1024, .f32⟩
  | .hbm, ⟨62, _⟩ => ⟨S8x4x1024, .bf16⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.ScanPure.lean ====
module

public import proofs.«01_k».proof.Proof.Gen.KernelIdeal.Skeleton
public import Idealize.ShloMosaic.Lib.Pointwise
public import Idealize.ShloMosaic.Lib.Pipeline.ValueKit

/-! The values one grid point of the recurrence kernel computes, read at an index. A grid point holds one chunk of 64 tokens of
one sequence: the eight heads lie side by side in the lanes of its blocks, 128 lanes a head. -/

set_option maxRecDepth 16384

@[expose] public section
noncomputable section

open Idealize.ShloMosaic Idealize.ShloMosaic.TcCoe Idealize.SL.Sem
open Cert.KernelIdeal Cert.KernelIdeal.Gen

namespace Cert.Scan

/-- Lane `d` of head `h` among the 1024 lanes that hold eight heads of 128. -/
abbrev lane (h : Fin 8) (d : Fin 128) : Fin 1024 := ⟨128 * h.val + d.val, by omega⟩

/-- Column `j` of head `h` among the 512 lanes that hold eight heads' 64 attention columns. -/
abbrev col (h : Fin 8) (j : Fin 64) : Fin 512 := ⟨64 * h.val + j.val, by omega⟩

set_option maxHeartbeats 1600000 in
/-- The chunk's corrected values: `u − w S` for every head. -/
theorem corrected_at (S : Vec Ideal S8x128x128 .f32) (u : Vec Ideal S64x1024 .f32) (w : Vec Ideal S64x1024 .bf16)
    (h : Fin 8) (i : Fin 64) (e : Fin 128) :
    k0_pay11 (F := Ideal) S u w (ix3 h i e) =
      u (ix2 i (lane h e)) - ∑ d : Fin 128, w (ix2 i (lane h d)) * S (ix3 h d e) := by
  pointwise [k0_pay11, k0_pay10]
  fin_vals h with hk
  all_goals simp only [hk, lane, col, Nat.reduceSub, Nat.reduceLT, Nat.reduceMul, Nat.zero_add, ↓reduceDIte, zero_add]

set_option maxHeartbeats 1600000 in
/-- What the chunk reads out before its norm: the gated query with the state, and the chunk's own scores with the
corrected values. -/
theorem readout_at (S : FVec Ideal S8x128x128 .bf16) (v : FVec Ideal S8x64x128 .bf16) (q : Vec Ideal S64x1024 .bf16)
    (s : Vec Ideal S64x512 .bf16) (h : Fin 8) (i : Fin 64) (e : Fin 128) :
    k0_pay12 (F := Ideal) S v q s (ix3 h i e) =
      (∑ d : Fin 128, q (ix2 i (lane h d)) * S (ix3 h d e)) + ∑ j : Fin 64, s (ix2 i (col h j)) * v (ix3 h j e) := by
  pointwise [k0_pay12]
  fin_vals h with hk
  all_goals simp only [hk, lane, col, Nat.reduceSub, Nat.reduceLT, Nat.reduceMul, Nat.zero_add, ↓reduceDIte, zero_add]

set_option maxHeartbeats 1600000 in
/-- The state times its head's decay over the chunk. -/
theorem decayed_at (S : Vec Ideal S8x128x128 .f32) (g0 g1 g2 g3 g4 g5 g6 g7 : Vec Ideal S1x1x128 .f32)
    (h : Fin 8) (d e : Fin 128) (G : Fin 8 → EReal)
    (e0 : g0 (ix3 0 0 e) = G 0) (e1 : g1 (ix3 0 0 e) = G 1) (e2 : g2 (ix3 0 0 e) = G 2) (e3 : g3 (ix3 0 0 e) = G 3)
    (e4 : g4 (ix3 0 0 e) = G 4) (e5 : g5 (ix3 0 0 e) = G 5) (e6 : g6 (ix3 0 0 e) = G 6) (e7 : g7 (ix3 0 0 e) = G 7) :
    k0_pay15 (F := Ideal) S (k0_pay13 g0) (k0_pay14 g1) g2 g3 g4 g5 g6 g7 (ix3 h d e) = S (ix3 h d e) * G h := by
  pointwise [k0_pay15, k0_pay13, k0_pay14]
  fin_vals h with hk
  all_goals simp only [hk, Nat.reduceSub, Nat.reduceLT, ↓reduceDIte]
  all_goals first
    | exact congrArg (S (ix3 h d e) * ·) (e0.trans (congrArg G (Fin.ext (by rw [hk]; rfl))))
    | exact congrArg (S (ix3 h d e) * ·) (e1.trans (congrArg G (Fin.ext (by rw [hk]; rfl))))
    | exact congrArg (S (ix3 h d e) * ·) (e2.trans (congrArg G (Fin.ext (by rw [hk]; rfl))))
    | exact congrArg (S (ix3 h d e) * ·) (e3.trans (congrArg G (Fin.ext (by rw [hk]; rfl))))
    | exact congrArg (S (ix3 h d e) * ·) (e4.trans (congrArg G (Fin.ext (by rw [hk]; rfl))))
    | exact congrArg (S (ix3 h d e) * ·) (e5.trans (congrArg G (Fin.ext (by rw [hk]; rfl))))
    | exact congrArg (S (ix3 h d e) * ·) (e6.trans (congrArg G (Fin.ext (by rw [hk]; rfl))))
    | exact congrArg (S (ix3 h d e) * ·) (e7.trans (congrArg G (Fin.ext (by rw [hk]; rfl))))

set_option maxHeartbeats 1600000 in
/-- What the chunk adds to the state: its keys with its corrected values. -/
theorem added_at (v : FVec Ideal S8x64x128 .bf16) (k : Vec Ideal S64x1024 .bf16) (h : Fin 8) (d e : Fin 128) :
    k0_pay16 (F := Ideal) v k (ix3 h d e) = ∑ i : Fin 64, k (ix2 i (lane h d)) * v (ix3 h i e) := by
  pointwise [k0_pay16]
  fin_vals h with hk
  all_goals simp only [hk, lane, col, Nat.reduceSub, Nat.reduceLT, Nat.reduceMul, Nat.zero_add, ↓reduceDIte, zero_add]

/-- One head's normed and gated output: `o · rsqrt(mean o² + ε) · g · (z · σ(z))`. -/
def gated (o : Fin 128 → EReal) (g z : EReal) (e : Fin 128) : EReal :=
  o e * Ideal.rsqrt (Ideal.div (∑ d : Fin 128, o d * o d) (Ideal.ofBits .f32 0x43000000#32)
    + Ideal.ofBits .f32 0x358637BD#32) * g * (z * Ideal.logistic z)

set_option maxHeartbeats 1600000 in
/-- The chunk's outputs are the read-outs normed and gated. -/
theorem gated_at (o : FVec Ideal S8x64x128 .f32) (g : Vec Ideal S1x128 .f32) (z : Vec Ideal S64x1024 .f32)
    (h : Fin 8) (i : Fin 64) (e : Fin 128) :
    k0_pay18 (F := Ideal) o g z (ix3 h i e) =
      gated (fun d => o (ix3 h i d)) (g (ix2 0 e)) (z (ix2 i (lane h e))) e := by
  pointwise [k0_pay18, gated]
  fin_vals h with hk
  all_goals simp only [hk, lane, col, Nat.reduceSub, Nat.reduceLT, Nat.reduceMul, Nat.zero_add, ↓reduceDIte, zero_add]

/-- The tile of head 0 holds that head's outputs. -/
theorem tile0_at (o : FVec Ideal S8x64x128 .f32) (g : Vec Ideal S1x128 .f32) (z : Vec Ideal S64x1024 .f32) (y : S64x128.Idx) :
    k0_pay19 (F := Ideal) o g z y = k0_pay18 (F := Ideal) o g z (ix3 (0 : Fin 8) (y 0) (y 1)) := by
  pointwise [k0_pay19, k0_pay1]
  try rfl

/-- The tile of head 1 holds that head's outputs. -/
theorem tile1_at (o : FVec Ideal S8x64x128 .f32) (g : Vec Ideal S1x128 .f32) (z : Vec Ideal S64x1024 .f32) (y : S64x128.Idx) :
    k0_pay1 (F := Ideal) (k0_pay20 o g z) y = k0_pay18 (F := Ideal) o g z (ix3 (1 : Fin 8) (y 0) (y 1)) := by
  pointwise [k0_pay20, k0_pay1]
  try rfl

/-- The tile of head 2 holds that head's outputs. -/
theorem tile2_at (o : FVec Ideal S8x64x128 .f32) (g : Vec Ideal S1x128 .f32) (z : Vec Ideal S64x1024 .f32) (y : S64x128.Idx) :
    k0_pay2 (F := Ideal) (k0_pay18 o g z) y = k0_pay18 (F := Ideal) o g z (ix3 (2 : Fin 8) (y 0) (y 1)) := by
  pointwise [k0_pay2]
  try rfl

/-- The tile of head 3 holds that head's outputs. -/
theorem tile3_at (o : FVec Ideal S8x64x128 .f32) (g : Vec Ideal S1x128 .f32) (z : Vec Ideal S64x1024 .f32) (y : S64x128.Idx) :
    k0_pay3 (F := Ideal) (k0_pay18 o g z) y = k0_pay18 (F := Ideal) o g z (ix3 (3 : Fin 8) (y 0) (y 1)) := by
  pointwise [k0_pay3]
  try rfl

/-- The tile of head 4 holds that head's outputs. -/
theorem tile4_at (o : FVec Ideal S8x64x128 .f32) (g : Vec Ideal S1x128 .f32) (z : Vec Ideal S64x1024 .f32) (y : S64x128.Idx) :
    k0_pay4 (F := Ideal) (k0_pay18 o g z) y = k0_pay18 (F := Ideal) o g z (ix3 (4 : Fin 8) (y 0) (y 1)) := by
  pointwise [k0_pay4]
  try rfl

/-- The tile of head 5 holds that head's outputs. -/
theorem tile5_at (o : FVec Ideal S8x64x128 .f32) (g : Vec Ideal S1x128 .f32) (z : Vec Ideal S64x1024 .f32) (y : S64x128.Idx) :
    k0_pay5 (F := Ideal) (k0_pay18 o g z) y = k0_pay18 (F := Ideal) o g z (ix3 (5 : Fin 8) (y 0) (y 1)) := by
  pointwise [k0_pay5]
  try rfl

/-- The tile of head 6 holds that head's outputs. -/
theorem tile6_at (o : FVec Ideal S8x64x128 .f32) (g : Vec Ideal S1x128 .f32) (z : Vec Ideal S64x1024 .f32) (y : S64x128.Idx) :
    k0_pay6 (F := Ideal) (k0_pay18 o g z) y = k0_pay18 (F := Ideal) o g z (ix3 (6 : Fin 8) (y 0) (y 1)) := by
  pointwise [k0_pay6]
  try rfl

/-- The tile of head 7 holds that head's outputs. -/
theorem tile7_at (o : FVec Ideal S8x64x128 .f32) (g : Vec Ideal S1x128 .f32) (z : Vec Ideal S64x1024 .f32) (y : S64x128.Idx) :
    k0_pay7 (F := Ideal) (k0_pay18 o g z) y = k0_pay18 (F := Ideal) o g z (ix3 (7 : Fin 8) (y 0) (y 1)) := by
  pointwise [k0_pay7]
  try rfl

end Cert.Scan
end
end
-- ==== Proof.ScanSpec.lean ====
module

public import proofs.«01_k».proof.Proof.ScanPure

/-! The recurrence both programs compute, over plain functions of sequence, token, lane and head. -/

@[expose] public section
noncomputable section

open Idealize.ShloMosaic

namespace Cert.Scan

/-- The arrays of the layer's chunked recurrence. -/
structure In where
  /-- the chunk-local values -/
  u : Fin 2 → Fin 4096 → Fin 1024 → EReal
  /-- the chunk-local keys that read the state -/
  w : Fin 2 → Fin 4096 → Fin 1024 → EReal
  /-- the gated queries -/
  q : Fin 2 → Fin 4096 → Fin 1024 → EReal
  /-- the keys that write the state -/
  k : Fin 2 → Fin 4096 → Fin 1024 → EReal
  /-- the scores inside a chunk -/
  s : Fin 2 → Fin 4096 → Fin 512 → EReal
  /-- a head's decay over a chunk -/
  g : Fin 2 → Fin 64 → Fin 8 → EReal
  /-- the output gate -/
  z : Fin 2 → Fin 4096 → Fin 1024 → EReal
  /-- the norm's weight -/
  n : Fin 128 → EReal
  /-- the first state -/
  s0 : Fin 2 → Fin 8 → Fin 128 → Fin 128 → EReal

/-- Token `i` of chunk `k`. -/
abbrev tok (k : Fin 64) (i : Fin 64) : Fin 4096 := ⟨64 * k.val + i.val, by omega⟩

variable (x : In) (b : Fin 2) (k : Fin 64) (h : Fin 8)

/-- The corrected values of chunk `k` against the state `S`. -/
def corr (S : Fin 128 → Fin 128 → EReal) (i : Fin 64) (e : Fin 128) : EReal :=
  x.u b (tok k i) (lane h e) - ∑ d : Fin 128, x.w b (tok k i) (lane h d) * S d e

/-- The state after chunk `k`. -/
def next (S : Fin 128 → Fin 128 → EReal) (d e : Fin 128) : EReal :=
  S d e * x.g b k h + ∑ i : Fin 64, x.k b (tok k i) (lane h d) * corr x b k h S i e

/-- What chunk `k` reads out. -/
def read (S : Fin 128 → Fin 128 → EReal) (i : Fin 64) (e : Fin 128) : EReal :=
  (∑ d : Fin 128, x.q b (tok k i) (lane h d) * S d e)
    + ∑ j : Fin 64, x.s b (tok k i) (col h j) * corr x b k h S j e

/-- The state before chunk `k`. -/
def state (x : In) (b : Fin 2) (h : Fin 8) : ∀ k : ℕ, k ≤ 64 → Fin 128 → Fin 128 → EReal
  | 0, _ => x.s0 b h
  | k + 1, hk => next x b ⟨k, hk⟩ h (state x b h k (Nat.le_of_succ_le hk))

/-- The layer's output at token `i` of chunk `k`. -/
def outp (i : Fin 64) (e : Fin 128) : EReal :=
  gated (read x b k h (state x b h k.val k.isLt.le) i) (x.n e) (x.z b (tok k i) (lane h e)) e

/-- The state depends on the number of chunks alone. -/
theorem state_congr {b b' : Fin 2} {k k' : ℕ} (hb : b = b') (hkk : k = k') (hk : k ≤ 64) (hk' : k' ≤ 64) :
    state x b h k hk = state x b' h k' hk' := by
  subst hb hkk; rfl

/-- An entry of a state is determined by the numbers of its sequence, head and lanes. -/
theorem state_entry {b b' : Fin 2} {h h' : Fin 8} {d d' e e' : Fin 128} (k : ℕ) (hk : k ≤ 64)
    (hb : b.val = b'.val) (hh : h.val = h'.val) (hd : d.val = d'.val) (he : e.val = e'.val) :
    state x b h k hk d e = state x b' h' k hk d' e' := by
  obtain rfl := Fin.ext hb; obtain rfl := Fin.ext hh; obtain rfl := Fin.ext hd; obtain rfl := Fin.ext he; rfl

/-- An output is determined by the numbers of its sequence, chunk, head, token and lane. -/
theorem outp_congr {b b' : Fin 2} {k k' : Fin 64} {h h' : Fin 8} {i i' : Fin 64} {e e' : Fin 128}
    (hb : b.val = b'.val) (hk : k.val = k'.val) (hh : h.val = h'.val) (hi : i.val = i'.val) (he : e.val = e'.val) :
    outp x b k h i e = outp x b' k' h' i' e' := by
  obtain rfl := Fin.ext hb; obtain rfl := Fin.ext hk; obtain rfl := Fin.ext hh; obtain rfl := Fin.ext hi
  obtain rfl := Fin.ext he; rfl

open Cert.KernelIdeal Cert.KernelIdeal.Gen

variable (S : Fin 128 → Fin 128 → EReal) (S' : Vec Ideal S8x128x128 .f32) (U : Vec Ideal S64x1024 .f32)
  (W : Vec Ideal S64x1024 .bf16)

/-- The kernel's corrected values are the recurrence's, when its blocks hold the recurrence's arrays. -/
theorem corr_at (hS : ∀ d e, S' (ix3 h d e) = S d e) (hU : ∀ i l, U (ix2 i l) = x.u b (tok k i) l)
    (hW : ∀ i l, W (ix2 i l) = x.w b (tok k i) l) (i : Fin 64) (e : Fin 128) :
    k0_pay11 (F := Ideal) S' U W (ix3 h i e) = corr x b k h S i e := by
  rw [corrected_at, hU]
  exact congrArg (x.u b (tok k i) (lane h e) - ·) (Finset.sum_congr rfl fun d _ => by rw [hW, hS])

/-- The state the kernel stores is the recurrence's next state. -/
theorem next_at (K : Vec Ideal S64x1024 .bf16) (g0 g1 g2 g3 g4 g5 g6 g7 : Vec Ideal S1x1x128 .f32)
    (hS : ∀ d e, S' (ix3 h d e) = S d e) (hU : ∀ i l, U (ix2 i l) = x.u b (tok k i) l)
    (hW : ∀ i l, W (ix2 i l) = x.w b (tok k i) l) (hK : ∀ i l, K (ix2 i l) = x.k b (tok k i) l) (d e : Fin 128)
    (e0 : g0 (ix3 0 0 e) = x.g b k 0) (e1 : g1 (ix3 0 0 e) = x.g b k 1) (e2 : g2 (ix3 0 0 e) = x.g b k 2)
    (e3 : g3 (ix3 0 0 e) = x.g b k 3) (e4 : g4 (ix3 0 0 e) = x.g b k 4) (e5 : g5 (ix3 0 0 e) = x.g b k 5)
    (e6 : g6 (ix3 0 0 e) = x.g b k 6) (e7 : g7 (ix3 0 0 e) = x.g b k 7) :
    k0_pay17 (F := Ideal) (k0_pay15 S' (k0_pay13 g0) (k0_pay14 g1) g2 g3 g4 g5 g6 g7) (k0_pay16 (k0_pay11 S' U W) K)
      (ix3 h d e) = next x b k h S d e := by
  pointwise [k0_pay17]
  rw [decayed_at S' g0 g1 g2 g3 g4 g5 g6 g7 h d e (x.g b k) e0 e1 e2 e3 e4 e5 e6 e7, added_at, hS]
  exact congrArg (S d e * x.g b k h + ·) (Finset.sum_congr rfl fun i _ => by
    rw [hK, corr_at x b k h S S' U W hS hU hW])

/-- The outputs the kernel stores are the recurrence's normed and gated read-outs. -/
theorem outp_at (Q : Vec Ideal S64x1024 .bf16) (R : Vec Ideal S64x512 .bf16) (N : Vec Ideal S1x128 .f32)
    (Z : Vec Ideal S64x1024 .f32)
    (hS : ∀ d e, S' (ix3 h d e) = S d e) (hU : ∀ i l, U (ix2 i l) = x.u b (tok k i) l)
    (hW : ∀ i l, W (ix2 i l) = x.w b (tok k i) l) (hQ : ∀ i l, Q (ix2 i l) = x.q b (tok k i) l)
    (hR : ∀ i l, R (ix2 i l) = x.s b (tok k i) l) (hN : ∀ e, N (ix2 0 e) = x.n e)
    (hZ : ∀ i l, Z (ix2 i l) = x.z b (tok k i) l) (i : Fin 64) (e : Fin 128) :
    k0_pay18 (F := Ideal) (k0_pay12 (k0_pay10 S') (k0_pay11 S' U W) Q R) N Z (ix3 h i e) =
      gated (read x b k h S i) (x.n e) (x.z b (tok k i) (lane h e)) e := by
  rw [gated_at, hN, hZ]
  refine congrArg (fun f => gated f (x.n e) (x.z b (tok k i) (lane h e)) e) (funext fun e => ?_)
  rw [readout_at]
  refine congrArg₂ (· + ·) (Finset.sum_congr rfl fun d _ => ?_) (Finset.sum_congr rfl fun j _ => ?_)
  · pointwise [k0_pay10]
    rw [hQ, hS]
  · rw [hR, corr_at x b k h S S' U W hS hU hW]

end Cert.Scan
end
end
-- ==== Proof.ScanStep.lean ====
module

public import proofs.«01_k».proof.Proof.ScanSpec
public import proofs.«01_k».proof.Proof.Gen.KernelIdeal.Value
public import Idealize.ShloMosaic.Lib.Claim

/-! The recurrence kernel's run, point by point: the carried scratch is the state after the chunk, and the output block
is the chunk's normed and gated read-out. -/

set_option maxRecDepth 16384

@[expose] public section
noncomputable section

open Idealize.ShloMosaic Idealize.ShloMosaic.TcCoe Idealize.SL.Sem
open Idealize.ShloMosaic.Pipeline (Dat)
open Cert.KernelIdeal Cert.KernelIdeal.Gen

namespace Cert.Scan.K

variable (m : (ℓ : Loc nD τ sig) → Buf (Elt Ideal) ℓ)

/-- The recurrence's arrays as the kernel's arguments hold them. -/
def args (c : Dev nD) : In where
  u := fun b t l => m ((c : Thread nD τ).loc main_arg0) (ix3 b t l)
  w := fun b t l => m ((c : Thread nD τ).loc main_arg1) (ix3 b t l)
  q := fun b t l => m ((c : Thread nD τ).loc main_arg2) (ix3 b t l)
  k := fun b t l => m ((c : Thread nD τ).loc main_arg3) (ix3 b t l)
  s := fun b t l => m ((c : Thread nD τ).loc main_arg4) (ix3 b t l)
  g := fun b k h => m ((c : Thread nD τ).loc main_arg5) (ix3 b k h)
  z := fun b t l => m ((c : Thread nD τ).loc main_arg6) (ix3 b t l)
  n := fun e => m ((c : Thread nD τ).loc main_arg7) (ix1 e)
  s0 := fun b h d e => m ((c : Thread nD τ).loc main_arg8) (ix4 b h d e)

/-- The windows' block indices: the chunk's number for the token arrays, the sequence's for the states. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0, 0]
    ∧ win0_6.index t = ![t.val, 4] ∧ win0_7.index t = ![0, 0] ∧ win0_8.index t = ![t.val / 64, 0, 0, 0]
    ∧ win0_9.index t = ![t.val, 0] ∧ win0_10.index t = ![t.val / 64, 0, 0, 0] :=
  (by decide +kernel : ∀ t : Fin grid0.N, _)

theorem lt128 (t : Fin cfg0.N) : t.val < 128 := lt_of_lt_of_eq t.isLt N_0

/-- The sequence of grid point `t`. -/
abbrev sq (t : Fin cfg0.N) : Fin 2 := ⟨t.val / 64, by have := lt128 t; omega⟩
/-- The chunk of grid point `t`. -/
abbrev ch (t : Fin cfg0.N) : Fin 64 := ⟨t.val % 64, Nat.mod_lt _ (by decide)⟩

/-- The flattened values, read at a row. -/
theorem entry_u (c : Dev nD) (r : Fin 8192) (l : Fin 1024) :
    V m c main_v4 (ix2 r l) = m ((c : Thread nD τ).loc main_arg0) (ix3 (⟨r.val / 4096, by omega⟩ : Fin 2) (⟨r.val % 4096, by omega⟩ : Fin 4096) l) := by
  simp only [V, hostOps0, hostOps0_1, hostOps0_2, List.flatten_cons, List.flatten_nil, List.append_nil, List.cons_append, List.nil_append]
  entry_read
  pointwise

/-- The block of values at a grid point. -/
theorem blk_u (c : Dev nD) (t : Fin cfg0.N) (i : Fin 64) (l : Fin 1024) :
    iblk m c 0 t (ix2 i l) = (args m c).u (sq t) (tok (ch t) i) l := by
  have ht := lt128 t
  refine (congrArg (V m c main_v4) (?_ : ((cfg0.win 0).blk t).view.emb (ix2 i l) = ix2 (⟨64 * t.val + i.val, by omega⟩ : Fin 8192) l)).trans
    ((entry_u m c _ _).trans (congrArg (m ((c : Thread nD τ).loc main_arg0)) ?_))
  · blk_ext [idx t]
  · idx_ext

/-- The flattened state-reading keys, read at a row. -/
theorem entry_w (c : Dev nD) (r : Fin 8192) (l : Fin 1024) :
    V m c main_v5 (ix2 r l) = m ((c : Thread nD τ).loc main_arg1) (ix3 (⟨r.val / 4096, by omega⟩ : Fin 2) (⟨r.val % 4096, by omega⟩ : Fin 4096) l) := by
  simp only [V, hostOps0, hostOps0_1, hostOps0_2, List.flatten_cons, List.flatten_nil, List.append_nil, List.cons_append, List.nil_append]
  entry_read
  pointwise

/-- The block of state-reading keys at a grid point. -/
theorem blk_w (c : Dev nD) (t : Fin cfg0.N) (i : Fin 64) (l : Fin 1024) :
    iblk m c 1 t (ix2 i l) = (args m c).w (sq t) (tok (ch t) i) l := by
  have ht := lt128 t
  refine (congrArg (V m c main_v5) (?_ : ((cfg0.win 1).blk t).view.emb (ix2 i l) = ix2 (⟨64 * t.val + i.val, by omega⟩ : Fin 8192) l)).trans
    ((entry_w m c _ _).trans (congrArg (m ((c : Thread nD τ).loc main_arg1)) ?_))
  · blk_ext [idx t]
  · idx_ext

/-- The flattened queries, read at a row. -/
theorem entry_q (c : Dev nD) (r : Fin 8192) (l : Fin 1024) :
    V m c main_v6 (ix2 r l) = m ((c : Thread nD τ).loc main_arg2) (ix3 (⟨r.val / 4096, by omega⟩ : Fin 2) (⟨r.val % 4096, by omega⟩ : Fin 4096) l) := by
  simp only [V, hostOps0, hostOps0_1, hostOps0_2, List.flatten_cons, List.flatten_nil, List.append_nil, List.cons_append, List.nil_append]
  entry_read
  pointwise

/-- The block of queries at a grid point. -/
theorem blk_q (c : Dev nD) (t : Fin cfg0.N) (i : Fin 64) (l : Fin 1024) :
    iblk m c 2 t (ix2 i l) = (args m c).q (sq t) (tok (ch t) i) l := by
  have ht := lt128 t
  refine (congrArg (V m c main_v6) (?_ : ((cfg0.win 2).blk t).view.emb (ix2 i l) = ix2 (⟨64 * t.val + i.val, by omega⟩ : Fin 8192) l)).trans
    ((entry_q m c _ _).trans (congrArg (m ((c : Thread nD τ).loc main_arg2)) ?_))
  · blk_ext [idx t]
  · idx_ext

/-- The flattened state-writing keys, read at a row. -/
theorem entry_k (c : Dev nD) (r : Fin 8192) (l : Fin 1024) :
    V m c main_v7 (ix2 r l) = m ((c : Thread nD τ).loc main_arg3) (ix3 (⟨r.val / 4096, by omega⟩ : Fin 2) (⟨r.val % 4096, by omega⟩ : Fin 4096) l) := by
  simp only [V, hostOps0, hostOps0_1, hostOps0_2, List.flatten_cons, List.flatten_nil, List.append_nil, List.cons_append, List.nil_append]
  entry_read
  pointwise

/-- The block of state-writing keys at a grid point. -/
theorem blk_k (c : Dev nD) (t : Fin cfg0.N) (i : Fin 64) (l : Fin 1024) :
    iblk m c 3 t (ix2 i l) = (args m c).k (sq t) (tok (ch t) i) l := by
  have ht := lt128 t
  refine (congrArg (V m c main_v7) (?_ : ((cfg0.win 3).blk t).view.emb (ix2 i l) = ix2 (⟨64 * t.val + i.val, by omega⟩ : Fin 8192) l)).trans
    ((entry_k m c _ _).trans (congrArg (m ((c : Thread nD τ).loc main_arg3)) ?_))
  · blk_ext [idx t]
  · idx_ext

/-- The flattened scores, read at a row. -/
theorem entry_s (c : Dev nD) (r : Fin 8192) (l : Fin 512) :
    V m c main_v8 (ix2 r l) = m ((c : Thread nD τ).loc main_arg4) (ix3 (⟨r.val / 4096, by omega⟩ : Fin 2) (⟨r.val % 4096, by omega⟩ : Fin 4096) l) := by
  simp only [V, hostOps0, hostOps0_1, hostOps0_2, List.flatten_cons, List.flatten_nil, List.append_nil, List.cons_append, List.nil_append]
  entry_read
  pointwise

/-- The block of scores at a grid point. -/
theorem blk_s (c : Dev nD) (t : Fin cfg0.N) (i : Fin 64) (l : Fin 512) :
    iblk m c 4 t (ix2 i l) = (args m c).s (sq t) (tok (ch t) i) l := by
  have ht := lt128 t
  refine (congrArg (V m c main_v8) (?_ : ((cfg0.win 4).blk t).view.emb (ix2 i l) = ix2 (⟨64 * t.val + i.val, by omega⟩ : Fin 8192) l)).trans
    ((entry_s m c _ _).trans (congrArg (m ((c : Thread nD τ).loc main_arg4)) ?_))
  · blk_ext [idx t]
  · idx_ext

/-- The padded output gates, read at a column of the gates. -/
theorem entry_z (c : Dev nD) (r : Fin 8192) (l : Fin 1024) :
    V m c main_v3 (ix2 r (⟨4096 + l.val, by omega⟩ : Fin 7168)) = m ((c : Thread nD τ).loc main_arg6) (ix3 (⟨r.val / 4096, by omega⟩ : Fin 2) (⟨r.val % 4096, by omega⟩ : Fin 4096) l) := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise

/-- The block of output gates at a grid point. -/
theorem blk_z (c : Dev nD) (t : Fin cfg0.N) (i : Fin 64) (l : Fin 1024) :
    iblk m c 6 t (ix2 i l) = (args m c).z (sq t) (tok (ch t) i) l := by
  have ht := lt128 t
  refine (congrArg (V m c main_v3) (?_ : ((cfg0.win 6).blk t).view.emb (ix2 i l) = ix2 (⟨64 * t.val + i.val, by omega⟩ : Fin 8192) (⟨4096 + l.val, by omega⟩ : Fin 7168))).trans
    ((entry_z m c _ _).trans (congrArg (m ((c : Thread nD τ).loc main_arg6)) ?_))
  · blk_ext [idx t]
  · idx_ext

/-- The decays, one row a head, read at a chunk. -/
theorem entry_g (c : Dev nD) (r : Fin 128) (h : Fin 8) (l : Fin 128) :
    V m c main_v1 (ix3 r h l) = m ((c : Thread nD τ).loc main_arg5) (ix3 (⟨r.val / 64, by omega⟩ : Fin 2) (⟨r.val % 64, by omega⟩ : Fin 64) h) := by
  simp only [V, hostOps0, hostOps0_1, hostOps0_2, List.flatten_cons, List.flatten_nil, List.append_nil, List.cons_append, List.nil_append]
  entry_read
  pointwise

/-- The block of decays at a grid point, one row a head. -/
theorem blk_g (c : Dev nD) (t : Fin cfg0.N) (h : Fin 8) (l : Fin 128) :
    iblk m c 5 t (ix3 0 h l) = (args m c).g (sq t) (ch t) h := by
  have ht := lt128 t
  refine (congrArg (V m c main_v1) (?_ : ((cfg0.win 5).blk t).view.emb (ix3 0 h l) = ix3 (⟨t.val, ht⟩ : Fin 128) h l)).trans
    (entry_g m c _ _ _)
  blk_ext [idx t]

/-- The norm's weight as one row. -/
theorem entry_n (c : Dev nD) (l : Fin 128) : V m c main_v9 (ix2 0 l) = m ((c : Thread nD τ).loc main_arg7) (ix1 l) := by
  simp only [V, hostOps0, hostOps0_1, hostOps0_2, List.flatten_cons, List.flatten_nil, List.append_nil, List.cons_append, List.nil_append]
  entry_read
  pointwise

/-- The norm's weight at a grid point. -/
theorem blk_n (c : Dev nD) (t : Fin cfg0.N) (l : Fin 128) :
    iblk m c 7 t (ix2 0 l) = (args m c).n l := by
  have ht := lt128 t
  refine (congrArg (V m c main_v9) (?_ : ((cfg0.win 7).blk t).view.emb (ix2 0 l) = ix2 0 l)).trans (entry_n m c l)
  blk_ext [idx t]

/-- The first states' block at a grid point. -/
theorem blk_s0 (c : Dev nD) (t : Fin cfg0.N) (h : Fin 8) (d e : Fin 128) :
    iblk m c 8 t (ix4 0 h d e) = (args m c).s0 (sq t) h d e := by
  have ht := lt128 t
  show _ = m ((c : Thread nD τ).loc main_arg8) (ix4 (sq t) h d e)
  blk_point [iblk, V, idx t]

end Cert.Scan.K
end
end
-- ==== Proof.ScanRun.lean ====
module

public import proofs.«01_k».proof.Proof.ScanStep

/-! The recurrence kernel's run, point by point: the carried scratch is the state after the chunk, and the output block
is the chunk's normed and gated read-out. -/

set_option maxRecDepth 16384

@[expose] public section
noncomputable section

open Idealize.ShloMosaic Idealize.ShloMosaic.TcCoe Idealize.SL.Sem
open Idealize.ShloMosaic.Pipeline (Dat)
open Cert.KernelIdeal Cert.KernelIdeal.Gen

namespace Cert.Scan.K

variable (m : (ℓ : Loc nD τ sig) → Buf (Elt Ideal) ℓ)

/-- The state the scratch holds after grid point `t`. -/
def sc (c : Dev nD) (t : Fin cfg0.N) (h : Fin 8) (d e : Fin 128) : EReal :=
  (outsAt0 m c t.val t.isLt).2.2 (ix3 h d e)

/-- The grid point before `t`. -/
abbrev pre (t : Fin cfg0.N) : Fin cfg0.N := ⟨t.val - 1, Nat.lt_of_le_of_lt (Nat.sub_le _ _) t.isLt⟩

/-- At a sequence's first chunk the scratch is set to the state after that chunk. -/
theorem scratch_A (c : Dev nD) (t : Fin cfg0.N) (h0 : t.val % 64 = 0) (h1 : ¬t.val % 64 = 63) (h : Fin 8) :
    sc m c t h = next (args m c) (sq t) (ch t) h ((args m c).s0 (sq t) h) := by
  funext d e
  unfold sc
  rw [outsAt0_A m c t h0 h1]
  frame_out
  refine next_at (args m c) (sq t) (ch t) h _ _ _ _ _ _ _ _ _ _ _ _ _ (fun d e => by pointwise [k0_pay9]; exact blk_s0 m c t h d e)
    (blk_u m c t) (blk_w m c t) (blk_k m c t) d e ?_ ?_ ?_ ?_ ?_ ?_ ?_ ?_
  all_goals
    pointwise
    exact blk_g m c t _ e

/-- At a middle chunk the scratch goes on from what the chunk before left. -/
theorem scratch_B (c : Dev nD) (t : Fin cfg0.N) (h0 : ¬t.val % 64 = 0) (h1 : ¬t.val % 64 = 63) (h : Fin 8) :
    sc m c t h = next (args m c) (sq t) (ch t) h (sc m c (pre t) h) := by
  funext d e
  unfold sc
  rw [outsAt0_B m c t h0 h1]
  frame_out
  refine next_at (args m c) (sq t) (ch t) h _ _ _ _ _ _ _ _ _ _ _ _ _ (fun _ _ => congrFun ((Memref.isWhole_whole cc0_scratch0).read_unread _) _)
    (blk_u m c t) (blk_w m c t) (blk_k m c t) d e ?_ ?_ ?_ ?_ ?_ ?_ ?_ ?_
  all_goals
    pointwise
    exact blk_g m c t _ e

/-- At a sequence's last chunk the scratch goes on from what the chunk before left. -/
theorem scratch_C (c : Dev nD) (t : Fin cfg0.N) (h0 : ¬t.val % 64 = 0) (h1 : t.val % 64 = 63) (h : Fin 8) :
    sc m c t h = next (args m c) (sq t) (ch t) h (sc m c (pre t) h) := by
  funext d e
  unfold sc
  rw [outsAt0_C m c t h0 h1]
  frame_out
  refine next_at (args m c) (sq t) (ch t) h _ _ _ _ _ _ _ _ _ _ _ _ _ (fun _ _ => congrFun ((Memref.isWhole_whole cc0_scratch0).read_unread _) _)
    (blk_u m c t) (blk_w m c t) (blk_k m c t) d e ?_ ?_ ?_ ?_ ?_ ?_ ?_ ?_
  all_goals
    pointwise
    exact blk_g m c t _ e

/-- After grid point `t` the scratch holds the state after its chunk. -/
theorem sc_eq (c : Dev nD) : ∀ (n : ℕ) (hn : n < cfg0.N) (h : Fin 8),
    sc m c ⟨n, hn⟩ h = state (args m c) (sq ⟨n, hn⟩) h (n % 64 + 1) (Nat.mod_lt n (by decide)) := by
  intro n
  induction n with
  | zero =>
    intro hn h
    exact scratch_A m c ⟨0, hn⟩ (Nat.zero_mod _) (by show ¬0 % 64 = 63; decide) h
  | succ n ih =>
    intro hn h
    have hN := lt128 ⟨n + 1, hn⟩
    by_cases h0 : (n + 1) % 64 = 0
    · refine (scratch_A m c ⟨n + 1, hn⟩ h0 (by show ¬(n + 1) % 64 = 63; omega) h).trans ?_
      show _ = next _ _ _ _ (state _ _ _ _ _)
      exact congrArg (next (args m c) (sq ⟨n + 1, hn⟩) (ch ⟨n + 1, hn⟩) h)
        (state_congr (args m c) h rfl h0 (by omega) (by omega)).symm
    · have hp : sc m c (pre ⟨n + 1, hn⟩) h = state (args m c) (sq ⟨n + 1, hn⟩) h ((n + 1) % 64) (by omega) :=
        (ih (by omega) h).trans (state_congr (args m c) h (Fin.ext (by show n / 64 = (n + 1) / 64; omega)) (by omega) _ _)
      by_cases h1 : (n + 1) % 64 = 63
      · exact (scratch_C m c ⟨n + 1, hn⟩ h0 h1 h).trans (by rw [hp]; rfl)
      · exact (scratch_B m c ⟨n + 1, hn⟩ h0 h1 h).trans (by rw [hp]; rfl)

/-- Before a chunk that isn't a sequence's first, the scratch holds the state before it. -/
theorem pre_eq (c : Dev nD) (t : Fin cfg0.N) (h0 : ¬t.val % 64 = 0) (h : Fin 8) :
    sc m c (pre t) h = state (args m c) (sq t) h (t.val % 64) (Nat.mod_lt _ (by decide)).le := by
  have ht := lt128 t
  exact (sc_eq m c (t.val - 1) _ h).trans
    (state_congr (args m c) h (Fin.ext (by show (t.val - 1) / 64 = t.val / 64; omega)) (by omega) _ _)

/-- What a grid point computes for its output's block, from a scratch that holds the state before its chunk. -/
theorem out_at (c : Dev nD) (t : Fin cfg0.N) (S' : Vec Ideal S8x128x128 .f32)
    (hS : ∀ h d e, S' (ix3 h d e) = state (args m c) (sq t) h (t.val % 64) (Nat.mod_lt _ (by decide)).le d e)
    (h : Fin 8) (i : Fin 64) (e : Fin 128) :
    k0_pay18 (F := Ideal) (k0_pay12 (k0_pay10 S') (k0_pay11 S' (iblk m c 0 t) (iblk m c 1 t)) (iblk m c 2 t) (iblk m c 4 t))
      (iblk m c 7 t) (iblk m c 6 t) (ix3 h i e) = outp (args m c) (sq t) (ch t) h i e :=
  outp_at (args m c) (sq t) (ch t) h _ S' _ _ _ _ _ _ (hS h) (blk_u m c t) (blk_w m c t) (blk_q m c t) (blk_s m c t)
    (blk_n m c t) (blk_z m c t) i e

set_option maxHeartbeats 1600000 in
/-- What a sequence's first chunk stores in the output's block. -/
theorem out_A (c : Dev nD) (t : Fin cfg0.N) (h0 : t.val % 64 = 0) (h1 : ¬t.val % 64 = 63) (y : S64x1024.Idx) :
    (outsAt0 m c t.val t.isLt).1 y = outp (args m c) (sq t) (ch t) (⟨(y 1).val / 128, by have : (y 1).val < 1024 := (y 1).isLt; omega⟩ : Fin 8)
      (y 0) (⟨(y 1).val % 128, Nat.mod_lt _ (by decide)⟩ : Fin 128) := by
  rw [outsAt0_A m c t h0 h1]
  frame_out
  canon_tiles y hy
  · refine (tile7_at _ _ _ _).trans ((out_at m c t _ (fun h d e => ?_) _ _ _).trans (outp_congr _ rfl rfl (by show (7 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile6_at _ _ _ _).trans ((out_at m c t _ (fun h d e => ?_) _ _ _).trans (outp_congr _ rfl rfl (by show (6 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile5_at _ _ _ _).trans ((out_at m c t _ (fun h d e => ?_) _ _ _).trans (outp_congr _ rfl rfl (by show (5 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile4_at _ _ _ _).trans ((out_at m c t _ (fun h d e => ?_) _ _ _).trans (outp_congr _ rfl rfl (by show (4 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile3_at _ _ _ _).trans ((out_at m c t _ (fun h d e => ?_) _ _ _).trans (outp_congr _ rfl rfl (by show (3 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile2_at _ _ _ _).trans ((out_at m c t _ (fun h d e => ?_) _ _ _).trans (outp_congr _ rfl rfl (by show (2 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile1_at _ _ _ _).trans ((out_at m c t _ (fun h d e => ?_) _ _ _).trans (outp_congr _ rfl rfl (by show (1 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)
  · refine (tile0_at _ _ _ _).trans ((out_at m c t _ (fun h d e => ?_) _ _ _).trans (outp_congr _ rfl rfl (by show (0 : ℕ) = _ / 128; omega) hy0.symm (by show _ = _ % 128; omega))); pointwise [k0_pay9]; exact (blk_s0 m c t h d e).trans (congrFun (congrFun (state_congr (args m c) h rfl h0.symm (Nat.zero_le _) (Nat.mod_lt _ (by decide)).le) d) e)

set_option maxHeartbeats 1600000 in
/-- What a sequence's middle chunk stores in the output's block. -/
theorem out_B (c : Dev nD) (t : Fin cfg0.N) (h0 : ¬t.val % 64 = 0) (h1 : ¬t.val % 64 = 63) (y : S64x1024.Idx) :
    (outsAt0 m c t.val t.isLt).1 y = outp (args m c) (sq t) (ch t) (⟨(y 1).val / 128, by have : (y 1).val < 1024 := (y 1).isLt; omega⟩ : Fin 8)
      (y 0) (⟨(y 1).val % 128, Nat.mod_lt _ (by decide)⟩ : Fin 128) := by
  rw [outsAt0_B m c t h0 h1]
  frame_out
  canon_tiles y hy
  · refine (tile7_at _ _ _ _).trans ((out_at m c t _ (fun h d e => ?_) _ _ _).trans (outp_congr _ rfl rfl (by show (7 : ℕ) = _ / 128; omega) hy0.symm (by show _ = _ % 128; omega))); exact (congrFun ((Memref.isWhole_whole cc0_scratch0).read_unread _) _).trans (congrFun (congrFun (pre_eq m c t h0 h) d) e)
  · refine (tile6_at _ _ _ _).trans ((out_at m c t _ (fun h d e => ?_) _ _ _).trans (outp_congr _ rfl rfl (by show (6 : ℕ) = _ / 128; omega) hy0.symm (by show _ = _ % 128; omega))); exact (congrFun ((Memref.isWhole_whole cc0_scratch0).read_unread _) _).trans (congrFun (congrFun (pre_eq m c t h0 h) d) e)
  · refine (tile5_at _ _ _ _).trans ((out_at m c t _ (fun h d e => ?_) _ _ _).trans (outp_congr _ rfl rfl (by show (5 : ℕ) = _ / 128; omega) hy0.symm (by show _ = _ % 128; omega))); exact (congrFun ((Memref.isWhole_whole cc0_scratch0).read_unread _) _).trans (congrFun (congrFun (pre_eq m c t h0 h) d) e)
  · refine (tile4_at _ _ _ _).trans ((out_at m c t _ (fun h d e => ?_) _ _ _).trans (outp_congr _ rfl rfl (by show (4 : ℕ) = _ / 128; omega) hy0.symm (by show _ = _ % 128; omega))); exact (congrFun ((Memref.isWhole_whole cc0_scratch0).read_unread _) _).trans (congrFun (congrFun (pre_eq m c t h0 h) d) e)
  · refine (tile3_at _ _ _ _).trans ((out_at m c t _ (fun h d e => ?_) _ _ _).trans (outp_congr _ rfl rfl (by show (3 : ℕ) = _ / 128; omega) hy0.symm (by show _ = _ % 128; omega))); exact (congrFun ((Memref.isWhole_whole cc0_scratch0).read_unread _) _).trans (congrFun (congrFun (pre_eq m c t h0 h) d) e)
  · refine (tile2_at _ _ _ _).trans ((out_at m c t _ (fun h d e => ?_) _ _ _).trans (outp_congr _ rfl rfl (by show (2 : ℕ) = _ / 128; omega) hy0.symm (by show _ = _ % 128; omega))); exact (congrFun ((Memref.isWhole_whole cc0_scratch0).read_unread _) _).trans (congrFun (congrFun (pre_eq m c t h0 h) d) e)
  · refine (tile1_at _ _ _ _).trans ((out_at m c t _ (fun h d e => ?_) _ _ _).trans (outp_congr _ rfl rfl (by show (1 : ℕ) = _ / 128; omega) hy0.symm (by show _ = _ % 128; omega))); exact (congrFun ((Memref.isWhole_whole cc0_scratch0).read_unread _) _).trans (congrFun (congrFun (pre_eq m c t h0 h) d) e)
  · refine (tile0_at _ _ _ _).trans ((out_at m c t _ (fun h d e => ?_) _ _ _).trans (outp_congr _ rfl rfl (by show (0 : ℕ) = _ / 128; omega) hy0.symm (by show _ = _ % 128; omega))); exact (congrFun ((Memref.isWhole_whole cc0_scratch0).read_unread _) _).trans (congrFun (congrFun (pre_eq m c t h0 h) d) e)

set_option maxHeartbeats 1600000 in
/-- What a sequence's last chunk stores in the output's block. -/
theorem out_C (c : Dev nD) (t : Fin cfg0.N) (h0 : ¬t.val % 64 = 0) (h1 : t.val % 64 = 63) (y : S64x1024.Idx) :
    (outsAt0 m c t.val t.isLt).1 y = outp (args m c) (sq t) (ch t) (⟨(y 1).val / 128, by have : (y 1).val < 1024 := (y 1).isLt; omega⟩ : Fin 8)
      (y 0) (⟨(y 1).val % 128, Nat.mod_lt _ (by decide)⟩ : Fin 128) := by
  rw [outsAt0_C m c t h0 h1]
  frame_out
  canon_tiles y hy
  · refine (tile7_at _ _ _ _).trans ((out_at m c t _ (fun h d e => ?_) _ _ _).trans (outp_congr _ rfl rfl (by show (7 : ℕ) = _ / 128; omega) hy0.symm (by show _ = _ % 128; omega))); exact (congrFun ((Memref.isWhole_whole cc0_scratch0).read_unread _) _).trans (congrFun (congrFun (pre_eq m c t h0 h) d) e)
  · refine (tile6_at _ _ _ _).trans ((out_at m c t _ (fun h d e => ?_) _ _ _).trans (outp_congr _ rfl rfl (by show (6 : ℕ) = _ / 128; omega) hy0.symm (by show _ = _ % 128; omega))); exact (congrFun ((Memref.isWhole_whole cc0_scratch0).read_unread _) _).trans (congrFun (congrFun (pre_eq m c t h0 h) d) e)
  · refine (tile5_at _ _ _ _).trans ((out_at m c t _ (fun h d e => ?_) _ _ _).trans (outp_congr _ rfl rfl (by show (5 : ℕ) = _ / 128; omega) hy0.symm (by show _ = _ % 128; omega))); exact (congrFun ((Memref.isWhole_whole cc0_scratch0).read_unread _) _).trans (congrFun (congrFun (pre_eq m c t h0 h) d) e)
  · refine (tile4_at _ _ _ _).trans ((out_at m c t _ (fun h d e => ?_) _ _ _).trans (outp_congr _ rfl rfl (by show (4 : ℕ) = _ / 128; omega) hy0.symm (by show _ = _ % 128; omega))); exact (congrFun ((Memref.isWhole_whole cc0_scratch0).read_unread _) _).trans (congrFun (congrFun (pre_eq m c t h0 h) d) e)
  · refine (tile3_at _ _ _ _).trans ((out_at m c t _ (fun h d e => ?_) _ _ _).trans (outp_congr _ rfl rfl (by show (3 : ℕ) = _ / 128; omega) hy0.symm (by show _ = _ % 128; omega))); exact (congrFun ((Memref.isWhole_whole cc0_scratch0).read_unread _) _).trans (congrFun (congrFun (pre_eq m c t h0 h) d) e)
  · refine (tile2_at _ _ _ _).trans ((out_at m c t _ (fun h d e => ?_) _ _ _).trans (outp_congr _ rfl rfl (by show (2 : ℕ) = _ / 128; omega) hy0.symm (by show _ = _ % 128; omega))); exact (congrFun ((Memref.isWhole_whole cc0_scratch0).read_unread _) _).trans (congrFun (congrFun (pre_eq m c t h0 h) d) e)
  · refine (tile1_at _ _ _ _).trans ((out_at m c t _ (fun h d e => ?_) _ _ _).trans (outp_congr _ rfl rfl (by show (1 : ℕ) = _ / 128; omega) hy0.symm (by show _ = _ % 128; omega))); exact (congrFun ((Memref.isWhole_whole cc0_scratch0).read_unread _) _).trans (congrFun (congrFun (pre_eq m c t h0 h) d) e)
  · refine (tile0_at _ _ _ _).trans ((out_at m c t _ (fun h d e => ?_) _ _ _).trans (outp_congr _ rfl rfl (by show (0 : ℕ) = _ / 128; omega) hy0.symm (by show _ = _ % 128; omega))); exact (congrFun ((Memref.isWhole_whole cc0_scratch0).read_unread _) _).trans (congrFun (congrFun (pre_eq m c t h0 h) d) e)

/-- What grid point `t` stores in the output's block. -/
theorem out_eq (c : Dev nD) (t : Fin cfg0.N) (y : S64x1024.Idx) :
    (outsAt0 m c t.val t.isLt).1 y = outp (args m c) (sq t) (ch t) (⟨(y 1).val / 128, by have : (y 1).val < 1024 := (y 1).isLt; omega⟩ : Fin 8)
      (y 0) (⟨(y 1).val % 128, Nat.mod_lt _ (by decide)⟩ : Fin 128) := by
  by_cases h0 : t.val % 64 = 0
  · exact out_A m c t h0 (by omega) y
  · by_cases h1 : t.val % 64 = 63
    · exact out_C m c t h0 h1 y
    · exact out_B m c t h0 h1 y

/-- What a sequence's last chunk stores in the final state's block. -/
theorem fin_eq (c : Dev nD) (t : Fin cfg0.N) (h1 : t.val % 64 = 63) (y : S1x8x128x128.Idx) :
    (outsAt0 m c t.val t.isLt).2.1 y = state (args m c) (sq t) (y 1) 64 le_rfl (y 2) (y 3) := by
  have h0 : ¬t.val % 64 = 0 := by omega
  have e := congrFun (congrFun (sc_eq m c t.val t.isLt (y 1)) (y 2)) (y 3)
  have e' := congrFun (congrFun (state_congr (args m c) (y 1) (b := sq t) rfl (show t.val % 64 + 1 = 64 by omega) (by omega) le_rfl) (y 2)) (y 3)
  refine Eq.trans ?_ (e.trans e')
  unfold sc
  rw [outsAt0_C m c t h0 h1]
  frame_out
  pointwise [k0_pay8]

/-- The output array the kernel leaves. -/
theorem final_o (c : Dev nD) : (dats m 0 c).arrAt 9 (cfgs 0).N = fun i : S8192x1024.Idx =>
    outp (args m c) (⟨(i 0).val / 4096, by have : (i 0).val < 8192 := (i 0).isLt; omega⟩ : Fin 2)
      (⟨(i 0).val / 64 % 64, Nat.mod_lt _ (by decide)⟩ : Fin 64) (⟨(i 1).val / 128, by have : (i 1).val < 1024 := (i 1).isLt; omega⟩ : Fin 8)
      (⟨(i 0).val % 64, Nat.mod_lt _ (by decide)⟩ : Fin 64) (⟨(i 1).val % 128, Nat.mod_lt _ (by decide)⟩ : Fin 128) := by
  refine (dats m 0 c).arrAt_eq_of_covers 9 _ (by decide +kernel) fun t _ y => ?_
  blk_simp
  rw [after0_9, out_eq]
  have ht := lt128 t
  have hy : (y 0).val < 64 := (y 0).isLt
  refine outp_congr _ ?_ ?_ ?_ ?_ ?_
  all_goals
    blk_simp [idx t]
    try dsimp only
    try omega

/-- The final states the kernel leaves. -/
theorem final_s (c : Dev nD) : (dats m 0 c).arrAt 10 (cfgs 0).N = fun i : S2x8x128x128.Idx =>
    state (args m c) (i 0) (i 1) 64 le_rfl (i 2) (i 3) := by
  refine (dats m 0 c).arrAt_eq_of_covers 10 _ (by decide +kernel) fun t hf y => ?_
  blk_simp
  rw [after0_10, fin_eq m c t ((flush0_10 t).mp hf)]
  have ht := lt128 t
  refine state_entry _ _ _ ?_ ?_ ?_ ?_
  all_goals
    blk_simp [idx t]
    try omega

end Cert.Scan.K
end
end
-- ==== Proof.ScanRef.lean ====
module

public import proofs.«01_k».proof.Proof.ScanSpec
public import proofs.«01_k».proof.Proof.Gen.ReferenceIdeal.Run
public import Idealize.ShloMosaic.Lib.Claim
public import Idealize.ShloMosaic.Lib.WordCmp

/-! The reference's loop over the chunks, read at an index: what it carries is the recurrence's state and its outputs. -/

set_option maxRecDepth 16384

@[expose] public section
noncomputable section

open Idealize.ShloMosaic Idealize.ShloMosaic.TcCoe Idealize.ShloMosaic.StableHlo Idealize.SL.Sem
open Cert.ReferenceIdeal Cert.ReferenceIdeal.Gen Cert.ReferenceIdeal.Value

namespace Cert.Scan.R

variable (m : (ℓ : Loc nD τ sig) → Buf (Elt Ideal) ℓ)

/-- The recurrence's arrays as the reference's arguments hold them. -/
def args (c : Dev nD) : In where
  u := fun b t l => m ((c : Thread nD τ).loc main_arg0) (ix3 b t l)
  w := fun b t l => m ((c : Thread nD τ).loc main_arg1) (ix3 b t l)
  q := fun b t l => m ((c : Thread nD τ).loc main_arg2) (ix3 b t l)
  k := fun b t l => m ((c : Thread nD τ).loc main_arg3) (ix3 b t l)
  s := fun b t l => m ((c : Thread nD τ).loc main_arg4) (ix3 b t l)
  g := fun b k h => m ((c : Thread nD τ).loc main_arg5) (ix3 b k h)
  z := fun b t l => m ((c : Thread nD τ).loc main_arg6) (ix3 b t l)
  n := fun e => m ((c : Thread nD τ).loc main_arg7) (ix1 e)
  s0 := fun b h d e => m ((c : Thread nD τ).loc main_arg8) (ix4 b h d e)

/-- The loop's carried buffers before its first trip. -/
abbrev V0 (c : Dev nD) : Valuation τ sig (Elt Ideal) := entryContents preI m c

theorem v0_q (c : Dev nD) (k : Fin 64) (b : Fin 2) (h : Fin 8) (i : Fin 64) (d : Fin 128) :
    V0 m c (Proc.devRef .tc main_v16_0) (ix5 k b h i d) = (args m c).q b (tok k i) (lane h d) := by
  show _ = m ((c : Thread nD τ).loc main_arg2) (ix3 b (tok k i) (lane h d))
  simp only [V0, entryContents, afterL_cons, afterL_nil]
  entry_read
  simp only [id_eq]
  pointwise
  exact congrArg (m ((c : Thread nD τ).loc main_arg2)) (by idx_ext)

theorem v0_u (c : Dev nD) (k : Fin 64) (b : Fin 2) (h : Fin 8) (i : Fin 64) (d : Fin 128) :
    V0 m c (Proc.devRef .tc main_v16_2) (ix5 k b h i d) = (args m c).u b (tok k i) (lane h d) := by
  show _ = m ((c : Thread nD τ).loc main_arg0) (ix3 b (tok k i) (lane h d))
  simp only [V0, entryContents, afterL_cons, afterL_nil]
  entry_read
  simp only [id_eq]
  pointwise
  exact congrArg (m ((c : Thread nD τ).loc main_arg0)) (by idx_ext)

theorem v0_w (c : Dev nD) (k : Fin 64) (b : Fin 2) (h : Fin 8) (i : Fin 64) (d : Fin 128) :
    V0 m c (Proc.devRef .tc main_v16_3) (ix5 k b h i d) = (args m c).w b (tok k i) (lane h d) := by
  show _ = m ((c : Thread nD τ).loc main_arg1) (ix3 b (tok k i) (lane h d))
  simp only [V0, entryContents, afterL_cons, afterL_nil]
  entry_read
  simp only [id_eq]
  pointwise
  exact congrArg (m ((c : Thread nD τ).loc main_arg1)) (by idx_ext)

theorem v0_k (c : Dev nD) (k : Fin 64) (b : Fin 2) (h : Fin 8) (i : Fin 64) (d : Fin 128) :
    V0 m c (Proc.devRef .tc main_v16_4) (ix5 k b h i d) = (args m c).k b (tok k i) (lane h d) := by
  show _ = m ((c : Thread nD τ).loc main_arg3) (ix3 b (tok k i) (lane h d))
  simp only [V0, entryContents, afterL_cons, afterL_nil]
  entry_read
  simp only [id_eq]
  pointwise
  exact congrArg (m ((c : Thread nD τ).loc main_arg3)) (by idx_ext)

theorem v0_s (c : Dev nD) (k : Fin 64) (b : Fin 2) (h : Fin 8) (i j : Fin 64) :
    V0 m c (Proc.devRef .tc main_v16_1) (ix5 k b h i j) = (args m c).s b (tok k i) (col h j) := by
  show _ = m ((c : Thread nD τ).loc main_arg4) (ix3 b (tok k i) (col h j))
  simp only [V0, entryContents, afterL_cons, afterL_nil]
  entry_read
  simp only [id_eq]
  pointwise
  exact congrArg (m ((c : Thread nD τ).loc main_arg4)) (by idx_ext)

theorem v0_g (c : Dev nD) (k : Fin 64) (b : Fin 2) (h : Fin 8) :
    V0 m c (Proc.devRef .tc main_v16_5) (ix3 k b h) = (args m c).g b k h := by
  show _ = m ((c : Thread nD τ).loc main_arg5) (ix3 b k h)
  simp only [V0, entryContents, afterL_cons, afterL_nil]
  entry_read
  simp only [id_eq]
  pointwise

theorem v0_s0 (c : Dev nD) (b : Fin 2) (h : Fin 8) (d e : Fin 128) :
    V0 m c (Proc.devRef .tc main_v16_7) (ix4 b h d e) = (args m c).s0 b h d e := by
  show _ = m ((c : Thread nD τ).loc main_arg8) (ix4 b h d e)
  simp only [V0, entryContents, afterL_cons, afterL_nil]
  entry_read
  simp only [id_eq]

/-- The word the loop slices at, read as a number. -/
theorem start_at (k : Fin 64) (a : Fin 5) (i : S_.Idx) :
    BitVec.toInt ((![fun _ => BitVec.ofNat 32 k.val, constantI S_ 32 0#32, constantI S_ 32 0#32, constantI S_ 32 0#32,
      constantI S_ 32 0#32] : Fin 5 → S_.Idx → BitVec 32) a i) = ((![k.val, 0, 0, 0, 0] : Fin 5 → Nat) a : Int) := by
  have hk := k.isLt
  fin_cases a
  · show (BitVec.ofNat 32 k.val).toInt = (k.val : Int)
    rw [BitVec.toInt_eq_toNat_of_lt (by rw [BitVec.toNat_ofNat]; omega), BitVec.toNat_ofNat]
    omega
  all_goals rfl

theorem fits128 (k : Fin 64) : S64x2x8x64x128.Slices ![k.val, 0, 0, 0, 0] S1x2x8x64x128 :=
  ⟨rfl, fun a => by have := k.isLt; fin_cases a <;> simp [Shape.size] <;> omega⟩

theorem fits64 (k : Fin 64) : S64x2x8x64x64.Slices ![k.val, 0, 0, 0, 0] S1x2x8x64x64 :=
  ⟨rfl, fun a => by have := k.isLt; fin_cases a <;> simp [Shape.size] <;> omega⟩

/-- Chunk `k` of the arrays with 128 columns a head. -/
theorem row128 {α : Type} (X : S64x2x8x64x128.Idx → α) (k : Fin 64) (b : Fin 2) (h : Fin 8) (i : Fin 64) (d : Fin 128) :
    shapeCast S2x8x64x128 (Host.dynamicSlice S1x2x8x64x128 X (fun a => BitVec.toInt ((![fun _ => BitVec.ofNat 32 k.val,
      constantI S_ 32 0#32, constantI S_ 32 0#32, constantI S_ 32 0#32, constantI S_ 32 0#32] : Fin 5 → S_.Idx → BitVec 32) a
      (Shape.Idx.first h_S_))) sliceFits_S64x2x8x64x128_S1x2x8x64x128) shapeCasts_S1x2x8x64x128_S2x8x64x128 (ix4 b h i d)
      = X (ix5 k b h i d) := by
  rw [WordCmp.dynamicSlice_eq_extract _ _ _ _ ![k.val, 0, 0, 0, 0] (fits128 k) (fun a => start_at k a _)]
  pointwise

/-- Chunk `k` of the arrays with 64 columns a head. -/
theorem row64 {α : Type} (X : S64x2x8x64x64.Idx → α) (k : Fin 64) (b : Fin 2) (h : Fin 8) (i : Fin 64) (d : Fin 64) :
    shapeCast S2x8x64x64 (Host.dynamicSlice S1x2x8x64x64 X (fun a => BitVec.toInt ((![fun _ => BitVec.ofNat 32 k.val,
      constantI S_ 32 0#32, constantI S_ 32 0#32, constantI S_ 32 0#32, constantI S_ 32 0#32] : Fin 5 → S_.Idx → BitVec 32) a
      (Shape.Idx.first h_S_))) sliceFits_S64x2x8x64x64_S1x2x8x64x64) shapeCasts_S1x2x8x64x64_S2x8x64x64 (ix4 b h i d)
      = X (ix5 k b h i d) := by
  rw [WordCmp.dynamicSlice_eq_extract _ _ _ _ ![k.val, 0, 0, 0, 0] (fits64 k) (fun a => start_at k a _)]
  pointwise

theorem start3_at (k : Fin 64) (a : Fin 3) (i : S_.Idx) :
    BitVec.toInt ((![fun _ => BitVec.ofNat 32 k.val, constantI S_ 32 0#32, constantI S_ 32 0#32] : Fin 3 → S_.Idx → BitVec 32) a i)
      = ((![k.val, 0, 0] : Fin 3 → Nat) a : Int) := by
  fin_cases a
  · exact start_at k 0 i
  all_goals rfl

theorem fitsg (k : Fin 64) : S64x2x8.Slices ![k.val, 0, 0] S1x2x8 :=
  ⟨rfl, fun a => by have := k.isLt; fin_cases a <;> simp [Shape.size] <;> omega⟩

/-- Chunk `k`'s decays. -/
theorem rowg {α : Type} (X : S64x2x8.Idx → α) (k : Fin 64) (b : Fin 2) (h : Fin 8) :
    shapeCast S2x8 (Host.dynamicSlice S1x2x8 X (fun a => BitVec.toInt ((![fun _ => BitVec.ofNat 32 k.val,
      constantI S_ 32 0#32, constantI S_ 32 0#32] : Fin 3 → S_.Idx → BitVec 32) a
      (Shape.Idx.first h_S_))) sliceFits_S64x2x8_S1x2x8) shapeCasts_S1x2x8_S2x8 (ix2 b h) = X (ix3 k b h) := by
  rw [WordCmp.dynamicSlice_eq_extract _ _ _ _ ![k.val, 0, 0]
    (fitsg k) (fun a => start3_at k a _)]
  pointwise

/-- Row `j` of the stacked outputs after row `k` is written. -/
theorem put {α : Type} (X : S64x2x8x64x128.Idx → α) (Y : S1x2x8x64x128.Idx → α) (k j : Fin 64) (b : Fin 2) (h : Fin 8) (i : Fin 64) (d : Fin 128) :
    Host.dynamicUpdateSlice X Y (fun a => BitVec.toInt ((![fun _ => BitVec.ofNat 32 k.val,
      constantI S_ 32 0#32, constantI S_ 32 0#32, constantI S_ 32 0#32, constantI S_ 32 0#32] : Fin 5 → S_.Idx → BitVec 32) a
      (Shape.Idx.first h_S_))) updateFits_S64x2x8x64x128_S1x2x8x64x128 (ix5 j b h i d)
      = if j = k then Y (ix5 0 b h i d) else X (ix5 j b h i d) := by
  rw [WordCmp.dynamicUpdateSlice_eq_update _ _ _ _ ![k.val, 0, 0, 0, 0] (fits128 k) (fun a => start_at k a _)]
  pointwise
  by_cases hjk : j = k
  · subst hjk
    rw [dif_pos ⟨le_rfl, Nat.lt_succ_self _⟩, if_pos rfl]
    exact congrArg Y (by idx_ext)
  · have hv : j.val ≠ k.val := fun e => hjk (Fin.ext e)
    rw [dif_neg (by omega), if_neg hjk]

/-- Chunk `k` of an array with 128 columns a head, as the loop slices it. -/
def chunk {α : Type} (X : S64x2x8x64x128.Idx → α) (k : Fin 64) : S2x8x64x128.Idx → α :=
  shapeCast S2x8x64x128 (Host.dynamicSlice S1x2x8x64x128 X (fun a => BitVec.toInt ((![fun _ => BitVec.ofNat 32 k.val,
      constantI S_ 32 0#32, constantI S_ 32 0#32, constantI S_ 32 0#32, constantI S_ 32 0#32] : Fin 5 → S_.Idx → BitVec 32) a
      (Shape.Idx.first h_S_))) sliceFits_S64x2x8x64x128_S1x2x8x64x128) shapeCasts_S1x2x8x64x128_S2x8x64x128

/-- Chunk `k` of an array with 64 columns a head, as the loop slices it. -/
def chunk64 {α : Type} (X : S64x2x8x64x64.Idx → α) (k : Fin 64) : S2x8x64x64.Idx → α :=
  shapeCast S2x8x64x64 (Host.dynamicSlice S1x2x8x64x64 X (fun a => BitVec.toInt ((![fun _ => BitVec.ofNat 32 k.val,
      constantI S_ 32 0#32, constantI S_ 32 0#32, constantI S_ 32 0#32, constantI S_ 32 0#32] : Fin 5 → S_.Idx → BitVec 32) a
      (Shape.Idx.first h_S_))) sliceFits_S64x2x8x64x64_S1x2x8x64x64) shapeCasts_S1x2x8x64x64_S2x8x64x64

/-- Chunk `k`'s decays, as the loop slices them. -/
def chunkg {α : Type} (X : S64x2x8.Idx → α) (k : Fin 64) : S2x8.Idx → α :=
  shapeCast S2x8 (Host.dynamicSlice S1x2x8 X (fun a => BitVec.toInt ((![fun _ => BitVec.ofNat 32 k.val,
      constantI S_ 32 0#32, constantI S_ 32 0#32] : Fin 3 → S_.Idx → BitVec 32) a
      (Shape.Idx.first h_S_))) sliceFits_S64x2x8_S1x2x8) shapeCasts_S1x2x8_S2x8

/-- The corrected values of one chunk. -/
theorem corr_pure (U W : S64x2x8x64x128.Idx → Ideal .f32) (S : S2x8x128x128.Idx → Ideal .f32) (k : Fin 64)
    (b : Fin 2) (h : Fin 8) (i : Fin 64) (e : Fin 128) :
    subf (F := Ideal) (chunk U k) (Host.dotGeneral dot_S2x8x64x128_S2x8x128x128_S2x8x64x128_3_2_2_3_01_01 none (chunk W k) S) (ix4 b h i e)
      = U (ix5 k b h i e) - ∑ d : Fin 128, W (ix5 k b h i d) * S (ix4 b h d e) := by
  pointwise
  have r : ∀ (X : S64x2x8x64x128.Idx → Ideal .f32) d, chunk X k (ix4 b h i d) = X (ix5 k b h i d) := fun X d => row128 X k b h i d
  simp only [r]

/-- The state after one chunk. -/
theorem next_pure (K : S64x2x8x64x128.Idx → Ideal .f32) (G : S64x2x8.Idx → Ideal .f32) (S : S2x8x128x128.Idx → Ideal .f32)
    (R : S2x8x64x128.Idx → Ideal .f32) (k : Fin 64) (b : Fin 2) (h : Fin 8) (d e : Fin 128) :
    addf (F := Ideal) (mulf S (broadcastInDim S2x8x128x128 ![0, 1, 2, 3] bcast_S2x8x1x1_S2x8x128x128_0_1_2_3
        (broadcastInDim S2x8x1x1 ![0, 1] bcast_S2x8_S2x8x1x1_0_1 (chunkg G k))))
      (Host.dotGeneral dot_S2x8x128x64_S2x8x64x128_S2x8x128x128_3_2_2_3_01_01 none
        (transpose S2x8x128x64 [0, 1, 3, 2] (chunk K k) transposes_S2x8x64x128_S2x8x128x64_0_1_3_2) R) (ix4 b h d e)
      = S (ix4 b h d e) * G (ix3 k b h) + ∑ i : Fin 64, K (ix5 k b h i d) * R (ix4 b h i e) := by
  pointwise
  have r : ∀ i, chunk K k (ix4 b h i d) = K (ix5 k b h i d) := fun i => row128 K k b h i d
  have rg : chunkg G k (ix2 b h) = G (ix3 k b h) := rowg G k b h
  simp only [r, rg]

/-- The outputs of one chunk. -/
theorem read_pure (Q : S64x2x8x64x128.Idx → Ideal .f32) (P : S64x2x8x64x64.Idx → Ideal .f32) (S : S2x8x128x128.Idx → Ideal .f32)
    (R : S2x8x64x128.Idx → Ideal .f32) (k : Fin 64) (b : Fin 2) (h : Fin 8) (i : Fin 64) (e : Fin 128) :
    broadcastInDim S1x2x8x64x128 ![1, 2, 3, 4] bcast_S2x8x64x128_S1x2x8x64x128_1_2_3_4 (addf (F := Ideal)
      (Host.dotGeneral dot_S2x8x64x128_S2x8x128x128_S2x8x64x128_3_2_2_3_01_01 none (chunk Q k) S)
      (Host.dotGeneral dot_S2x8x64x64_S2x8x64x128_S2x8x64x128_3_2_2_3_01_01 none (chunk64 P k) R)) (ix5 0 b h i e)
      = (∑ d : Fin 128, Q (ix5 k b h i d) * S (ix4 b h d e)) + ∑ j : Fin 64, P (ix5 k b h i j) * R (ix4 b h j e) := by
  pointwise
  have r : ∀ d, chunk Q k (ix4 b h i d) = Q (ix5 k b h i d) := fun d => row128 Q k b h i d
  have r' : ∀ j, chunk64 P k (ix4 b h i j) = P (ix5 k b h i j) := fun j => row64 P k b h i j
  simp only [r, r']

/-- The loop's buffers hold the recurrence's arrays, chunk by chunk, and its counter is `k`. -/
structure Holds (x : In) (k : ℕ) (V : Valuation τ sig (Elt Ideal)) : Prop where
  ctr : V (Proc.devRef .tc main_v16_6) = fun _ => BitVec.ofNat 32 k
  q : ∀ k b h i d, V (Proc.devRef .tc main_v16_0) (ix5 k b h i d) = x.q b (tok k i) (lane h d)
  s : ∀ k b h i j, V (Proc.devRef .tc main_v16_1) (ix5 k b h i j) = x.s b (tok k i) (col h j)
  u : ∀ k b h i d, V (Proc.devRef .tc main_v16_2) (ix5 k b h i d) = x.u b (tok k i) (lane h d)
  w : ∀ k b h i d, V (Proc.devRef .tc main_v16_3) (ix5 k b h i d) = x.w b (tok k i) (lane h d)
  k : ∀ k b h i d, V (Proc.devRef .tc main_v16_4) (ix5 k b h i d) = x.k b (tok k i) (lane h d)
  g : ∀ k b h, V (Proc.devRef .tc main_v16_5) (ix3 k b h) = x.g b k h

/-- The state `V` carries for a sequence and a head. -/
abbrev st (V : Valuation τ sig (Elt Ideal)) (b : Fin 2) (h : Fin 8) (d e : Fin 128) : EReal :=
  V (Proc.devRef .tc main_v16_7) (ix4 b h d e)

/-- One trip's corrected values are the recurrence's. -/
theorem corr_v (V : Valuation τ sig (Elt Ideal)) (x : In) (k : Fin 64) (H : Holds x k.val V)
    (b : Fin 2) (h : Fin 8) (i : Fin 64) (e : Fin 128) :
    res_main_while0b_v44 V (ix4 b h i e) = corr x b k h (st V b h) i e := by
  unfold res_main_while0b_v44
  rw [H.ctr]
  refine (corr_pure (V (Proc.devRef .tc main_v16_2)) (V (Proc.devRef .tc main_v16_3)) (V (Proc.devRef .tc main_v16_7)) k b h i e).trans ?_
  rw [H.u]
  exact congrArg (_ - ·) (Finset.sum_congr rfl fun d _ => congrArg (· * _) (H.w k b h i d))

/-- One trip's new state is the recurrence's. -/
theorem step_s (V : Valuation τ sig (Elt Ideal)) (x : In) (k : Fin 64) (H : Holds x k.val V)
    (b : Fin 2) (h : Fin 8) (d e : Fin 128) : step_main_v16_7 V (ix4 b h d e) = next x b k h (st V b h) d e := by
  unfold step_main_v16_7
  rw [H.ctr]
  refine (next_pure (V (Proc.devRef .tc main_v16_4)) (V (Proc.devRef .tc main_v16_5)) (V (Proc.devRef .tc main_v16_7))
    (res_main_while0b_v44 V) k b h d e).trans ?_
  refine congrArg₂ (· + ·) (congrArg (st V b h d e * ·) (H.g k b h)) (Finset.sum_congr rfl fun i _ => ?_)
  exact congrArg₂ (· * ·) (H.k k b h i d) (corr_v V x k H b h i e)

/-- One trip writes the recurrence's outputs into its row and leaves the other rows. -/
theorem step_o (V : Valuation τ sig (Elt Ideal)) (x : In) (k : Fin 64) (H : Holds x k.val V)
    (j : Fin 64) (b : Fin 2) (h : Fin 8) (i : Fin 64) (e : Fin 128) :
    step_main_v16_8 V (ix5 j b h i e)
      = if j = k then read x b k h (st V b h) i e else V (Proc.devRef .tc main_v16_8) (ix5 j b h i e) := by
  unfold step_main_v16_8
  rw [H.ctr]
  refine (put (V (Proc.devRef .tc main_v16_8)) _ k j b h i e).trans (if_congr Iff.rfl ?_ rfl)
  refine (read_pure (V (Proc.devRef .tc main_v16_0)) (V (Proc.devRef .tc main_v16_1)) (V (Proc.devRef .tc main_v16_7))
    (res_main_while0b_v44 V) k b h i e).trans ?_
  refine congrArg₂ (· + ·) (Finset.sum_congr rfl fun d _ => congrArg (· * _) (H.q k b h i d)) (Finset.sum_congr rfl fun j _ => ?_)
  exact congrArg₂ (· * ·) (H.s k b h i j) (corr_v V x k H b h j e)

/-- The buffers after `k` trips. -/
abbrev VK (c : Dev nD) (k : ℕ) : Valuation τ sig (Elt Ideal) := STEP^[k] (V0 m c)

theorem vk_succ (c : Dev nD) (k : ℕ) : VK m c (k + 1) = STEP (VK m c k) := Function.iterate_succ_apply' _ _ _

/-- Every trip keeps the arrays and counts. -/
theorem holds (c : Dev nD) : ∀ k, Holds (args m c) k (VK m c k)
  | 0 => ⟨ctr_entry m c, v0_q m c, v0_s m c, v0_u m c, v0_w m c, v0_k m c, v0_g m c⟩
  | k + 1 => by
    have H := holds c k
    rw [vk_succ]
    refine ⟨?_, ?_, ?_, ?_, ?_, ?_, ?_⟩
    · rw [STEP_main_v16_6]
      unfold step_main_v16_6
      rw [H.ctr]
      funext i
      show BitVec.ofNat 32 k + 1#32 = BitVec.ofNat 32 (k + 1)
      rw [BitVec.ofNat_add]
    · rw [STEP_main_v16_0]; exact H.q
    · rw [STEP_main_v16_1]; exact H.s
    · rw [STEP_main_v16_2]; exact H.u
    · rw [STEP_main_v16_3]; exact H.w
    · rw [STEP_main_v16_4]; exact H.k
    · rw [STEP_main_v16_5]; exact H.g

/-- After `k` trips the carried state is the recurrence's. -/
theorem state_v (c : Dev nD) (b : Fin 2) (h : Fin 8) : ∀ (k : ℕ) (hk : k ≤ 64) (d e : Fin 128),
    st (VK m c k) b h d e = state (args m c) b h k hk d e
  | 0, _, d, e => v0_s0 m c b h d e
  | k + 1, hk, d, e => by
    have e' : st (VK m c k) b h = state (args m c) b h k (by omega) := funext fun d => funext fun e => state_v c b h k (by omega) d e
    show VK m c (k + 1) (Proc.devRef .tc main_v16_7) (ix4 b h d e) = _
    rw [vk_succ, STEP_main_v16_7, step_s _ (args m c) ⟨k, by omega⟩ (holds m c k), e']
    rfl

/-- After `k` trips the rows before `k` hold the recurrence's outputs. -/
theorem rows_v (c : Dev nD) (j : Fin 64) (b : Fin 2) (h : Fin 8) (i : Fin 64) (e : Fin 128) : ∀ k, k ≤ 64 → j.val < k →
    VK m c k (Proc.devRef .tc main_v16_8) (ix5 j b h i e)
      = read (args m c) b j h (state (args m c) b h j.val j.isLt.le) i e
  | 0, _, hj => absurd hj (Nat.not_lt_zero _)
  | k + 1, hk, hj => by
    rw [vk_succ, STEP_main_v16_8, step_o _ (args m c) ⟨k, by omega⟩ (holds m c k)]
    by_cases hjk : j.val = k
    · subst hjk
      rw [if_pos rfl]
      exact congrArg (fun S => read (args m c) b j h S i e) (funext fun d => funext fun e => state_v m c b h j.val j.isLt.le d e)
    · rw [if_neg fun hh => hjk (congrArg Fin.val hh)]
      exact rows_v c j b h i e k (by omega) (by omega)

/-- The reference's gated outputs, of any contents of the loop's buffers. -/
theorem out_pure (V : Valuation τ sig (Elt Ideal)) (i0 : Fin 8192) (i1 : Fin 1024) :
    out_main_v36 V (ix2 i0 i1) = gated (fun e => V (Proc.devRef .tc main_v16_8)
        (ix5 ⟨i0.val % 4096 / 64, by omega⟩ ⟨i0.val / 4096, by omega⟩ ⟨i1.val / 128, by omega⟩ ⟨i0.val % 4096 % 64, by omega⟩ e))
      (V (Proc.devRef .tc main_arg7) (ix1 ⟨i1.val % 128, by omega⟩))
      (V (Proc.devRef .tc main_arg6) (ix3 ⟨i0.val / 4096, by omega⟩ ⟨i0.val % 4096, by omega⟩ i1)) ⟨i1.val % 128, by omega⟩ := by
  unfold out_main_v36 gated
  pointwise
  rfl

/-- The reference's gated outputs are the recurrence's. -/
theorem out_v (c : Dev nD) (N : ℕ) (hN : N = 64) (i0 : Fin 8192) (i1 : Fin 1024) :
    out_main_v36 (VK m c N) (ix2 i0 i1) = outp (args m c) ⟨i0.val / 4096, by omega⟩
      ⟨i0.val / 64 % 64, by omega⟩ ⟨i1.val / 128, by omega⟩ ⟨i0.val % 64, by omega⟩ ⟨i1.val % 128, by omega⟩ := by
  rw [out_pure]
  unfold VK
  rw [iter_main_arg7, iter_main_arg6]
  unfold outp
  have hr := fun j b h i e => rows_v m c j b h i e N hN.le (by have := j.isLt; omega)
  have ht : i0.val % 4096 = 64 * (i0.val / 64 % 64) + i0.val % 64 := by omega
  congr 1
  · funext e
    refine (hr _ _ _ _ e).trans ?_
    have e1 : (⟨i0.val % 4096 / 64, by omega⟩ : Fin 64) = ⟨i0.val / 64 % 64, by omega⟩ := Fin.ext (by dsimp only; omega)
    have e2 : (⟨i0.val % 4096 % 64, by omega⟩ : Fin 64) = ⟨i0.val % 64, by omega⟩ := Fin.ext (by dsimp only; omega)
    rw [e1, e2]
  · exact congrArg (m ((c : Thread nD τ).loc main_arg6)) (by idx_ext <;> simp only [tok, lane] <;> omega)

/-- The reference's last state is the recurrence's after every chunk. -/
theorem last_v (c : Dev nD) (N : ℕ) (hN : N = 64) (b : Fin 2) (h : Fin 8) (d e : Fin 128) :
    VK m c N (Proc.devRef .tc main_v16_7) (ix4 b h d e) = state (args m c) b h 64 le_rfl d e := by
  subst hN
  exact state_v m c b h 64 le_rfl d e

end Cert.Scan.R
end
end
-- ==== Proof.ScanClaim.lean ====
module

public import proofs.«01_k».proof.Defs
public import proofs.«01_k».proof.Proof.ScanRun
public import proofs.«01_k».proof.Proof.ScanRef
public import proofs.«01_k».proof.Proof.Gen.Kernel
public import proofs.«01_k».proof.Proof.Gen.Kernel.Frame
public import Idealize.ShloMosaic.Lib.Quiescent

/-! The claims about the recurrence over the chunks: the two frames of the kernel, the reference's frame, and that the kernel and
the reference end with the same outputs and the same last state. -/

set_option maxRecDepth 16384

@[expose] public section
noncomputable section

open Idealize.ShloMosaic Idealize.SL.Sem

namespace Cert.Scan

/-- The printed kernel runs, leaves its arguments and its counters. -/
theorem frame_kernel : Cert.quiescent_Kernel (hKernel := Cert.Kernel.Gen.facts) := fun m g _ => Cert.Kernel.Gen.frame m g

/-- The idealized kernel runs, leaves its arguments and its counters. -/
theorem frame_ideal : Cert.quiescent_KernelIdeal (hKernelIdeal := Cert.KernelIdeal.Gen.facts) := fun m g _ => Cert.KernelIdeal.Gen.frame m g

/-- The reference runs, leaves its arguments and its counters. -/
theorem frame_reference : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems rfl _⟩) (Cert.ReferenceIdeal.Value.run m g)

/-- Kernel and reference hold the same arrays when their arguments agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    R.args m' c = K.args m c := by
  unfold R.args K.args
  rw [h0, h1, h2, h3, h4, h5, h6, h7, h8]

/-- The kernel and the reference end with the same outputs and the same last state. -/
theorem value : Cert.algebraic_KernelIdeal_ReferenceIdeal (hKernelIdeal := Cert.KernelIdeal.Gen.facts)
    (hReferenceIdeal := Cert.ReferenceIdeal.Gen.facts) := by
  intro m g m' g' _ hagree
  have he : ∀ c, R.args m' c = K.args m c := fun c => args_eq m m' c (hagree c).1 (hagree c).2.1 (hagree c).2.2.1 (hagree c).2.2.2.1
    (hagree c).2.2.2.2.1 (hagree c).2.2.2.2.2.1 (hagree c).2.2.2.2.2.2.1 (hagree c).2.2.2.2.2.2.2.1 (hagree c).2.2.2.2.2.2.2.2
  refine ⟨fun c => Cert.KernelIdeal.Value.G9 m c, fun c => Cert.KernelIdeal.Value.G10 m c, Cert.KernelIdeal.Value.run m g,
    (θ_run Cert.ReferenceIdeal.defs _ _).mono (fun r h c => ⟨(h c).1.trans ?_, (h c).2.1.trans ?_, (h c).2.2⟩)
      (Cert.ReferenceIdeal.Value.run m' g')⟩
  · refine Eq.trans ?_ ((Cert.KernelIdeal.Value.final9 m c).symm.trans (K.final_o m c)).symm
    funext i
    obtain ⟨i0, i1, rfl⟩ : ∃ (i0 : Fin 8192) (i1 : Fin 1024), i = ix2 i0 i1 := ⟨i 0, i 1, by idx_ext⟩
    exact (R.out_v m' c 64 rfl i0 i1).trans (by rw [he]; rfl)
  · refine Eq.trans ?_ ((Cert.KernelIdeal.Value.final10 m c).symm.trans (K.final_s m c)).symm
    funext i
    obtain ⟨b, h, d, e, rfl⟩ : ∃ (b : Fin 2) (h : Fin 8) (d e : Fin 128), i = ix4 b h d e := ⟨i 0, i 1, i 2, i 3, by idx_ext⟩
    exact (R.last_v m' c 64 rfl b h d e).trans (by rw [he]; rfl)

end Cert.Scan
end
end
-- ==== Proof.Proj.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

/-! The input projection: the product the kernel leaves, column block by column block, is the reference's product. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel2Ideal.Proj

open Cert.Kernel2Ideal Cert.Kernel2Ideal.Gen

/-- The product of the rows with the weights of the first layer. -/
def prod (X : FVec Ideal S2x4096x2048 .f32) (U : FVec Ideal S4x2048x7168 .bf16) : FVec Ideal S8192x7168 .f32 := fun i =>
  (∑ k : Fin 2048, X (ix3 (⟨(i 0).val / 4096, by have := (i 0).isLt; change _ < 8192 at this; omega⟩ : Fin 2) (⟨(i 0).val % 4096, by omega⟩ : Fin 4096) k)
    * U (ix3 (0 : Fin 4) k (i 1)) : EReal)

variable (m : (ℓ : Loc nD τ sig) → Buf (Elt Ideal) ℓ)

/-- Which block of its array each window stages at a point. -/
theorem idx : ∀ t : Fin cfg0.N, win0_0.index t = ![t.val / 7, 0] ∧ win0_1.index t = ![0, 0, t.val % 7] ∧ win0_2.index t = ![t.val / 7, t.val % 7] :=
  (by decide +kernel : ∀ t : Fin grid0.N, _)

/-- The rows at the region's start. -/
theorem entry_x (c : Dev nD) (i : Fin 8192) (k : Fin 2048) :
    V m c main_v0 (ix2 i k) = m ((c : Thread nD τ).loc main_arg0) (ix3 (⟨i.val / 4096, by omega⟩ : Fin 2) (⟨i.val % 4096, by omega⟩ : Fin 4096) k) := by
  simp only [V, V0, hostOps0, List.flatten_cons, List.flatten_nil, List.append_nil, List.cons_append, List.nil_append]
  entry_read
  pointwise

/-- A block of rows, as rows of the argument. -/
theorem rows (c : Dev nD) (t : Fin cfg0.N) (i : Fin 1024) (k : Fin 2048) (h : t.val / 7 < 8) : iblk m c 0 t (ix2 i k)
    = m ((c : Thread nD τ).loc main_arg0) (ix3 (⟨((t.val / 7) * 1024 + i.val) / 4096, by omega⟩ : Fin 2) (⟨((t.val / 7) * 1024 + i.val) % 4096, by omega⟩ : Fin 4096) k) := by
  refine (congrArg (V m c main_v0) (?_ : ((cfg0.win 0).blk t).view.emb (ix2 i k) = ix2 (⟨(t.val / 7) * 1024 + i.val, by omega⟩ : Fin 8192) k)).trans (entry_x m c _ k)
  blk_ext [idx t]

/-- A block of weights, as columns of the weights. -/
theorem cols (c : Dev nD) (t : Fin cfg0.N) (k : Fin 2048) (j : Fin 1024) : iblk m c 1 t (ix3 (0 : Fin 1) k j)
    = V m c main_v11 (ix3 (0 : Fin 4) k (⟨(t.val % 7) * 1024 + j.val, by omega⟩ : Fin 7168)) := by
  refine congrArg (V m c main_v11) (?_ : ((cfg0.win 1).blk t).view.emb (ix3 (0 : Fin 1) k j) = ix3 (0 : Fin 4) k (⟨(t.val % 7) * 1024 + j.val, by omega⟩ : Fin 7168))
  blk_ext [idx t]

/-- What a point stores is the product where the block lies. -/
theorem point (c : Dev nD) (t : Fin cfg0.N) (y) : k0_pay1 (iblk m c 0 t) (iblk m c 1 t) y
    = prod (m ((c : Thread nD τ).loc main_arg0)) (V m c main_v11) (((cfg0.win 2).blk t).view.emb y) := by
  have h : t.val / 7 < 8 := (by decide +kernel : ∀ t : Fin grid0.N, t.val / 7 < 8) t
  obtain ⟨i, j, rfl⟩ : ∃ (i j : Fin 1024), y = ix2 i j := ⟨y 0, y 1, by idx_ext⟩
  have e : ((cfg0.win 2).blk t).view.emb (ix2 i j) = ix2 (⟨(t.val / 7) * 1024 + i.val, by omega⟩ : Fin 8192) (⟨(t.val % 7) * 1024 + j.val, by omega⟩ : Fin 7168) := by
    blk_ext [idx t]
  refine Eq.trans ?_ (congrArg (prod (m ((c : Thread nD τ).loc main_arg0)) (V m c main_v11)) e.symm)
  pointwise [k0_pay1]
  exact Finset.sum_congr rfl fun k _ => by rw [rows m c t i k h, cols m c t k j]; rfl

/-- The product after the run. -/
theorem final (c : Dev nD) : (dats m 0 c).arrAt 2 (cfgs 0).N = prod (m ((c : Thread nD τ).loc main_arg0)) (V m c main_v11) := by
  refine (dats m 0 c).arrAt_eq_of_covers 2 _ (by decide +kernel) fun t _ y => ?_
  blk_simp
  rw [after0_2]; frame_out
  exact point m c t y

end Cert.Kernel2Ideal.Proj
end
end
-- ==== Proof.ProjCols.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

/-! The input projection's weights as the kernel lays them out: which of the argument's columns each column is. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel2Ideal.Proj

open Cert.Kernel2Ideal Cert.Kernel2Ideal.Gen

/-- Nine pieces side by side. -/
abbrev side (p0 : FVec Ideal S4x2048x3072 .f32) (p1 : FVec Ideal S4x2048x1024 .f32) (p2 : FVec Ideal S4x2048x1024 .f32) (p3 : FVec Ideal S4x2048x512 .f32) (p4 : FVec Ideal S4x2048x512 .f32) (p5 : FVec Ideal S4x2048x512 .f32) (p6 : FVec Ideal S4x2048x24 .f32) (p7 : FVec Ideal S4x2048x16 .f32) (p8 : FVec Ideal S4x2048x472 .f32) : FVec Ideal S4x2048x7168 .f32 := concatenate S4x2048x7168 2 [⟨S4x2048x3072, p0⟩, ⟨S4x2048x1024, p1⟩, ⟨S4x2048x1024, p2⟩, ⟨S4x2048x512, p3⟩, ⟨S4x2048x512, p4⟩, ⟨S4x2048x512, p5⟩, ⟨S4x2048x24, p6⟩, ⟨S4x2048x16, p7⟩, ⟨S4x2048x472, p8⟩] concatenates_S4x2048x3072_S4x2048x1024_S4x2048x1024_S4x2048x512_S4x2048x512_S4x2048x512_S4x2048x24_S4x2048x16_S4x2048x472_S4x2048x7168_d2

/-- The weights as the kernel lays them out. -/
abbrev weights (W : FVec Ideal S4x2048x6696 .f32) : FVec Ideal S4x2048x7168 .bf16 := truncf .bf16 (side (extractStridedSlice S4x2048x3072 ![0, 0, 2584] W slices_S4x2048x6696_S4x2048x3072_0_0_2584) (extractStridedSlice S4x2048x1024 ![0, 0, 0] W slices_S4x2048x6696_S4x2048x1024_0_0_0) (extractStridedSlice S4x2048x1024 ![0, 0, 5656] W slices_S4x2048x6696_S4x2048x1024_0_0_5656) (extractStridedSlice S4x2048x512 ![0, 0, 1024] W slices_S4x2048x6696_S4x2048x512_0_0_1024) (extractStridedSlice S4x2048x512 ![0, 0, 1536] W slices_S4x2048x6696_S4x2048x512_0_0_1536) (extractStridedSlice S4x2048x512 ![0, 0, 2048] W slices_S4x2048x6696_S4x2048x512_0_0_2048) (extractStridedSlice S4x2048x24 ![0, 0, 2560] W slices_S4x2048x6696_S4x2048x24_0_0_2560) (extractStridedSlice S4x2048x16 ![0, 0, 6680] W slices_S4x2048x6696_S4x2048x16_0_0_6680) (broadcastInDim S4x2048x472 ![] bcast_S_S4x2048x472 (constant S_ .f32 0x00000000#32))) bitsLt_bf16_f32

/-- The kernel's columns of the convolved channels, among the argument's columns. -/
theorem w_qkv (W : FVec Ideal S4x2048x6696 .f32) (k : Fin 2048) (j : Fin 3072) : weights W (ix3 (0 : Fin 4) k (⟨0 + j.val, by omega⟩ : Fin 7168))
    = W (ix3 (0 : Fin 4) k (⟨2584 + j.val, by omega⟩ : Fin 6696)) := by
  pointwise [weights, side]

/-- The kernel's columns of the queries, among the argument's columns. -/
theorem w_q (W : FVec Ideal S4x2048x6696 .f32) (k : Fin 2048) (j : Fin 1024) : weights W (ix3 (0 : Fin 4) k (⟨3072 + j.val, by omega⟩ : Fin 7168))
    = W (ix3 (0 : Fin 4) k (⟨0 + j.val, by omega⟩ : Fin 6696)) := by
  pointwise [weights, side]

/-- The kernel's columns of the output gates, among the argument's columns. -/
theorem w_z (W : FVec Ideal S4x2048x6696 .f32) (k : Fin 2048) (j : Fin 1024) : weights W (ix3 (0 : Fin 4) k (⟨4096 + j.val, by omega⟩ : Fin 7168))
    = W (ix3 (0 : Fin 4) k (⟨5656 + j.val, by omega⟩ : Fin 6696)) := by
  have hj := j.isLt
  pointwise [weights, side]
  rw [dif_neg (show ¬ (4096 + j.val < 3072) by omega)]
  rw [dif_neg (show ¬ (4096 + j.val - 3072 < 1024) by omega)]
  rw [dif_pos (show 4096 + j.val - 3072 - 1024 < 1024 by omega)]
  exact congrArg (fun x : Fin 6696 => W (ix3 (0 : Fin 4) k x)) (Fin.ext (by dsimp only; omega))

/-- The kernel's columns of the compressed keys and values, among the argument's columns. -/
theorem w_cmp (W : FVec Ideal S4x2048x6696 .f32) (k : Fin 2048) (j : Fin 512) : weights W (ix3 (0 : Fin 4) k (⟨5120 + j.val, by omega⟩ : Fin 7168))
    = W (ix3 (0 : Fin 4) k (⟨1024 + j.val, by omega⟩ : Fin 6696)) := by
  have hj := j.isLt
  pointwise [weights, side]
  rw [dif_neg (show ¬ (5120 + j.val < 3072) by omega)]
  rw [dif_neg (show ¬ (5120 + j.val - 3072 < 1024) by omega)]
  rw [dif_neg (show ¬ (5120 + j.val - 3072 - 1024 < 1024) by omega)]
  rw [dif_pos (show 5120 + j.val - 3072 - 1024 - 1024 < 512 by omega)]
  exact congrArg (fun x : Fin 6696 => W (ix3 (0 : Fin 4) k x)) (Fin.ext (by dsimp only; omega))

/-- The kernel's columns of the selected keys and values, among the argument's columns. -/
theorem w_slc (W : FVec Ideal S4x2048x6696 .f32) (k : Fin 2048) (j : Fin 512) : weights W (ix3 (0 : Fin 4) k (⟨5632 + j.val, by omega⟩ : Fin 7168))
    = W (ix3 (0 : Fin 4) k (⟨1536 + j.val, by omega⟩ : Fin 6696)) := by
  have hj := j.isLt
  pointwise [weights, side]
  rw [dif_neg (show ¬ (5632 + j.val < 3072) by omega)]
  rw [dif_neg (show ¬ (5632 + j.val - 3072 < 1024) by omega)]
  rw [dif_neg (show ¬ (5632 + j.val - 3072 - 1024 < 1024) by omega)]
  rw [dif_neg (show ¬ (5632 + j.val - 3072 - 1024 - 1024 < 512) by omega)]
  rw [dif_pos (show 5632 + j.val - 3072 - 1024 - 1024 - 512 < 512 by omega)]
  exact congrArg (fun x : Fin 6696 => W (ix3 (0 : Fin 4) k x)) (Fin.ext (by dsimp only; omega))

/-- The kernel's columns of the windowed keys and values, among the argument's columns. -/
theorem w_win (W : FVec Ideal S4x2048x6696 .f32) (k : Fin 2048) (j : Fin 512) : weights W (ix3 (0 : Fin 4) k (⟨6144 + j.val, by omega⟩ : Fin 7168))
    = W (ix3 (0 : Fin 4) k (⟨2048 + j.val, by omega⟩ : Fin 6696)) := by
  have hj := j.isLt
  pointwise [weights, side]
  rw [dif_neg (show ¬ (6144 + j.val < 3072) by omega)]
  rw [dif_neg (show ¬ (6144 + j.val - 3072 < 1024) by omega)]
  rw [dif_neg (show ¬ (6144 + j.val - 3072 - 1024 < 1024) by omega)]
  rw [dif_neg (show ¬ (6144 + j.val - 3072 - 1024 - 1024 < 512) by omega)]
  rw [dif_neg (show ¬ (6144 + j.val - 3072 - 1024 - 1024 - 512 < 512) by omega)]
  rw [dif_pos (show 6144 + j.val - 3072 - 1024 - 1024 - 512 - 512 < 512 by omega)]
  exact congrArg (fun x : Fin 6696 => W (ix3 (0 : Fin 4) k x)) (Fin.ext (by dsimp only; omega))

/-- The kernel's columns of the branch gates, among the argument's columns. -/
theorem w_gates (W : FVec Ideal S4x2048x6696 .f32) (k : Fin 2048) (j : Fin 24) : weights W (ix3 (0 : Fin 4) k (⟨6656 + j.val, by omega⟩ : Fin 7168))
    = W (ix3 (0 : Fin 4) k (⟨2560 + j.val, by omega⟩ : Fin 6696)) := by
  have hj := j.isLt
  pointwise [weights, side]
  rw [dif_neg (show ¬ (6656 + j.val < 3072) by omega)]
  rw [dif_neg (show ¬ (6656 + j.val - 3072 < 1024) by omega)]
  rw [dif_neg (show ¬ (6656 + j.val - 3072 - 1024 < 1024) by omega)]
  rw [dif_neg (show ¬ (6656 + j.val - 3072 - 1024 - 1024 < 512) by omega)]
  rw [dif_neg (show ¬ (6656 + j.val - 3072 - 1024 - 1024 - 512 < 512) by omega)]
  rw [dif_neg (show ¬ (6656 + j.val - 3072 - 1024 - 1024 - 512 - 512 < 512) by omega)]
  rw [dif_pos (show 6656 + j.val - 3072 - 1024 - 1024 - 512 - 512 - 512 < 24 by omega)]
  exact congrArg (fun x : Fin 6696 => W (ix3 (0 : Fin 4) k x)) (Fin.ext (by dsimp only; omega))

/-- The kernel's columns of the decays and step sizes, among the argument's columns. -/
theorem w_ab (W : FVec Ideal S4x2048x6696 .f32) (k : Fin 2048) (j : Fin 16) : weights W (ix3 (0 : Fin 4) k (⟨6680 + j.val, by omega⟩ : Fin 7168))
    = W (ix3 (0 : Fin 4) k (⟨6680 + j.val, by omega⟩ : Fin 6696)) := by
  have hj := j.isLt
  pointwise [weights, side]
  rw [dif_neg (show ¬ (6680 + j.val < 3072) by omega)]
  rw [dif_neg (show ¬ (6680 + j.val - 3072 < 1024) by omega)]
  rw [dif_neg (show ¬ (6680 + j.val - 3072 - 1024 < 1024) by omega)]
  rw [dif_neg (show ¬ (6680 + j.val - 3072 - 1024 - 1024 < 512) by omega)]
  rw [dif_neg (show ¬ (6680 + j.val - 3072 - 1024 - 1024 - 512 < 512) by omega)]
  rw [dif_neg (show ¬ (6680 + j.val - 3072 - 1024 - 1024 - 512 - 512 < 512) by omega)]
  rw [dif_neg (show ¬ (6680 + j.val - 3072 - 1024 - 1024 - 512 - 512 - 512 < 24) by omega)]
  rw [dif_pos (show 6680 + j.val - 3072 - 1024 - 1024 - 512 - 512 - 512 - 24 < 16 by omega)]
  exact congrArg (fun x : Fin 6696 => W (ix3 (0 : Fin 4) k x)) (Fin.ext (by dsimp only; omega))

variable (m : (ℓ : Loc nD τ sig) → Buf (Elt Ideal) ℓ)

/-- The weights at the region's start. -/
theorem entry_w (c : Dev nD) : V m c main_v11 = weights (m ((c : Thread nD τ).loc main_arg1)) := rfl

end Cert.Kernel2Ideal.Proj
end
end
-- ==== Proof.ProjPieces.lean ====
module

public import proofs.«01_k».proof.Proof.Proj
public import proofs.«01_k».proof.Proof.ProjCols
public import proofs.«01_k».proof.Proof.Gen.Reference2Ideal.Run
public import Idealize.ShloMosaic.Lib.Pipeline.ValueKit
public import Idealize.ShloMosaic.Lib.Pointwise

/-! The input projection, result by result: the columns cut from the kernel's product are the columns cut from the reference's. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel2Ideal.Proj

open Cert.Kernel2Ideal Cert.Kernel2Ideal.Gen

/-- An entry of the product, as the sum it is. -/
theorem prod_at (X : FVec Ideal S2x4096x2048 .f32) (U : FVec Ideal S4x2048x7168 .bf16) (b : Fin 2) (s : Fin 4096) (j : Fin 7168) :
    prod X U (ix2 (⟨b.val * 4096 + s.val, by omega⟩ : Fin 8192) j) = (∑ k : Fin 2048, X (ix3 b s k) * U (ix3 (0 : Fin 4) k j) : EReal) := by
  unfold prod
  refine Finset.sum_congr rfl fun k _ => congrArg (· * U (ix3 (0 : Fin 4) k j)) ?_
  have e0 : (⟨(b.val * 4096 + s.val) / 4096, by omega⟩ : Fin 2) = b := Fin.ext (by dsimp only; omega)
  have e1 : (⟨(b.val * 4096 + s.val) % 4096, by omega⟩ : Fin 4096) = s := Fin.ext (by dsimp only; omega)
  exact congrArg₂ (fun (u : Fin 2) (v : Fin 4096) => X (ix3 u v k)) e0 e1

/-- The reference's product. -/
abbrev rdot (X : FVec Ideal S2x4096x2048 .f32) (W : FVec Ideal S4x2048x6696 .f32) : FVec Ideal Cert.Reference2Ideal.S2x4096x6696 .f32 :=
  Host.dotGeneral Cert.Reference2Ideal.dot_S2x4096x2048_S2048x6696_S2x4096x6696_2_0_01_1_n_n none X
    (shapeCast Cert.Reference2Ideal.S2048x6696 (extractStridedSlice Cert.Reference2Ideal.S1x2048x6696 ![0, 0, 0] W
      Cert.Reference2Ideal.Gen.slices_S4x2048x6696_S1x2048x6696_0_0_0) Cert.Reference2Ideal.Gen.shapeCasts_S1x2048x6696_S2048x6696)

/-- An entry of the reference's product, as the sum it is. -/
theorem rdot_at (X : FVec Ideal S2x4096x2048 .f32) (W : FVec Ideal S4x2048x6696 .f32) (b : Fin 2) (s : Fin 4096) (j : Fin 6696) :
    rdot X W (ix3 b s j) = (∑ k : Fin 2048, X (ix3 b s k) * W (ix3 (0 : Fin 4) k j) : EReal) := by
  pointwise [rdot]

/-- Columns that agree among the weights agree among the two products. -/
theorem col (X : FVec Ideal S2x4096x2048 .f32) (W : FVec Ideal S4x2048x6696 .f32) (b : Fin 2) (s : Fin 4096) (j : Fin 7168) (j' : Fin 6696)
    (h : ∀ k : Fin 2048, weights W (ix3 (0 : Fin 4) k j) = W (ix3 (0 : Fin 4) k j')) :
    rdot X W (ix3 b s j') = prod X (weights W) (ix2 (⟨b.val * 4096 + s.val, by omega⟩ : Fin 8192) j) := by
  refine (rdot_at X W b s j').trans (Eq.trans ?_ (prod_at X (weights W) b s j).symm)
  exact Finset.sum_congr rfl fun k _ => congrArg (X (ix3 b s k) * ·) (h k).symm

/-- The queries. -/
theorem piece_q (X : FVec Ideal S2x4096x2048 .f32) (W : FVec Ideal S4x2048x6696 .f32) :
    (extractStridedSlice Cert.Reference2Ideal.S2x4096x1024 ![0, 0, 0] (rdot X W) Cert.Reference2Ideal.Gen.slices_S2x4096x6696_S2x4096x1024_0_0_0 : FVec Ideal Cert.Reference2Ideal.S2x4096x1024 .f32)
      = extractStridedSlice S2x4096x1024 ![0, 0, 3072] (shapeCast S2x4096x7168 (prod X (weights W)) shapeCasts_S8192x7168_S2x4096x7168) slices_S2x4096x7168_S2x4096x1024_0_0_3072 := by
  funext i
  obtain ⟨b, s, j, rfl⟩ : ∃ (b : Fin 2) (s : Fin 4096) (j : Fin 1024), i = ix3 b s j := ⟨i 0, i 1, i 2, by idx_ext⟩
  have h := col X W b s (⟨3072 + j.val, by omega⟩ : Fin 7168) (⟨0 + j.val, by omega⟩ : Fin 6696) fun k => w_q W k j
  generalize prod X (weights W) = P at h ⊢
  revert h
  generalize rdot X W = Q
  intro h
  pointwise
  simp only [Nat.zero_add] at h
  exact h

/-- The windowed keys and values. -/
theorem piece_kvw (X : FVec Ideal S2x4096x2048 .f32) (W : FVec Ideal S4x2048x6696 .f32) :
    (extractStridedSlice Cert.Reference2Ideal.S2x4096x512 ![0, 0, 2048] (rdot X W) Cert.Reference2Ideal.Gen.slices_S2x4096x6696_S2x4096x512_0_0_2048 : FVec Ideal Cert.Reference2Ideal.S2x4096x512 .f32)
      = extractStridedSlice S2x4096x512 ![0, 0, 6144] (shapeCast S2x4096x7168 (prod X (weights W)) shapeCasts_S8192x7168_S2x4096x7168) slices_S2x4096x7168_S2x4096x512_0_0_6144 := by
  funext i
  obtain ⟨b, s, j, rfl⟩ : ∃ (b : Fin 2) (s : Fin 4096) (j : Fin 512), i = ix3 b s j := ⟨i 0, i 1, i 2, by idx_ext⟩
  have h := col X W b s (⟨6144 + j.val, by omega⟩ : Fin 7168) (⟨2048 + j.val, by omega⟩ : Fin 6696) fun k => w_win W k j
  generalize prod X (weights W) = P at h ⊢
  revert h
  generalize rdot X W = Q
  intro h
  pointwise
  exact h

/-- The convolved channels. -/
theorem piece_qkv (X : FVec Ideal S2x4096x2048 .f32) (W : FVec Ideal S4x2048x6696 .f32) :
    (extractStridedSlice Cert.Reference2Ideal.S2x4096x3072 ![0, 0, 2584] (rdot X W) Cert.Reference2Ideal.Gen.slices_S2x4096x6696_S2x4096x3072_0_0_2584 : FVec Ideal Cert.Reference2Ideal.S2x4096x3072 .f32)
      = extractStridedSlice S2x4096x3072 ![0, 0, 0] (shapeCast S2x4096x7168 (prod X (weights W)) shapeCasts_S8192x7168_S2x4096x7168) slices_S2x4096x7168_S2x4096x3072_0_0_0 := by
  funext i
  obtain ⟨b, s, j, rfl⟩ : ∃ (b : Fin 2) (s : Fin 4096) (j : Fin 3072), i = ix3 b s j := ⟨i 0, i 1, i 2, by idx_ext⟩
  have h := col X W b s (⟨0 + j.val, by omega⟩ : Fin 7168) (⟨2584 + j.val, by omega⟩ : Fin 6696) fun k => w_qkv W k j
  generalize prod X (weights W) = P at h ⊢
  revert h
  generalize rdot X W = Q
  intro h
  pointwise
  simp only [Nat.zero_add] at h
  exact h

/-- The output gates. -/
theorem piece_z (X : FVec Ideal S2x4096x2048 .f32) (W : FVec Ideal S4x2048x6696 .f32) :
    (extractStridedSlice Cert.Reference2Ideal.S2x4096x1024 ![0, 0, 5656] (rdot X W) Cert.Reference2Ideal.Gen.slices_S2x4096x6696_S2x4096x1024_0_0_5656 : FVec Ideal Cert.Reference2Ideal.S2x4096x1024 .f32)
      = extractStridedSlice S2x4096x1024 ![0, 0, 4096] (shapeCast S2x4096x7168 (prod X (weights W)) shapeCasts_S8192x7168_S2x4096x7168) slices_S2x4096x7168_S2x4096x1024_0_0_4096 := by
  funext i
  obtain ⟨b, s, j, rfl⟩ : ∃ (b : Fin 2) (s : Fin 4096) (j : Fin 1024), i = ix3 b s j := ⟨i 0, i 1, i 2, by idx_ext⟩
  have h := col X W b s (⟨4096 + j.val, by omega⟩ : Fin 7168) (⟨5656 + j.val, by omega⟩ : Fin 6696) fun k => w_z W k j
  generalize prod X (weights W) = P at h ⊢
  revert h
  generalize rdot X W = Q
  intro h
  pointwise
  exact h

/-- The branch gates. -/
theorem piece_gates (X : FVec Ideal S2x4096x2048 .f32) (W : FVec Ideal S4x2048x6696 .f32) :
    (extractStridedSlice Cert.Reference2Ideal.S2x4096x24 ![0, 0, 2560] (rdot X W) Cert.Reference2Ideal.Gen.slices_S2x4096x6696_S2x4096x24_0_0_2560 : FVec Ideal Cert.Reference2Ideal.S2x4096x24 .f32)
      = extractStridedSlice S2x4096x24 ![0, 0, 6656] (shapeCast S2x4096x7168 (prod X (weights W)) shapeCasts_S8192x7168_S2x4096x7168) slices_S2x4096x7168_S2x4096x24_0_0_6656 := by
  funext i
  obtain ⟨b, s, j, rfl⟩ : ∃ (b : Fin 2) (s : Fin 4096) (j : Fin 24), i = ix3 b s j := ⟨i 0, i 1, i 2, by idx_ext⟩
  have h := col X W b s (⟨6656 + j.val, by omega⟩ : Fin 7168) (⟨2560 + j.val, by omega⟩ : Fin 6696) fun k => w_gates W k j
  generalize prod X (weights W) = P at h ⊢
  revert h
  generalize rdot X W = Q
  intro h
  pointwise
  exact h

/-- The compressed keys and values. -/
theorem piece_cmp (X : FVec Ideal S2x4096x2048 .f32) (W : FVec Ideal S4x2048x6696 .f32) :
    (extractStridedSlice Cert.Reference2Ideal.S2x4096x512 ![0, 0, 1024] (rdot X W) Cert.Reference2Ideal.Gen.slices_S2x4096x6696_S2x4096x512_0_0_1024 : FVec Ideal Cert.Reference2Ideal.S2x4096x512 .f32)
      = extractStridedSlice S2x4096x512 ![0, 0, 5120] (shapeCast S2x4096x7168 (prod X (weights W)) shapeCasts_S8192x7168_S2x4096x7168) slices_S2x4096x7168_S2x4096x512_0_0_5120 := by
  funext i
  obtain ⟨b, s, j, rfl⟩ : ∃ (b : Fin 2) (s : Fin 4096) (j : Fin 512), i = ix3 b s j := ⟨i 0, i 1, i 2, by idx_ext⟩
  have h := col X W b s (⟨5120 + j.val, by omega⟩ : Fin 7168) (⟨1024 + j.val, by omega⟩ : Fin 6696) fun k => w_cmp W k j
  generalize prod X (weights W) = P at h ⊢
  revert h
  generalize rdot X W = Q
  intro h
  pointwise
  exact h

/-- The selected keys and values. -/
theorem piece_slc (X : FVec Ideal S2x4096x2048 .f32) (W : FVec Ideal S4x2048x6696 .f32) :
    (extractStridedSlice Cert.Reference2Ideal.S2x4096x512 ![0, 0, 1536] (rdot X W) Cert.Reference2Ideal.Gen.slices_S2x4096x6696_S2x4096x512_0_0_1536 : FVec Ideal Cert.Reference2Ideal.S2x4096x512 .f32)
      = extractStridedSlice S2x4096x512 ![0, 0, 5632] (shapeCast S2x4096x7168 (prod X (weights W)) shapeCasts_S8192x7168_S2x4096x7168) slices_S2x4096x7168_S2x4096x512_0_0_5632 := by
  funext i
  obtain ⟨b, s, j, rfl⟩ : ∃ (b : Fin 2) (s : Fin 4096) (j : Fin 512), i = ix3 b s j := ⟨i 0, i 1, i 2, by idx_ext⟩
  have h := col X W b s (⟨5632 + j.val, by omega⟩ : Fin 7168) (⟨1536 + j.val, by omega⟩ : Fin 6696) fun k => w_slc W k j
  generalize prod X (weights W) = P at h ⊢
  revert h
  generalize rdot X W = Q
  intro h
  pointwise
  exact h

/-- The decays. -/
theorem piece_a (X : FVec Ideal S2x4096x2048 .f32) (W : FVec Ideal S4x2048x6696 .f32) :
    (extractStridedSlice Cert.Reference2Ideal.S2x4096x8 ![0, 0, 6680] (rdot X W) Cert.Reference2Ideal.Gen.slices_S2x4096x6696_S2x4096x8_0_0_6680 : FVec Ideal Cert.Reference2Ideal.S2x4096x8 .f32)
      = extractStridedSlice S2x4096x8 ![0, 0, 6680] (shapeCast S2x4096x7168 (prod X (weights W)) shapeCasts_S8192x7168_S2x4096x7168) slices_S2x4096x7168_S2x4096x8_0_0_6680 := by
  funext i
  obtain ⟨b, s, j, rfl⟩ : ∃ (b : Fin 2) (s : Fin 4096) (j : Fin 8), i = ix3 b s j := ⟨i 0, i 1, i 2, by idx_ext⟩
  have h := col X W b s (⟨6680 + j.val, by omega⟩ : Fin 7168) (⟨6680 + j.val, by omega⟩ : Fin 6696) fun k => w_ab W k (⟨j.val, by omega⟩ : Fin 16)
  generalize prod X (weights W) = P at h ⊢
  revert h
  generalize rdot X W = Q
  intro h
  pointwise
  exact h

/-- The step sizes. -/
theorem piece_b (X : FVec Ideal S2x4096x2048 .f32) (W : FVec Ideal S4x2048x6696 .f32) :
    (extractStridedSlice Cert.Reference2Ideal.S2x4096x8 ![0, 0, 6688] (rdot X W) Cert.Reference2Ideal.Gen.slices_S2x4096x6696_S2x4096x8_0_0_6688 : FVec Ideal Cert.Reference2Ideal.S2x4096x8 .f32)
      = extractStridedSlice S2x4096x8 ![0, 0, 6688] (shapeCast S2x4096x7168 (prod X (weights W)) shapeCasts_S8192x7168_S2x4096x7168) slices_S2x4096x7168_S2x4096x8_0_0_6688 := by
  funext i
  obtain ⟨b, s, j, rfl⟩ : ∃ (b : Fin 2) (s : Fin 4096) (j : Fin 8), i = ix3 b s j := ⟨i 0, i 1, i 2, by idx_ext⟩
  have h := col X W b s (⟨6688 + j.val, by omega⟩ : Fin 7168) (⟨6688 + j.val, by omega⟩ : Fin 6696) fun k => (congrArg (fun x : Fin 7168 => weights W (ix3 (0 : Fin 4) k x)) (Fin.ext (by dsimp only; omega))).trans ((w_ab W k (⟨8 + j.val, by omega⟩ : Fin 16)).trans (congrArg (fun x : Fin 6696 => W (ix3 (0 : Fin 4) k x)) (Fin.ext (by dsimp only; omega))))
  generalize prod X (weights W) = P at h ⊢
  revert h
  generalize rdot X W = Q
  intro h
  pointwise
  exact h

/-- The last windowed keys and values. -/
theorem piece_win (X : FVec Ideal S2x4096x2048 .f32) (W : FVec Ideal S4x2048x6696 .f32) :
    (extractStridedSlice Cert.Reference2Ideal.S2x512x512 ![0, 3584, 0] (extractStridedSlice Cert.Reference2Ideal.S2x4096x512 ![0, 0, 2048] (rdot X W) Cert.Reference2Ideal.Gen.slices_S2x4096x6696_S2x4096x512_0_0_2048) Cert.Reference2Ideal.Gen.slices_S2x4096x512_S2x512x512_0_3584_0 : FVec Ideal Cert.Reference2Ideal.S2x512x512 .f32)
      = extractStridedSlice S2x512x512 ![0, 3584, 6144] (shapeCast S2x4096x7168 (prod X (weights W)) shapeCasts_S8192x7168_S2x4096x7168) slices_S2x4096x7168_S2x512x512_0_3584_6144 := by
  funext i
  obtain ⟨b, s, j, rfl⟩ : ∃ (b : Fin 2) (s : Fin 512) (j : Fin 512), i = ix3 b s j := ⟨i 0, i 1, i 2, by idx_ext⟩
  have h := col X W b (⟨3584 + s.val, by omega⟩ : Fin 4096) (⟨6144 + j.val, by omega⟩ : Fin 7168) (⟨2048 + j.val, by omega⟩ : Fin 6696) fun k => w_win W k j
  generalize prod X (weights W) = P at h ⊢
  revert h
  generalize rdot X W = Q
  intro h
  pointwise
  exact h

/-- The last convolved channels. -/
theorem piece_gconv (X : FVec Ideal S2x4096x2048 .f32) (W : FVec Ideal S4x2048x6696 .f32) :
    (extractStridedSlice Cert.Reference2Ideal.S2x3x3072 ![0, 4093, 0] (extractStridedSlice Cert.Reference2Ideal.S2x4096x3072 ![0, 0, 2584] (rdot X W) Cert.Reference2Ideal.Gen.slices_S2x4096x6696_S2x4096x3072_0_0_2584) Cert.Reference2Ideal.Gen.slices_S2x4096x3072_S2x3x3072_0_4093_0 : FVec Ideal Cert.Reference2Ideal.S2x3x3072 .f32)
      = extractStridedSlice S2x3x3072 ![0, 4093, 0] (shapeCast S2x4096x7168 (prod X (weights W)) shapeCasts_S8192x7168_S2x4096x7168) slices_S2x4096x7168_S2x3x3072_0_4093_0 := by
  funext i
  obtain ⟨b, s, j, rfl⟩ : ∃ (b : Fin 2) (s : Fin 3) (j : Fin 3072), i = ix3 b s j := ⟨i 0, i 1, i 2, by idx_ext⟩
  have h := col X W b (⟨4093 + s.val, by omega⟩ : Fin 4096) (⟨0 + j.val, by omega⟩ : Fin 7168) (⟨2584 + j.val, by omega⟩ : Fin 6696) fun k => w_qkv W k j
  generalize prod X (weights W) = P at h ⊢
  revert h
  generalize rdot X W = Q
  intro h
  pointwise
  simp only [Nat.zero_add] at h
  exact h

end Cert.Kernel2Ideal.Proj
end
end
-- ==== Proof.ProjTail.lean ====
module

public import proofs.«01_k».proof.Proof.ProjPieces
public import proofs.«01_k».proof.Proof.Gen.Reference2Ideal.Run
public import Idealize.ShloMosaic.Lib.Pipeline.ValueKit
public import Idealize.ShloMosaic.Lib.Pointwise

/-! The input projection: what the lines after the region leave in each result. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel2Ideal.Proj

open Cert.Kernel2Ideal Cert.Kernel2Ideal.Gen

variable (m : (ℓ : Loc nD τ sig) → Buf (Elt Ideal) ℓ)

/-- The contents when the region has ended. -/
abbrev atEnd (c : Dev nD) : Valuation τ sig (Elt Ideal) :=
  Pipeline.withArrays (cfgs 0).spec c (V0 m c) fun w => (dats m 0 c).arrAt w (cfgs 0).N

/-- The region's array at its end is the product. -/
theorem atEnd_prod (c : Dev nD) : atEnd m c (Proc.devRef .tc main_v12)
    = prod (m ((c : Thread nD τ).loc main_arg0)) (weights (m ((c : Thread nD τ).loc main_arg1))) := by
  have h := Pipeline.withArrays_arr (cfgs 0).spec (show Function.Injective (Pipeline.arrRef spec0) by decide) c (V0 m c)
    (fun w => (dats m 0 c).arrAt w (cfgs 0).N) 2
  exact h.trans ((final m c).trans (congrArg (prod (m ((c : Thread nD τ).loc main_arg0))) (entry_w m c)))

/-- The lines after the region, run on any contents. -/
abbrev lines (σ : Valuation τ sig (Elt Ideal)) : Valuation τ sig (Elt Ideal) := StableHlo.after (List.flatten [hostOps1]) σ

/-- The region's array, row by row of each sequence. -/
abbrev rowsOf (P : FVec Ideal S8192x7168 .f32) : FVec Ideal S2x4096x7168 .f32 := shapeCast S2x4096x7168 P shapeCasts_S8192x7168_S2x4096x7168

/-- The compressed keys and values, as the lines cut them. -/
theorem line_cmp (σ : Valuation τ sig (Elt Ideal)) : lines σ (Proc.devRef .tc main_v15)
    = shapeCast S2x4096x2x2x128 (extractStridedSlice S2x4096x512 ![0, 0, 5120] (rowsOf (σ (Proc.devRef .tc main_v12))) slices_S2x4096x7168_S2x4096x512_0_0_5120) shapeCasts_S2x4096x512_S2x4096x2x2x128 := rfl

/-- The compressed keys and values after the run. -/
theorem tail_cmp (c : Dev nD) : Pipeline.afterTail₀ cfgs (dats m) 0 (V0 m) [hostOps1] c main_v15
    = shapeCast S2x4096x2x2x128 (extractStridedSlice S2x4096x512 ![0, 0, 5120] (rowsOf (prod (m ((c : Thread nD τ).loc main_arg0)) (weights (m ((c : Thread nD τ).loc main_arg1))))) slices_S2x4096x7168_S2x4096x512_0_0_5120) shapeCasts_S2x4096x512_S2x4096x2x2x128 := by
  refine (line_cmp (atEnd m c)).trans ?_
  rw [atEnd_prod m c]

/-- The selected keys and values, as the lines cut them. -/
theorem line_slc (σ : Valuation τ sig (Elt Ideal)) : lines σ (Proc.devRef .tc main_v17)
    = shapeCast S2x4096x2x2x128 (extractStridedSlice S2x4096x512 ![0, 0, 5632] (rowsOf (σ (Proc.devRef .tc main_v12))) slices_S2x4096x7168_S2x4096x512_0_0_5632) shapeCasts_S2x4096x512_S2x4096x2x2x128 := rfl

/-- The selected keys and values after the run. -/
theorem tail_slc (c : Dev nD) : Pipeline.afterTail₀ cfgs (dats m) 0 (V0 m) [hostOps1] c main_v17
    = shapeCast S2x4096x2x2x128 (extractStridedSlice S2x4096x512 ![0, 0, 5632] (rowsOf (prod (m ((c : Thread nD τ).loc main_arg0)) (weights (m ((c : Thread nD τ).loc main_arg1))))) slices_S2x4096x7168_S2x4096x512_0_0_5632) shapeCasts_S2x4096x512_S2x4096x2x2x128 := by
  refine (line_slc (atEnd m c)).trans ?_
  rw [atEnd_prod m c]

/-- The last windowed keys and values, as the lines cut them. -/
theorem line_win (σ : Valuation τ sig (Elt Ideal)) : lines σ (Proc.devRef .tc main_v19)
    = shapeCast S2x512x2x2x128 (extractStridedSlice S2x512x512 ![0, 3584, 6144] (rowsOf (σ (Proc.devRef .tc main_v12))) slices_S2x4096x7168_S2x512x512_0_3584_6144) shapeCasts_S2x512x512_S2x512x2x2x128 := rfl

/-- The last windowed keys and values after the run. -/
theorem tail_win (c : Dev nD) : Pipeline.afterTail₀ cfgs (dats m) 0 (V0 m) [hostOps1] c main_v19
    = shapeCast S2x512x2x2x128 (extractStridedSlice S2x512x512 ![0, 3584, 6144] (rowsOf (prod (m ((c : Thread nD τ).loc main_arg0)) (weights (m ((c : Thread nD τ).loc main_arg1))))) slices_S2x4096x7168_S2x512x512_0_3584_6144) shapeCasts_S2x512x512_S2x512x2x2x128 := by
  refine (line_win (atEnd m c)).trans ?_
  rw [atEnd_prod m c]

/-- The last convolved channels, as the lines cut them. -/
theorem line_gconv (σ : Valuation τ sig (Elt Ideal)) : lines σ (Proc.devRef .tc main_v20)
    = extractStridedSlice S2x3x3072 ![0, 4093, 0] (rowsOf (σ (Proc.devRef .tc main_v12))) slices_S2x4096x7168_S2x3x3072_0_4093_0 := rfl

/-- The last convolved channels after the run. -/
theorem tail_gconv (c : Dev nD) : Pipeline.afterTail₀ cfgs (dats m) 0 (V0 m) [hostOps1] c main_v20
    = extractStridedSlice S2x3x3072 ![0, 4093, 0] (rowsOf (prod (m ((c : Thread nD τ).loc main_arg0)) (weights (m ((c : Thread nD τ).loc main_arg1))))) slices_S2x4096x7168_S2x3x3072_0_4093_0 := by
  refine (line_gconv (atEnd m c)).trans ?_
  rw [atEnd_prod m c]

/-- The queries, as the lines cut them. -/
theorem line_q (σ : Valuation τ sig (Elt Ideal)) : lines σ (Proc.devRef .tc main_v21)
    = extractStridedSlice S2x4096x1024 ![0, 0, 3072] (rowsOf (σ (Proc.devRef .tc main_v12))) slices_S2x4096x7168_S2x4096x1024_0_0_3072 := rfl

/-- The queries after the run. -/
theorem tail_q (c : Dev nD) : Pipeline.afterTail₀ cfgs (dats m) 0 (V0 m) [hostOps1] c main_v21
    = extractStridedSlice S2x4096x1024 ![0, 0, 3072] (rowsOf (prod (m ((c : Thread nD τ).loc main_arg0)) (weights (m ((c : Thread nD τ).loc main_arg1))))) slices_S2x4096x7168_S2x4096x1024_0_0_3072 := by
  refine (line_q (atEnd m c)).trans ?_
  rw [atEnd_prod m c]

/-- The windowed keys and values, as the lines cut them. -/
theorem line_kvw (σ : Valuation τ sig (Elt Ideal)) : lines σ (Proc.devRef .tc main_v22)
    = extractStridedSlice S2x4096x512 ![0, 0, 6144] (rowsOf (σ (Proc.devRef .tc main_v12))) slices_S2x4096x7168_S2x4096x512_0_0_6144 := rfl

/-- The windowed keys and values after the run. -/
theorem tail_kvw (c : Dev nD) : Pipeline.afterTail₀ cfgs (dats m) 0 (V0 m) [hostOps1] c main_v22
    = extractStridedSlice S2x4096x512 ![0, 0, 6144] (rowsOf (prod (m ((c : Thread nD τ).loc main_arg0)) (weights (m ((c : Thread nD τ).loc main_arg1))))) slices_S2x4096x7168_S2x4096x512_0_0_6144 := by
  refine (line_kvw (atEnd m c)).trans ?_
  rw [atEnd_prod m c]

/-- The convolved channels, as the lines cut them. -/
theorem line_qkv (σ : Valuation τ sig (Elt Ideal)) : lines σ (Proc.devRef .tc main_v23)
    = extractStridedSlice S2x4096x3072 ![0, 0, 0] (rowsOf (σ (Proc.devRef .tc main_v12))) slices_S2x4096x7168_S2x4096x3072_0_0_0 := rfl

/-- The convolved channels after the run. -/
theorem tail_qkv (c : Dev nD) : Pipeline.afterTail₀ cfgs (dats m) 0 (V0 m) [hostOps1] c main_v23
    = extractStridedSlice S2x4096x3072 ![0, 0, 0] (rowsOf (prod (m ((c : Thread nD τ).loc main_arg0)) (weights (m ((c : Thread nD τ).loc main_arg1))))) slices_S2x4096x7168_S2x4096x3072_0_0_0 := by
  refine (line_qkv (atEnd m c)).trans ?_
  rw [atEnd_prod m c]

/-- The output gates, as the lines cut them. -/
theorem line_z (σ : Valuation τ sig (Elt Ideal)) : lines σ (Proc.devRef .tc main_v24)
    = extractStridedSlice S2x4096x1024 ![0, 0, 4096] (rowsOf (σ (Proc.devRef .tc main_v12))) slices_S2x4096x7168_S2x4096x1024_0_0_4096 := rfl

/-- The output gates after the run. -/
theorem tail_z (c : Dev nD) : Pipeline.afterTail₀ cfgs (dats m) 0 (V0 m) [hostOps1] c main_v24
    = extractStridedSlice S2x4096x1024 ![0, 0, 4096] (rowsOf (prod (m ((c : Thread nD τ).loc main_arg0)) (weights (m ((c : Thread nD τ).loc main_arg1))))) slices_S2x4096x7168_S2x4096x1024_0_0_4096 := by
  refine (line_z (atEnd m c)).trans ?_
  rw [atEnd_prod m c]

/-- The branch gates, as the lines cut them. -/
theorem line_gates (σ : Valuation τ sig (Elt Ideal)) : lines σ (Proc.devRef .tc main_v25)
    = extractStridedSlice S2x4096x24 ![0, 0, 6656] (rowsOf (σ (Proc.devRef .tc main_v12))) slices_S2x4096x7168_S2x4096x24_0_0_6656 := rfl

/-- The branch gates after the run. -/
theorem tail_gates (c : Dev nD) : Pipeline.afterTail₀ cfgs (dats m) 0 (V0 m) [hostOps1] c main_v25
    = extractStridedSlice S2x4096x24 ![0, 0, 6656] (rowsOf (prod (m ((c : Thread nD τ).loc main_arg0)) (weights (m ((c : Thread nD τ).loc main_arg1))))) slices_S2x4096x7168_S2x4096x24_0_0_6656 := by
  refine (line_gates (atEnd m c)).trans ?_
  rw [atEnd_prod m c]

/-- The decays, as the lines cut them. -/
theorem line_a (σ : Valuation τ sig (Elt Ideal)) : lines σ (Proc.devRef .tc main_v26)
    = extractStridedSlice S2x4096x8 ![0, 0, 6680] (rowsOf (σ (Proc.devRef .tc main_v12))) slices_S2x4096x7168_S2x4096x8_0_0_6680 := rfl

/-- The decays after the run. -/
theorem tail_a (c : Dev nD) : Pipeline.afterTail₀ cfgs (dats m) 0 (V0 m) [hostOps1] c main_v26
    = extractStridedSlice S2x4096x8 ![0, 0, 6680] (rowsOf (prod (m ((c : Thread nD τ).loc main_arg0)) (weights (m ((c : Thread nD τ).loc main_arg1))))) slices_S2x4096x7168_S2x4096x8_0_0_6680 := by
  refine (line_a (atEnd m c)).trans ?_
  rw [atEnd_prod m c]

/-- The step sizes, as the lines cut them. -/
theorem line_b (σ : Valuation τ sig (Elt Ideal)) : lines σ (Proc.devRef .tc main_v27)
    = extractStridedSlice S2x4096x8 ![0, 0, 6688] (rowsOf (σ (Proc.devRef .tc main_v12))) slices_S2x4096x7168_S2x4096x8_0_0_6688 := rfl

/-- The step sizes after the run. -/
theorem tail_b (c : Dev nD) : Pipeline.afterTail₀ cfgs (dats m) 0 (V0 m) [hostOps1] c main_v27
    = extractStridedSlice S2x4096x8 ![0, 0, 6688] (rowsOf (prod (m ((c : Thread nD τ).loc main_arg0)) (weights (m ((c : Thread nD τ).loc main_arg1))))) slices_S2x4096x7168_S2x4096x8_0_0_6688 := by
  refine (line_b (atEnd m c)).trans ?_
  rw [atEnd_prod m c]

end Cert.Kernel2Ideal.Proj
end
end
-- ==== Proof.Claim2.lean ====
module

public import proofs.«01_k».proof.Defs
public import proofs.«01_k».proof.Proof.ProjTail
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import Idealize.ShloMosaic.Lib.Claim
public import Idealize.ShloMosaic.Lib.Quiescent

/-! The claims about the input projection: the frames, and that kernel and reference end with the same eleven results. -/

set_option maxRecDepth 16384

@[expose] public section
noncomputable section

open Idealize.ShloMosaic Idealize.SL.Sem

namespace Cert.ProjClaim

/-- The printed kernel runs, leaves its arguments and its counters. -/
theorem frame_kernel : Cert.quiescent_Kernel2 (hKernel2 := Cert.Kernel2.Gen.facts) := fun m g _ => Cert.Kernel2.Gen.frame m g

/-- The idealized kernel runs, leaves its arguments and its counters. -/
theorem frame_ideal : Cert.quiescent_Kernel2Ideal (hKernel2Ideal := Cert.Kernel2Ideal.Gen.facts) := fun m g _ => Cert.Kernel2Ideal.Gen.frame m g

/-- The reference runs, leaves its arguments and its counters. -/
theorem frame_reference : Cert.quiescent_Reference2Ideal (hReference2Ideal := Cert.Reference2Ideal.Gen.facts) := by
  intro m g _
  exact (θ_run Cert.Reference2Ideal.defs _ _).mono (fun r h => ⟨fun c => (h c).2.2.2.2.2.2.2.2.2.2.2, sem_eq_zero_of_no_sems rfl _⟩)
    (Cert.Reference2Ideal.Value.run m g)

/-- The kernel and the reference end with the same eleven results. -/
theorem value : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
    · exact Cert.Kernel2Ideal.Gen.W_main_arg0 m (Cert.Kernel2Ideal.Gen.dats m) c
    · exact Cert.Kernel2Ideal.Gen.W_main_arg1 m (Cert.Kernel2Ideal.Gen.dats m) c
  · run_from Cert.Reference2Ideal.Value.run m' g'
    · exact (congrArg (fun x => shapeCast Cert.Kernel2Ideal.S2x4096x2x2x128 x Cert.Kernel2Ideal.Gen.shapeCasts_S2x4096x512_S2x4096x2x2x128) (Cert.Kernel2Ideal.Proj.piece_cmp _ _)).trans (Cert.Kernel2Ideal.Proj.tail_cmp m c).symm
    · exact (congrArg (fun x => shapeCast Cert.Kernel2Ideal.S2x4096x2x2x128 x Cert.Kernel2Ideal.Gen.shapeCasts_S2x4096x512_S2x4096x2x2x128) (Cert.Kernel2Ideal.Proj.piece_slc _ _)).trans (Cert.Kernel2Ideal.Proj.tail_slc m c).symm
    · exact (congrArg (fun x => shapeCast Cert.Kernel2Ideal.S2x512x2x2x128 x Cert.Kernel2Ideal.Gen.shapeCasts_S2x512x512_S2x512x2x2x128) (Cert.Kernel2Ideal.Proj.piece_win _ _)).trans (Cert.Kernel2Ideal.Proj.tail_win m c).symm
    · exact (Cert.Kernel2Ideal.Proj.piece_gconv _ _).trans (Cert.Kernel2Ideal.Proj.tail_gconv m c).symm
    · exact (Cert.Kernel2Ideal.Proj.piece_q _ _).trans (Cert.Kernel2Ideal.Proj.tail_q m c).symm
    · exact (Cert.Kernel2Ideal.Proj.piece_kvw _ _).trans (Cert.Kernel2Ideal.Proj.tail_kvw m c).symm
    · exact (Cert.Kernel2Ideal.Proj.piece_qkv _ _).trans (Cert.Kernel2Ideal.Proj.tail_qkv m c).symm
    · exact (Cert.Kernel2Ideal.Proj.piece_z _ _).trans (Cert.Kernel2Ideal.Proj.tail_z m c).symm
    · exact (Cert.Kernel2Ideal.Proj.piece_gates _ _).trans (Cert.Kernel2Ideal.Proj.tail_gates m c).symm
    · exact (Cert.Kernel2Ideal.Proj.piece_a _ _).trans (Cert.Kernel2Ideal.Proj.tail_a m c).symm
    · exact (Cert.Kernel2Ideal.Proj.piece_b _ _).trans (Cert.Kernel2Ideal.Proj.tail_b m c).symm

end Cert.ProjClaim
end
end
-- ==== Proof.DownRef.lean ====
module

public import proofs.«01_k».proof.Proof.Gen.Reference3Ideal.Run
public import Idealize.ShloMosaic.Lib.Pointwise

/-! The reference of the down projection, as a function of its arrays. -/

set_option maxRecDepth 16384

@[expose] public section
noncomputable section

open Idealize.ShloMosaic Idealize.ShloMosaic.TcCoe Idealize.SL.Sem

namespace Cert.Reference3Ideal.Down

open Cert.Reference3Ideal Cert.Reference3Ideal.Gen

/-- What is normalised: the scaled residual plus the projected activations. -/
abbrev pre (A : FVec Ideal S8192x5632 .bf16) (W : FVec Ideal S4x5632x2048 .f32) (H : FVec Ideal S8192x2048 .f32) : FVec Ideal S8192x2048 .f32 :=
  addf (mulf (broadcastInDim S8192x2048 ![] bcast_S_S8192x2048 (constant S_ .f32 0x3FD744FD#32)) H)
    (Host.dotGeneral dot_S8192x5632_S5632x2048_S8192x2048_1_0_0_1_n_n none (extf .f32 A bitsLt_bf16_f32)
      (shapeCast _ (extractStridedSlice S1x5632x2048 ![0, 0, 0] W slices_S4x5632x2048_S1x5632x2048_0_0_0) shapeCasts_S1x5632x2048_S5632x2048))

/-- The mean of each row. -/
abbrev mean (X : FVec Ideal S8192x2048 .f32) : FVec Ideal S8192x1 .f32 :=
  Host.divf (broadcastInDim S8192x1 ![0] bcast_S8192_S8192x1_0 (Host.reduceAdd X (constant S_ .f32 0x00000000#32) reducesTo_S8192x2048_S8192_d1 h_S_))
    (broadcastInDim S8192x1 ![] bcast_S_S8192x1 (constant S_ .f32 0x45000000#32))

/-- Each row less its mean. -/
abbrev cen (X : FVec Ideal S8192x2048 .f32) : FVec Ideal S8192x2048 .f32 :=
  subf X (broadcastInDim S8192x2048 ![0, 1] bcast_S8192x1_S8192x2048_0_1 (mean X))

/-- One of the four rows of weights, repeated for each row of the activations. -/
abbrev wide (G : FVec Ideal S4x2048 .f32) : FVec Ideal S8192x2048 .f32 :=
  broadcastInDim S8192x2048 ![0, 1] bcast_S1x2048_S8192x2048_0_1 (broadcastInDim S1x2048 ![1] bcast_S2048_S1x2048_1
    (shapeCast _ (extractStridedSlice S1x2048 ![0, 0] G slices_S4x2048_S1x2048_0_0) shapeCasts_S1x2048_S2048))

/-- The normalised rows. -/
abbrev ln (X : FVec Ideal S8192x2048 .f32) (G B : FVec Ideal S4x2048 .f32) : FVec Ideal S8192x2048 .f32 :=
  addf (mulf (mulf (cen X) (broadcastInDim S8192x2048 ![0, 1] bcast_S8192x1_S8192x2048_0_1
    (Host.rsqrt (addf (mean (mulf (cen X) (cen X))) (broadcastInDim S8192x1 ![] bcast_S_S8192x1 (constant S_ .f32 0x3727C5AC#32)))))) (wide G)) (wide B)

/-- The reference's first result. -/
abbrev REF (A : FVec Ideal S8192x5632 .bf16) (W : FVec Ideal S4x5632x2048 .f32) (H : FVec Ideal S8192x2048 .f32)
    (G B : FVec Ideal S4x2048 .f32) : FVec Ideal S8192x2048 .f32 := ln (pre A W H) G B

/-- The reference's first result, as it ends. -/
theorem out0 (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_out0 Value.res_main_v34; rfl

/-- The reference's second result, as it ends: the first one rounded. -/
theorem out1 (m : (ℓ : Loc nD τ sig) → Buf (Elt Ideal) ℓ) (c : Dev nD) : Value.res_out1 m c
    = (truncf .bf16 (REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) bitsLt_bf16_f32 : FVec Ideal S8192x2048 .bf16) := by
  unfold Value.res_out1 Value.res_main_v35; rfl

end Cert.Reference3Ideal.Down
end
end
-- ==== Proof.Down.lean ====
module

public import proofs.«01_k».proof.Proof.Gen.Kernel3Ideal.Frame
public import proofs.«01_k».proof.Proof.DownRef
public import Idealize.ShloMosaic.Lib.Pipeline.ValueKit
public import Idealize.ShloMosaic.Lib.Pointwise

/-! The down projection with its norm: what the kernel leaves is the reference's function of the arguments. -/

set_option maxRecDepth 16384

@[expose] public section
noncomputable section

open Idealize.ShloMosaic Idealize.ShloMosaic.TcCoe Idealize.SL.Sem
open Idealize.ShloMosaic.Pipeline (Dat)

namespace Cert.Kernel3Ideal.Down

open Cert.Kernel3Ideal Cert.Kernel3Ideal.Gen
open Cert.Reference3Ideal.Down (REF)

variable (m : (ℓ : Loc nD τ sig) → Buf (Elt Ideal) ℓ)

/-- Which block of its array each window stages at a point. -/
theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- What a point stores is the reference's value where the block lies. -/
theorem point (c : Dev nD) (t : Fin cfg0.N) (y) : k0_pay1 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, REF]
  blk_point [iblk, V, idx t]

/-- The first result after the run. -/
theorem final5 (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

/-- The second result after the run. -/
theorem final6 (c : Dev nD) : (dats m 0 c).arrAt 6 (cfgs 0).N
    = (truncf .bf16 (REF (m ((c : Thread nD τ).loc main_arg0)) (m ((c : Thread nD τ).loc main_arg1)) (m ((c : Thread nD τ).loc main_arg2))
        (m ((c : Thread nD τ).loc main_arg3)) (m ((c : Thread nD τ).loc main_arg4))) bitsLt_bf16_f32 : FVec Ideal S8192x2048 .bf16) := by
  refine (dats m 0 c).arrAt_eq_of_covers 6 _ (by decide +kernel) fun t _ y => ?_
  blk_simp
  rw [after0_6]; frame_out
  exact point m c t y

end Cert.Kernel3Ideal.Down
end
end
-- ==== Proof.Claim3.lean ====
module

public import proofs.«01_k».proof.Defs
public import proofs.«01_k».proof.Proof.Down
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Claim
public import Idealize.ShloMosaic.Lib.Quiescent

/-! The claims about the second half of the feed-forward block: the frames, and that kernel and reference end with the same two results. -/

set_option maxRecDepth 16384

@[expose] public section
noncomputable section

open Idealize.ShloMosaic Idealize.SL.Sem

namespace Cert.DownClaim

/-- The printed kernel runs, leaves its arguments and its counters. -/
theorem frame_kernel : Cert.quiescent_Kernel3 (hKernel3 := Cert.Kernel3.Gen.facts) := fun m g _ => Cert.Kernel3.Gen.frame m g

/-- The idealized kernel runs, leaves its arguments and its counters. -/
theorem frame_ideal : Cert.quiescent_Kernel3Ideal (hKernel3Ideal := Cert.Kernel3Ideal.Gen.facts) := fun m g _ => Cert.Kernel3Ideal.Gen.frame m g

/-- The reference runs, leaves its arguments and its counters. -/
theorem frame_reference : Cert.quiescent_Reference3Ideal (hReference3Ideal := Cert.Reference3Ideal.Gen.facts) := by
  intro m g _
  exact (θ_run Cert.Reference3Ideal.defs _ _).mono (fun r h => ⟨fun c => (h c).2.2, sem_eq_zero_of_no_sems rfl _⟩)
    (Cert.Reference3Ideal.Value.run m g)

/-- The kernel and the reference end with the same two results. -/
theorem value : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 5 (Cert.Kernel3Ideal.cfgs 0).N, fun c => (Cert.Kernel3Ideal.Gen.dats m 0 c).arrAt 6 (Cert.Kernel3Ideal.cfgs 0).N, ?_, ?_⟩
  · run_from Cert.Kernel3Ideal.Gen.run_main m g
  · refine (θ_run Cert.Reference3Ideal.defs _ _).mono (fun r h c => ⟨(h c).1.trans ?_, (h c).2.1.trans ?_, (h c).2.2⟩) (Cert.Reference3Ideal.Value.run m' g')
    · refine (Cert.Reference3Ideal.Down.out0 m' c).trans (Eq.trans ?_ (Cert.Kernel3Ideal.Down.final5 m c).symm)
      rw [(hagree c).1, (hagree c).2.1, (hagree c).2.2.1, (hagree c).2.2.2.1, (hagree c).2.2.2.2]; try rfl
    · refine (Cert.Reference3Ideal.Down.out1 m' c).trans (Eq.trans ?_ (Cert.Kernel3Ideal.Down.final6 m c).symm)
      rw [(hagree c).1, (hagree c).2.1, (hagree c).2.2.1, (hagree c).2.2.2.1, (hagree c).2.2.2.2]; try rfl

end Cert.DownClaim
end
end
-- ==== Proof.MixRef.lean ====
module

public import proofs.«01_k».proof.Proof.Gen.Reference4Ideal.Run
public import Idealize.ShloMosaic.Lib.Pointwise

/-! The reference of the output projection, as a function of its arrays. -/

set_option maxRecDepth 16384

@[expose] public section
noncomputable section

open Idealize.ShloMosaic Idealize.ShloMosaic.TcCoe Idealize.SL.Sem

namespace Cert.Reference4Ideal.Mix

open Cert.Reference4Ideal Cert.Reference4Ideal.Gen

/-- The two heads' outputs, side by side. -/
abbrev cat (A B : FVec Ideal S8192x1024 .bf16) : FVec Ideal S8192x2048 .f32 :=
  Value.fn_main_v2 (F := Ideal) (extf .f32 A bitsLt_bf16_f32) (extf .f32 B bitsLt_bf16_f32)

/-- The product of the two heads' outputs, side by side, with the weights. -/
abbrev dot (A B : FVec Ideal S8192x1024 .bf16) (W : FVec Ideal S4x2048x2048 .f32) : FVec Ideal S8192x2048 .f32 :=
  Host.dotGeneral dot_S8192x2048_S2048x2048_S8192x2048_1_0_0_1_n_n none (cat A B)
    (shapeCast _ (extractStridedSlice S1x2048x2048 ![0, 0, 0] W slices_S4x2048x2048_S1x2048x2048_0_0_0) shapeCasts_S1x2048x2048_S2048x2048)

/-- The same product as a sum of two: each of the two outputs with its half of the weights. -/
def halves (A B : FVec Ideal S8192x1024 .bf16) (W : FVec Ideal S4x2048x2048 .f32) : FVec Ideal S8192x2048 .f32 := fun i =>
  (∑ k : Fin 1024, A (ix2 (i 0) k) * W (ix3 (0 : Fin 4) (⟨k.val, by omega⟩ : Fin 2048) (i 1))
    + ∑ k : Fin 1024, B (ix2 (i 0) k) * W (ix3 (0 : Fin 4) (⟨1024 + k.val, by omega⟩ : Fin 2048) (i 1)) : EReal)

/-- The product of the outputs side by side is the sum of the two products. -/
theorem dot_eq (A B : FVec Ideal S8192x1024 .bf16) (W : FVec Ideal S4x2048x2048 .f32) : dot A B W = halves A B W := by
  funext i
  obtain ⟨i0, i1, rfl⟩ : ∃ (i0 : Fin 8192) (i1 : Fin 2048), i = ix2 i0 i1 := ⟨i 0, i 1, by idx_ext⟩
  unfold dot cat halves Value.fn_main_v2
  pointwise

/-- What is normalised: the scaled residual plus the projected outputs. -/
abbrev pre (D : FVec Ideal S8192x2048 .f32) (X : FVec Ideal S8192x2048 .f32) : FVec Ideal S8192x2048 .f32 :=
  addf (mulf (broadcastInDim S8192x2048 ![] bcast_S_S8192x2048 (constant S_ .f32 0x3FD744FD#32)) X) D

/-- The mean of each row. -/
abbrev mean (X : FVec Ideal S8192x2048 .f32) : FVec Ideal S8192x1 .f32 :=
  Host.divf (broadcastInDim S8192x1 ![0] bcast_S8192_S8192x1_0 (Host.reduceAdd X (constant S_ .f32 0x00000000#32) reducesTo_S8192x2048_S8192_d1 h_S_))
    (broadcastInDim S8192x1 ![] bcast_S_S8192x1 (constant S_ .f32 0x45000000#32))

/-- Each row less its mean. -/
abbrev cen (X : FVec Ideal S8192x2048 .f32) : FVec Ideal S8192x2048 .f32 :=
  subf X (broadcastInDim S8192x2048 ![0, 1] bcast_S8192x1_S8192x2048_0_1 (mean X))

/-- One of the four rows of weights, repeated for each row of the activations. -/
abbrev wide (G : FVec Ideal S4x2048 .f32) : FVec Ideal S8192x2048 .f32 :=
  broadcastInDim S8192x2048 ![0, 1] bcast_S1x2048_S8192x2048_0_1 (broadcastInDim S1x2048 ![1] bcast_S2048_S1x2048_1
    (shapeCast _ (extractStridedSlice S1x2048 ![0, 0] G slices_S4x2048_S1x2048_0_0) shapeCasts_S1x2048_S2048))

/-- The normalised rows. -/
abbrev ln (X : FVec Ideal S8192x2048 .f32) (G B : FVec Ideal S4x2048 .f32) : FVec Ideal S8192x2048 .f32 :=
  addf (mulf (mulf (cen X) (broadcastInDim S8192x2048 ![0, 1] bcast_S8192x1_S8192x2048_0_1
    (Host.rsqrt (addf (mean (mulf (cen X) (cen X))) (broadcastInDim S8192x1 ![] bcast_S_S8192x1 (constant S_ .f32 0x3727C5AC#32)))))) (wide G)) (wide B)

/-- The reference's first result. -/
abbrev REF (A B : FVec Ideal S8192x1024 .bf16) (W : FVec Ideal S4x2048x2048 .f32) (X : FVec Ideal S8192x2048 .f32)
    (G H : FVec Ideal S4x2048 .f32) : FVec Ideal S8192x2048 .f32 := ln (pre (halves A B W) X) G H

/-- The reference's first result, as it ends. -/
theorem out0 (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold REF
  rw [← dot_eq]
  unfold Value.res_out0 Value.res_main_v36; rfl

/-- The reference's second result, as it ends: the first one rounded. -/
theorem out1 (m : (ℓ : Loc nD τ sig) → Buf (Elt Ideal) ℓ) (c : Dev nD) : Value.res_out1 m c
    = (truncf .bf16 (REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) bitsLt_bf16_f32 : FVec Ideal S8192x2048 .bf16) := by
  unfold REF
  rw [← dot_eq]
  unfold Value.res_out1 Value.res_main_v37; rfl

end Cert.Reference4Ideal.Mix
end
end
-- ==== Proof.Mix.lean ====
module

public import proofs.«01_k».proof.Proof.Gen.Kernel4Ideal.Frame
public import proofs.«01_k».proof.Proof.MixRef
public import Idealize.ShloMosaic.Lib.Pipeline.ValueKit
public import Idealize.ShloMosaic.Lib.Pointwise

/-! The output projection with its norm: what the kernel leaves is the reference's function of the arguments. -/

set_option maxRecDepth 16384

@[expose] public section
noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen
open Cert.Reference4Ideal.Mix (REF halves)

variable (m : (ℓ : Loc nD τ sig) → Buf (Elt Ideal) ℓ)

/-- Which block of its array each window stages at a point. -/
theorem idx : ∀ t : Fin cfg0.N, win0_0.index t = ![t.val, 0] ∧ win0_1.index t = ![t.val, 0] ∧ win0_2.index t = ![0, 0, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, _)

/-- What a point stores is the reference's value where the block lies. -/
theorem point (c : Dev nD) (t : Fin cfg0.N) (y) : k0_pay1 (k0_pay5 (iblk m c 0 t) (iblk m c 1 t) (iblk m c 2 t) (iblk m c 3 t) (iblk m c 4 t) (iblk m c 5 t)) (k0_pay6 (iblk m c 0 t) (iblk m c 1 t) (iblk m c 2 t) (iblk m c 3 t) (iblk m c 4 t) (iblk m c 5 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 6).blk t).view.emb y) := by
  unfold k0_pay5 k0_pay6
  pointwise [k0_pay1, k0_pay3, k0_pay4, REF, halves]
  blk_point [iblk, V, idx t]

/-- The first result after the run. -/
theorem final6 (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

/-- The second result after the run. -/
theorem final7 (c : Dev nD) : (dats m 0 c).arrAt 7 (cfgs 0).N
    = (truncf .bf16 (REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) bitsLt_bf16_f32 : FVec Ideal S8192x2048 .bf16) := by
  refine (dats m 0 c).arrAt_eq_of_covers 7 _ (by decide +kernel) fun t _ y => ?_
  blk_simp
  rw [after0_7]; frame_out
  exact point m c t y

end Cert.Kernel4Ideal.Mix
end
end
-- ==== Proof.Claim4.lean ====
module

public import proofs.«01_k».proof.Defs
public import proofs.«01_k».proof.Proof.Mix
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Claim
public import Idealize.ShloMosaic.Lib.Quiescent

/-! The claims about the output projection: the frames, and that kernel and reference end with the same two results. -/

set_option maxRecDepth 16384

@[expose] public section
noncomputable section

open Idealize.ShloMosaic Idealize.SL.Sem

namespace Cert.MixClaim

/-- The printed kernel runs, leaves its arguments and its counters. -/
theorem frame_kernel : Cert.quiescent_Kernel4 (hKernel4 := Cert.Kernel4.Gen.facts) := fun m g _ => Cert.Kernel4.Gen.frame m g

/-- The idealized kernel runs, leaves its arguments and its counters. -/
theorem frame_ideal : Cert.quiescent_Kernel4Ideal (hKernel4Ideal := Cert.Kernel4Ideal.Gen.facts) := fun m g _ => Cert.Kernel4Ideal.Gen.frame m g

/-- The reference runs, leaves its arguments and its counters. -/
theorem frame_reference : Cert.quiescent_Reference4Ideal (hReference4Ideal := Cert.Reference4Ideal.Gen.facts) := by
  intro m g _
  exact (θ_run Cert.Reference4Ideal.defs _ _).mono (fun r h => ⟨fun c => (h c).2.2, sem_eq_zero_of_no_sems rfl _⟩)
    (Cert.Reference4Ideal.Value.run m g)

/-- The kernel and the reference end with the same two results. -/
theorem value : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 6 (Cert.Kernel4Ideal.cfgs 0).N, fun c => (Cert.Kernel4Ideal.Gen.dats m 0 c).arrAt 7 (Cert.Kernel4Ideal.cfgs 0).N, ?_, ?_⟩
  · run_from Cert.Kernel4Ideal.Gen.run_main m g
  · refine (θ_run Cert.Reference4Ideal.defs _ _).mono (fun r h c => ⟨(h c).1.trans ?_, (h c).2.1.trans ?_, (h c).2.2⟩) (Cert.Reference4Ideal.Value.run m' g')
    · refine (Cert.Reference4Ideal.Mix.out0 m' c).trans (Eq.trans ?_ (Cert.Kernel4Ideal.Mix.final6 m c).symm)
      rw [(hagree c).1, (hagree c).2.1, (hagree c).2.2.1, (hagree c).2.2.2.1, (hagree c).2.2.2.2.1, (hagree c).2.2.2.2.2]; try rfl
    · refine (Cert.Reference4Ideal.Mix.out1 m' c).trans (Eq.trans ?_ (Cert.Kernel4Ideal.Mix.final7 m c).symm)
      rw [(hagree c).1, (hagree c).2.1, (hagree c).2.2.1, (hagree c).2.2.2.1, (hagree c).2.2.2.2.1, (hagree c).2.2.2.2.2]; try rfl

end Cert.MixClaim
end
end
-- ==== Proof.UpRef.lean ====
module

public import proofs.«01_k».proof.Proof.Gen.Reference5Ideal.Run
public import Idealize.ShloMosaic.Lib.Pointwise

/-! The reference of the up projection with its convolution, as a function of its arrays. -/

set_option maxRecDepth 16384

@[expose] public section
noncomputable section

open Idealize.ShloMosaic Idealize.ShloMosaic.TcCoe Idealize.SL.Sem

namespace Cert.Reference5Ideal.Up

open Cert.Reference5Ideal Cert.Reference5Ideal.Gen

/-- The gated activation of a convolved value `a` and its gate `v`. -/
def gated (a v : EReal) : EReal :=
  a * (Ideal.ofBits .f32 1056964608#32 * (1 + Ideal.tanh (Ideal.ofBits .f32 1061962282#32 * (a + Ideal.ofBits .f32 1027024659#32 * (a * (a * a)))))) * v

/-- The product of a row with a column of the first layer's weights. -/
def P (X : FVec Ideal S8192x2048 .bf16) (W : FVec Ideal S4x2048x11264 .f32) (r : Fin 8192) (j : Fin 11264) : EReal :=
  ∑ k : Fin 2048, X (ix2 r k) * W (ix3 0 k j)

/-- The product of the row `d` before in the same sequence, zero before its start. -/
def BACK (d : ℕ) (X : FVec Ideal S8192x2048 .bf16) (W : FVec Ideal S4x2048x11264 .f32) (r : Fin 8192) (j : Fin 11264) : EReal :=
  if d ≤ r.val % 4096 then P X W ⟨r.val - d, by omega⟩ j else 0

/-- The convolution over the last three rows. -/
def CONV (X : FVec Ideal S8192x2048 .bf16) (W : FVec Ideal S4x2048x11264 .f32) (C : FVec Ideal S4x3x5632 .f32) (r : Fin 8192) (j : Fin 5632) : EReal :=
  C (ix3 0 2 j) * P X W r ⟨j.val, by omega⟩ + C (ix3 0 1 j) * BACK 1 X W r ⟨j.val, by omega⟩ + C (ix3 0 0 j) * BACK 2 X W r ⟨j.val, by omega⟩

/-- The activation. -/
def REF (X : FVec Ideal S8192x2048 .bf16) (W : FVec Ideal S4x2048x11264 .f32) (C : FVec Ideal S4x3x5632 .f32) : FVec Ideal S8192x5632 .bf16 :=
  fun y => gated (CONV X W C (y 0) (y 1)) (P X W (y 0) ⟨5632 + (y 1).val, by have := (y 1).isLt; change _ < 5632 at this; omega⟩)

/-- The last two rows of each sequence's product. -/
def TAIL (X : FVec Ideal S8192x2048 .bf16) (W : FVec Ideal S4x2048x11264 .f32) : FVec Ideal S2x2x5632 .f32 :=
  fun y => P X W ⟨(y 0).val * 4096 + 4094 + (y 1).val, by have := (y 0).isLt; change _ < 2 at this; have := (y 1).isLt; change _ < 2 at this; omega⟩
    ⟨(y 2).val, by have := (y 2).isLt; change _ < 5632 at this; omega⟩

/-- The product, sequence by sequence. -/
abbrev dot (X : FVec Ideal S8192x2048 .bf16) (W : FVec Ideal S4x2048x11264 .f32) : FVec Ideal S2x4096x11264 .f32 :=
  Host.dotGeneral dot_S2x4096x2048_S2048x11264_S2x4096x11264_2_0_01_1_n_n none
    (shapeCast S2x4096x2048 (extf .f32 X bitsLt_bf16_f32 : FVec Ideal S8192x2048 .f32) shapeCasts_S8192x2048_S2x4096x2048)
    (shapeCast S2048x11264 (extractStridedSlice S1x2048x11264 ![0, 0, 0] W slices_S4x2048x11264_S1x2048x11264_0_0_0) shapeCasts_S1x2048x11264_S2048x11264)

/-- The first half of the product with two rows of zeros before each sequence. -/
abbrev ext (D : FVec Ideal S2x4096x11264 .f32) : FVec Ideal S2x4098x5632 .f32 :=
  concatenate S2x4098x5632 1 [⟨S2x2x5632, (broadcastInDim S2x2x5632 ![] bcast_S_S2x2x5632 (constant S_ .f32 0x00000000#32) : FVec Ideal S2x2x5632 .f32)⟩,
    ⟨S2x4096x5632, extractStridedSlice S2x4096x5632 ![0, 0, 0] D slices_S2x4096x11264_S2x4096x5632_0_0_0⟩] concatenates_S2x2x5632_S2x4096x5632_S2x4098x5632_d1

/-- One tap's weights, repeated for each row. -/
abbrev tap0 (C : FVec Ideal S4x3x5632 .f32) : FVec Ideal S2x4096x5632 .f32 :=
  broadcastInDim S2x4096x5632 ![0, 1, 2] bcast_S1x1x5632_S2x4096x5632_0_1_2 (broadcastInDim S1x1x5632 ![2] bcast_S5632_S1x1x5632_2
    (shapeCast S5632 (extractStridedSlice S1x1x5632 ![0, 0, 0] C slices_S4x3x5632_S1x1x5632_0_0_0) shapeCasts_S1x1x5632_S5632))

/-- The second tap's weights. -/
abbrev tap1 (C : FVec Ideal S4x3x5632 .f32) : FVec Ideal S2x4096x5632 .f32 :=
  broadcastInDim S2x4096x5632 ![0, 1, 2] bcast_S1x1x5632_S2x4096x5632_0_1_2 (broadcastInDim S1x1x5632 ![2] bcast_S5632_S1x1x5632_2
    (shapeCast S5632 (extractStridedSlice S1x1x5632 ![0, 1, 0] C slices_S4x3x5632_S1x1x5632_0_1_0) shapeCasts_S1x1x5632_S5632))

/-- The third tap's weights. -/
abbrev tap2 (C : FVec Ideal S4x3x5632 .f32) : FVec Ideal S2x4096x5632 .f32 :=
  broadcastInDim S2x4096x5632 ![0, 1, 2] bcast_S1x1x5632_S2x4096x5632_0_1_2 (broadcastInDim S1x1x5632 ![2] bcast_S5632_S1x1x5632_2
    (shapeCast S5632 (extractStridedSlice S1x1x5632 ![0, 2, 0] C slices_S4x3x5632_S1x1x5632_0_2_0) shapeCasts_S1x1x5632_S5632))

/-- The convolution, summed from zero. -/
abbrev conv (E : FVec Ideal S2x4098x5632 .f32) (C : FVec Ideal S4x3x5632 .f32) : FVec Ideal S2x4096x5632 .f32 :=
  addf (addf (addf (broadcastInDim S2x4096x5632 ![] bcast_S_S2x4096x5632 (constant S_ .f32 0x00000000#32))
    (mulf (extractStridedSlice S2x4096x5632 ![0, 0, 0] E slices_S2x4098x5632_S2x4096x5632_0_0_0) (tap0 C)))
    (mulf (extractStridedSlice S2x4096x5632 ![0, 1, 0] E slices_S2x4098x5632_S2x4096x5632_0_1_0) (tap1 C)))
    (mulf (extractStridedSlice S2x4096x5632 ![0, 2, 0] E slices_S2x4098x5632_S2x4096x5632_0_2_0) (tap2 C))

/-- One number, everywhere. -/
abbrev num (b : BitVec 32) : FVec Ideal S2x4096x5632 .f32 := broadcastInDim S2x4096x5632 ![] bcast_S_S2x4096x5632 (constant S_ .f32 b)

/-- The gated activation of the convolution, rounded. -/
abbrev act (A V : FVec Ideal S2x4096x5632 .f32) : FVec Ideal S8192x5632 .bf16 :=
  shapeCast S8192x5632 (truncf .bf16 (mulf (mulf A (mulf (num 0x3F000000#32) (addf (num 0x3F800000#32)
    (Host.tanh (mulf (num 0x3F4C422A#32) (addf A (mulf (num 0x3D372713#32) (mulf (mulf A A) A)))))))) V) bitsLt_bf16_f32) shapeCasts_S2x4096x5632_S8192x5632

/-- The product at an element. -/
theorem dot_at (X : FVec Ideal S8192x2048 .bf16) (W : FVec Ideal S4x2048x11264 .f32) (b : Fin 2) (s : Fin 4096) (j : Fin 11264) :
    dot X W (ix3 b s j) = P X W ⟨b.val * 4096 + s.val, by omega⟩ j := by
  unfold dot P
  pointwise

/-- The padded product at an element. -/
theorem ext_at (D : FVec Ideal S2x4096x11264 .f32) (b : Fin 2) (s : Fin 4098) (j : Fin 5632) :
    ext D (ix3 b s j) = if h : 2 ≤ s.val then D (ix3 b ⟨s.val - 2, by omega⟩ ⟨j.val, by omega⟩) else 0 := by
  unfold ext
  pointwise
  by_cases h : 2 ≤ s.val
  · rw [dif_pos h, dif_neg (by omega)]
  · rw [dif_neg h, dif_pos (by omega)]

/-- Three products summed in either order. -/
theorem three (e0 e1 e2 c0 c1 c2 : EReal) : e0 * c0 + e1 * c1 + e2 * c2 = c2 * e2 + c1 * e1 + c0 * e0 := by
  rw [mul_comm e0, mul_comm e1, mul_comm e2, add_comm (c0 * e0 + c1 * e1), add_comm (c0 * e0), ← add_assoc]

/-- The convolution at an element. -/
theorem conv_at (E : FVec Ideal S2x4098x5632 .f32) (C : FVec Ideal S4x3x5632 .f32) (b : Fin 2) (s : Fin 4096) (j : Fin 5632) :
    conv E C (ix3 b s j) = C (ix3 0 2 j) * E (ix3 b ⟨2 + s.val, by omega⟩ j) + C (ix3 0 1 j) * E (ix3 b ⟨1 + s.val, by omega⟩ j)
      + C (ix3 0 0 j) * E (ix3 b ⟨s.val, by omega⟩ j) := by
  unfold conv
  pointwise
  exact three _ _ _ _ _ _

/-- The activation at an element. -/
theorem act_at (A V : FVec Ideal S2x4096x5632 .f32) (r : Fin 8192) (j : Fin 5632) :
    act A V (ix2 r j) = gated (A (ix3 ⟨r.val / 4096, by omega⟩ ⟨r.val % 4096, by omega⟩ j)) (V (ix3 ⟨r.val / 4096, by omega⟩ ⟨r.val % 4096, by omega⟩ j)) := by
  unfold act num gated
  pointwise
  generalize A (ix3 ⟨r.val / 4096, _⟩ ⟨r.val % 4096, _⟩ j) = a
  have e : (a * a * a : EReal) = a * (a * a) := mul_comm _ _
  exact congrArg (fun q : EReal => a * (Ideal.ofBits .f32 1056964608#32 * (1 + Ideal.tanh (Ideal.ofBits .f32 1061962282#32 * (a + Ideal.ofBits .f32 1027024659#32 * q)))) * _) e

/-- The reference's first result, from its parts. -/
theorem out0_parts (m : (ℓ : Loc nD τ sig) → Buf (Elt Ideal) ℓ) (c : Dev nD) : Value.res_out0 m c
    = act (conv (ext (dot (m ((c.tc : Thread nD τ).loc main_arg0)) (m ((c.tc : Thread nD τ).loc main_arg1)))) (m ((c.tc : Thread nD τ).loc main_arg2)))
        (extractStridedSlice S2x4096x5632 ![0, 0, 5632] (dot (m ((c.tc : Thread nD τ).loc main_arg0)) (m ((c.tc : Thread nD τ).loc main_arg1))) slices_S2x4096x11264_S2x4096x5632_0_0_5632) := by
  unfold Value.res_out0 Value.res_main_v46; rfl

/-- A row of a sequence's product, with the rows before it, is a row of the whole product. -/
theorem ext_row (X : FVec Ideal S8192x2048 .bf16) (W : FVec Ideal S4x2048x11264 .f32) (r : Fin 8192) (j : Fin 5632) (d e : ℕ) (he : e + d = 2)
    (i : Fin 4098) (hi : i.val = e + r.val % 4096) :
    ext (dot X W) (ix3 ⟨r.val / 4096, by omega⟩ i j) = BACK d X W r ⟨j.val, by omega⟩ := by
  rw [ext_at]
  unfold BACK
  by_cases h : d ≤ r.val % 4096
  · rw [if_pos h, dif_pos (by omega), dot_at]
    exact congrArg (fun q => P X W q _) (Fin.ext (by show r.val / 4096 * 4096 + (i.val - 2) = r.val - d; omega))
  · rw [if_neg h, dif_neg (by omega)]

/-- The parts of the first result, put together. -/
theorem parts_eq (X : FVec Ideal S8192x2048 .bf16) (W : FVec Ideal S4x2048x11264 .f32) (C : FVec Ideal S4x3x5632 .f32) :
    act (conv (ext (dot X W)) C) (extractStridedSlice S2x4096x5632 ![0, 0, 5632] (dot X W) slices_S2x4096x11264_S2x4096x5632_0_0_5632) = REF X W C := by
  funext y
  obtain ⟨r, j, rfl⟩ : ∃ (r : Fin 8192) (j : Fin 5632), y = ix2 r j := ⟨y 0, y 1, by idx_ext⟩
  have h0 : BACK 0 X W r ⟨j.val, by omega⟩ = P X W r ⟨j.val, by omega⟩ := if_pos (Nat.zero_le _)
  have hv : (extractStridedSlice S2x4096x5632 ![0, 0, 5632] (dot X W) slices_S2x4096x11264_S2x4096x5632_0_0_5632 : FVec Ideal S2x4096x5632 .f32)
      (ix3 ⟨r.val / 4096, by omega⟩ ⟨r.val % 4096, by omega⟩ j) = P X W r ⟨5632 + j.val, by omega⟩ := by
    refine Eq.trans (b := dot X W (ix3 ⟨r.val / 4096, by omega⟩ ⟨r.val % 4096, by omega⟩ ⟨5632 + j.val, by omega⟩)) ?_ ?_
    · generalize dot X W = D; pointwise
    · rw [dot_at]
      exact congrArg (fun q => P X W q _) (Fin.ext (by show r.val / 4096 * 4096 + r.val % 4096 = r.val; omega))
  rw [act_at, hv, conv_at, ext_row X W r j 0 2 rfl _ rfl, ext_row X W r j 1 1 rfl _ rfl, ext_row X W r j 2 0 rfl _ (Nat.zero_add _).symm, h0]
  rfl

/-- The reference's first result, as it ends. -/
theorem out0 (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2)) :=
  (out0_parts m c).trans (parts_eq _ _ _)

/-- The last rows of the padded product, put together. -/
theorem tail_parts (X : FVec Ideal S8192x2048 .bf16) (W : FVec Ideal S4x2048x11264 .f32) :
    (extractStridedSlice S2x2x5632 ![0, 4096, 0] (ext (dot X W)) slices_S2x4098x5632_S2x2x5632_0_4096_0 : FVec Ideal S2x2x5632 .f32) = TAIL X W := by
  funext y
  obtain ⟨b, s, j, rfl⟩ : ∃ (b : Fin 2) (s : Fin 2) (j : Fin 5632), y = ix3 b s j := ⟨y 0, y 1, y 2, by idx_ext⟩
  refine Eq.trans (b := ext (dot X W) (ix3 b ⟨4096 + s.val, by omega⟩ j)) ?_ ?_
  · generalize ext (dot X W) = E; pointwise
  · rw [ext_at, dif_pos (by show 2 ≤ 4096 + s.val; omega), dot_at]
    exact congrArg (fun q => P X W q _) (Fin.ext (by show b.val * 4096 + (4096 + s.val - 2) = b.val * 4096 + 4094 + s.val; omega))

end Cert.Reference5Ideal.Up
end
end
-- ==== Proof.UpBlock.lean ====
module

public import proofs.«01_k».proof.Proof.Gen.Kernel5Ideal.Frame
public import Idealize.ShloMosaic.Lib.Pipeline.ValueKit
public import Idealize.ShloMosaic.Lib.Pointwise
public import Idealize.ShloMosaic.Lib.Pipeline.ReadBack

/-! One chunk of 256 columns of the up projection of a block: the product, the three taps and the gate, read at an element. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel5Ideal.Up

open Cert.Kernel5Ideal Cert.Kernel5Ideal.Gen

/-- The gated activation of a convolved value `a` and its gate `v`. -/
def cell (a v : EReal) : EReal :=
  a * (Ideal.ofBits .f32 1056964608#32 * (1 + Ideal.tanh (Ideal.ofBits .f32 1061962282#32 * (a + Ideal.ofBits .f32 1027024659#32 * (a * (a * a)))))) * v

/-- The product of a chunk at an element. -/
theorem prod_at (h : Vec Ideal S512x2048 .bf16) (w : Vec Ideal S1x2048x256 .bf16) (r : Fin 512) (j : Fin 256) :
    k0_pay6 (F := Ideal) h w (ix2 r j) = ∑ k : Fin 2048, h (ix2 r k) * w (ix3 0 k j) := by
  pointwise [k0_pay6]

/-- The gate of a chunk at an element. -/
theorem gate_at (v c1 c2 t0 u : FVec Ideal S512x256 .f32) (cw : FVec Ideal S3x256 .f32) (r : Fin 512) (j : Fin 256) :
    k0_pay14 v cw c1 c2 t0 u (ix2 r j)
      = cell (t0 (ix2 r j) + u (ix2 r j) * c1 (ix2 r j) + cw (ix2 0 j) * c2 (ix2 r j)) (v (ix2 r j)) := by
  pointwise [k0_pay14, cell]

/-- The row before, in a chunk: of the product, or the last carried one. -/
theorem lag1_at (h : Vec Ideal S512x2048 .bf16) (w : Vec Ideal S1x2048x256 .bf16) (cy : Vec Ideal S8x256 .f32) (r : Fin 512) (j : Fin 256) :
    k0_pay10 (F := Ideal) h w cy (ix2 r j) = if h1 : 1 ≤ r.val then k0_pay6 h w (ix2 ⟨r.val - 1, by omega⟩ j) else cy (ix2 7 j) := by
  pointwise [k0_pay10, k0_pay9]
  have hr := r.isLt
  by_cases hb : 1 ≤ r.val
  · rw [dif_pos hb, dif_neg (by omega)]
    exact congrArg (fun q => k0_pay6 h w (ix2 q j)) (Fin.ext (by show (8 + r.val + 520 - 1) % 520 - 8 = r.val - 1; omega))
  · rw [dif_neg hb, dif_pos (by omega)]
    exact congrArg (fun q => cy (ix2 q j)) (Fin.ext (by show (8 + r.val + 520 - 1) % 520 = 7; omega))

/-- The row two before, in a chunk. -/
theorem lag2_at (h : Vec Ideal S512x2048 .bf16) (w : Vec Ideal S1x2048x256 .bf16) (cy : Vec Ideal S8x256 .f32) (r : Fin 512) (j : Fin 256) :
    k0_pay11 (F := Ideal) h w cy (ix2 r j) = if h1 : 2 ≤ r.val then k0_pay6 h w (ix2 ⟨r.val - 2, by omega⟩ j) else cy (ix2 ⟨6 + r.val, by omega⟩ j) := by
  pointwise [k0_pay11, k0_pay9]
  have hr := r.isLt
  by_cases hb : 2 ≤ r.val
  · rw [dif_pos hb, dif_neg (by omega)]
    exact congrArg (fun q => k0_pay6 h w (ix2 q j)) (Fin.ext (by show (8 + r.val + 520 - 2) % 520 - 8 = r.val - 2; omega))
  · rw [dif_neg hb, dif_pos (by omega)]
    exact congrArg (fun q => cy (ix2 q j)) (Fin.ext (by show (8 + r.val + 520 - 2) % 520 = 6 + r.val; omega))

/-- The tap on the row itself. -/
theorem tap_at (h : Vec Ideal S512x2048 .bf16) (w : Vec Ideal S1x2048x256 .bf16) (cw : Vec Ideal S3x256 .f32) (r : Fin 512) (j : Fin 256) :
    k0_pay12 (F := Ideal) h w cw (ix2 r j) = cw (ix2 2 j) * k0_pay6 h w (ix2 r j) := by
  pointwise [k0_pay12, k0_pay8]

/-- The product of a block with a block of columns, at an element. -/
def U (h : Vec Ideal S512x2048 .bf16) (w : Vec Ideal S1x2048x2816 .bf16) (r : Fin 512) (j : Fin 2816) : EReal :=
  ∑ k : Fin 2048, h (ix2 r k) * w (ix3 0 k j)

/-- The row before, of a block: of its product, or the last carried one. -/
def L1 (h : Vec Ideal S512x2048 .bf16) (w : Vec Ideal S1x2048x2816 .bf16) (cy : Vec Ideal S8x2816 .f32) (r : Fin 512) (j : Fin 2816) : EReal :=
  if h1 : 1 ≤ r.val then U h w ⟨r.val - 1, by omega⟩ j else cy (ix2 7 j)

/-- The row two before, of a block. -/
def L2 (h : Vec Ideal S512x2048 .bf16) (w : Vec Ideal S1x2048x2816 .bf16) (cy : Vec Ideal S8x2816 .f32) (r : Fin 512) (j : Fin 2816) : EReal :=
  if h1 : 2 ≤ r.val then U h w ⟨r.val - 2, by omega⟩ j else cy (ix2 ⟨6 + r.val, by omega⟩ j)

/-- A block of the activation at an element. -/
def ACT (h : Vec Ideal S512x2048 .bf16) (wu wv : Vec Ideal S1x2048x2816 .bf16) (cy : Vec Ideal S8x2816 .f32) (cw : Vec Ideal S3x2816 .f32)
    (r : Fin 512) (j : Fin 2816) : EReal :=
  cell (cw (ix2 2 j) * U h wu r j + cw (ix2 1 j) * L1 h wu cy r j + cw (ix2 0 j) * L2 h wu cy r j) (U h wv r j)

/-- A chunk of the activation, as the first chunk computes it. -/
def chunk (h : Vec Ideal S512x2048 .bf16) (wu wv : Vec Ideal S1x2048x256 .bf16) (cy : Vec Ideal S8x256 .f32) (cw : Vec Ideal S3x256 .f32) : FVec Ideal S512x256 .bf16 :=
  k0_pay14 (k0_pay7 h wv) (k0_pay8 cw) (k0_pay10 h wu cy) (k0_pay11 h wu cy) (k0_pay12 h wu cw) (k0_pay13 cw)

variable (h : Vec Ideal S512x2048 .bf16) (wu wv : Vec Ideal S1x2048x256 .bf16) (cy : Vec Ideal S8x256 .f32) (cw : Vec Ideal S3x256 .f32)

/-- Chunk 1 is computed as the first is. -/
theorem chunk1 : k0_pay20 (k0_pay18 h wu) (k0_pay19 h wv) cy cw = chunk h wu wv cy cw := rfl
/-- Chunk 2 is computed as the first is. -/
theorem chunk2 : k0_pay25 h wu wv cy cw = chunk h wu wv cy cw := rfl
/-- Chunk 3 is computed as the first is. -/
theorem chunk3 : k0_pay33 (k0_pay30 h wv) (k0_pay31 h wu cy cw) (k0_pay32 h wu cy cw) = chunk h wu wv cy cw := rfl
/-- Chunk 4 is computed as the first is. -/
theorem chunk4 : k0_pay44 (k0_pay37 h wu) (k0_pay38 h wv) (k0_pay39 cw) (k0_pay41 h wu cy) (k0_pay42 h wu cy) (k0_pay43 cw) = chunk h wu wv cy cw := rfl
/-- Chunk 5 is computed as the first is. -/
theorem chunk5 : k0_pay50 h (k0_pay48 h wu) (k0_pay49 wv) (constant S512x256 .f32 0x00000000#32) cy cw = chunk h wu wv cy cw := rfl
/-- Chunk 6 is computed as the first is. -/
theorem chunk6 : k0_pay56 (k0_pay55 h wu wv cy cw) = chunk h wu wv cy cw := rfl
/-- Chunk 7 is computed as the first is. -/
theorem chunk7 : k0_pay64 (k0_pay61 h wv) (k0_pay62 h wu cy cw) (k0_pay63 h wu cy cw) = chunk h wu wv cy cw := rfl
/-- Chunk 8 is computed as the first is. -/
theorem chunk8 : k0_pay73 (k0_pay68 h wu) (k0_pay69 h wv) (k0_pay70 cw) (k0_pay71 h wu cy) (k0_pay72 h wu cy) = chunk h wu wv cy cw := rfl
/-- Chunk 9 is computed as the first is. -/
theorem chunk9 : k0_pay78 h (k0_pay77 h wu) wv cy cw = chunk h wu wv cy cw := rfl
/-- Chunk 10 is computed as the first is. -/
theorem chunk10 : k0_pay1 (k0_pay83 h wv) (k0_pay84 h wu cy cw) (k0_pay85 h wu cy cw) (FloatOps.ofBits .f32 0x3F000000#32) = chunk h wu wv cy cw := rfl
/-- Chunk 1's last rows, as carried to the next block. -/
theorem carry1 : k0_pay22 (F := Ideal) (k0_pay18 h wu) = k0_pay16 (k0_pay6 h wu) := rfl
/-- Chunk 1's last rows, as stored. -/
theorem tail1 : k0_pay23 (F := Ideal) (k0_pay18 h wu) = k0_pay17 (k0_pay6 h wu) := rfl
/-- Chunk 2's last rows, as carried to the next block. -/
theorem carry2 : k0_pay27 (F := Ideal) (k0_pay24 h wu) = k0_pay16 (k0_pay6 h wu) := rfl
/-- Chunk 2's last rows, as stored. -/
theorem tail2 : k0_pay28 (F := Ideal) (k0_pay24 h wu) = k0_pay17 (k0_pay6 h wu) := rfl
/-- Chunk 3's last rows, as carried to the next block. -/
theorem carry3 : k0_pay35 (F := Ideal) (k0_pay29 h wu) = k0_pay16 (k0_pay6 h wu) := rfl
/-- Chunk 3's last rows, as stored. -/
theorem tail3 : k0_pay36 (F := Ideal) (k0_pay29 h wu) = k0_pay17 (k0_pay6 h wu) := rfl
/-- Chunk 4's last rows, as carried to the next block. -/
theorem carry4 : k0_pay46 (F := Ideal) (k0_pay37 h wu) = k0_pay16 (k0_pay6 h wu) := rfl
/-- Chunk 4's last rows, as stored. -/
theorem tail4 : k0_pay47 (F := Ideal) (k0_pay37 h wu) = k0_pay17 (k0_pay6 h wu) := rfl
/-- Chunk 5's last rows, as carried to the next block. -/
theorem carry5 : k0_pay52 (F := Ideal) (k0_pay48 h wu) = k0_pay16 (k0_pay6 h wu) := rfl
/-- Chunk 5's last rows, as stored. -/
theorem tail5 : k0_pay53 (F := Ideal) (k0_pay51 (k0_pay48 h wu)) = k0_pay17 (k0_pay6 h wu) := rfl
/-- Chunk 6's last rows, as carried to the next block. -/
theorem carry6 : k0_pay58 (F := Ideal) (k0_pay54 h wu) = k0_pay16 (k0_pay6 h wu) := rfl
/-- Chunk 6's last rows, as stored. -/
theorem tail6 : k0_pay59 (F := Ideal) (k0_pay54 h wu) = k0_pay17 (k0_pay6 h wu) := rfl
/-- Chunk 7's last rows, as carried to the next block. -/
theorem carry7 : k0_pay66 (F := Ideal) (k0_pay60 h wu) = k0_pay16 (k0_pay6 h wu) := rfl
/-- Chunk 7's last rows, as stored. -/
theorem tail7 : k0_pay67 (F := Ideal) (k0_pay60 h wu) = k0_pay17 (k0_pay6 h wu) := rfl
/-- Chunk 8's last rows, as carried to the next block. -/
theorem carry8 : k0_pay75 (F := Ideal) (k0_pay68 h wu) = k0_pay16 (k0_pay6 h wu) := rfl
/-- Chunk 8's last rows, as stored. -/
theorem tail8 : k0_pay76 (F := Ideal) (k0_pay68 h wu) = k0_pay17 (k0_pay6 h wu) := rfl
/-- Chunk 9's last rows, as carried to the next block. -/
theorem carry9 : k0_pay80 (F := Ideal) (k0_pay77 h wu) = k0_pay16 (k0_pay6 h wu) := rfl
/-- Chunk 9's last rows, as stored. -/
theorem tail9 : k0_pay81 (F := Ideal) (k0_pay79 (k0_pay77 h wu)) = k0_pay17 (k0_pay6 h wu) := rfl
/-- Chunk 10's last rows, as carried to the next block. -/
theorem carry10 : k0_pay3 (F := Ideal) (k0_pay82 h wu) = k0_pay16 (k0_pay6 h wu) := rfl
/-- Chunk 10's last rows, as stored. -/
theorem tail10 : k0_pay4 (F := Ideal) (k0_pay82 h wu) = k0_pay17 (k0_pay6 h wu) := rfl

/-- A chunk's product is the block's, where its columns are the block's. -/
theorem prod_eq (w : Vec Ideal S1x2048x2816 .bf16) (j : Fin 256) (j' : Fin 2816) (hw : ∀ k, wu (ix3 0 k j) = w (ix3 0 k j')) (r : Fin 512) :
    k0_pay6 (F := Ideal) h wu (ix2 r j) = U h w r j' :=
  (prod_at h wu r j).trans (Finset.sum_congr rfl fun k _ => congrArg (h (ix2 r k) * ·) (hw k))

/-- A chunk of the activation is the block's, where its columns are the block's. -/
theorem chunk_eq (Wu Wv : Vec Ideal S1x2048x2816 .bf16) (Cy : Vec Ideal S8x2816 .f32) (Cw : Vec Ideal S3x2816 .f32) (j : Fin 256) (j' : Fin 2816)
    (hu : ∀ k, wu (ix3 0 k j) = Wu (ix3 0 k j')) (hv : ∀ k, wv (ix3 0 k j) = Wv (ix3 0 k j')) (hc : ∀ i, cy (ix2 i j) = Cy (ix2 i j'))
    (hw : ∀ i, cw (ix2 i j) = Cw (ix2 i j')) (r : Fin 512) :
    chunk h wu wv cy cw (ix2 r j) = ACT h Wu Wv Cy Cw r j' := by
  have e1 : k0_pay13 (F := Ideal) cw (ix2 r j) = Cw (ix2 1 j') := by rw [← hw]; pointwise [k0_pay13, k0_pay8]
  have e0 : k0_pay8 (F := Ideal) cw (ix2 0 j) = Cw (ix2 0 j') := by rw [← hw]; pointwise [k0_pay8]
  have ev : k0_pay7 (F := Ideal) h wv (ix2 r j) = U h Wv r j' := prod_eq h wv Wv j j' hv r
  unfold chunk ACT
  rw [gate_at, e1, e0, ev, lag1_at, lag2_at, tap_at, prod_eq h wu Wu j j' hu, hc, hw]
  unfold L1 L2
  simp only [prod_eq h wu Wu j j' hu, hc]

/-- A chunk's carried rows are the block's last. -/
theorem carry_eq (w : Vec Ideal S1x2048x2816 .bf16) (j : Fin 256) (j' : Fin 2816) (hw : ∀ k, wu (ix3 0 k j) = w (ix3 0 k j')) (i : Fin 8) :
    k0_pay16 (k0_pay6 (F := Ideal) h wu) (ix2 i j) = U h w ⟨504 + i.val, by omega⟩ j' := by
  rw [← prod_eq h wu w j j' hw]; pointwise [k0_pay16, k0_pay15]

/-- A chunk's stored rows are the block's last. -/
theorem tail_eq (w : Vec Ideal S1x2048x2816 .bf16) (j : Fin 256) (j' : Fin 2816) (hw : ∀ k, wu (ix3 0 k j) = w (ix3 0 k j')) (a : Fin 1) (i : Fin 8) :
    k0_pay17 (k0_pay6 (F := Ideal) h wu) (ix3 a i j) = U h w ⟨504 + i.val, by omega⟩ j' := by
  rw [← prod_eq h wu w j j' hw]; pointwise [k0_pay17, k0_pay15]

end Cert.Kernel5Ideal.Up
end
end
-- ==== Proof.UpRun.lean ====
module

public import proofs.«01_k».proof.Proof.Gen.Kernel5Ideal.Frame
public import proofs.«01_k».proof.Proof.UpBlock
public import Idealize.ShloMosaic.Lib.Pipeline.ValueKit
public import Idealize.ShloMosaic.Lib.Pointwise
public import Idealize.ShloMosaic.Lib.Pipeline.ReadBack

/-! The up projection's grid: what each point leaves in its two blocks and in the rows it carries to the next point. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel5Ideal.Up

open Cert.Kernel5Ideal Cert.Kernel5Ideal.Gen

variable (m : (ℓ : Loc nD τ sig) → Buf (Elt Ideal) ℓ)

/-- The last eight rows of a block's product. -/
def LAST (h : Vec Ideal S512x2048 .bf16) (w : Vec Ideal S1x2048x2816 .bf16) : Vec Ideal S8x2816 .f32 :=
  fun y => U h w ⟨504 + (y 0).val, by have := (y 0).isLt; change _ < 8 at this; omega⟩ (y 1)

/-- The same rows under a unit axis. -/
def LAST1 (h : Vec Ideal S512x2048 .bf16) (w : Vec Ideal S1x2048x2816 .bf16) : Vec Ideal S1x8x2816 .f32 :=
  fun y => U h w ⟨504 + (y 1).val, by have := (y 1).isLt; change _ < 8 at this; omega⟩ (y 2)

/-- The activation of a block. -/
def BLOCK (h : Vec Ideal S512x2048 .bf16) (wu wv : Vec Ideal S1x2048x2816 .bf16) (cy : Vec Ideal S8x2816 .f32) (cw : Vec Ideal S3x2816 .f32) :
    Vec Ideal S512x2816 .bf16 :=
  fun y => ACT h wu wv cy cw (y 0) (y 1)

/-- Where a chunk's columns lie in a block of weights. -/
theorem off3 (o : ℕ) (k : Fin 2048) (j : Fin 256) (j' : Fin 2816) (e : j'.val = o + j.val) :
    ∀ a, ((ix3 0 k j' : S1x2048x2816.Idx) a : ℕ) = (![0, 0, o] : Fin 3 → ℕ) a + ((ix3 0 k j : S1x2048x256.Idx) a : ℕ)
  | ⟨0, _⟩ => rfl
  | ⟨1, _⟩ => (Nat.zero_add _).symm
  | ⟨2, _⟩ => e

/-- Where a chunk's columns lie in the carried rows. -/
theorem off8 (o : ℕ) (k : Fin 8) (j : Fin 256) (j' : Fin 2816) (e : j'.val = o + j.val) :
    ∀ a, ((ix2 k j' : S8x2816.Idx) a : ℕ) = (![0, o] : Fin 2 → ℕ) a + ((ix2 k j : S8x256.Idx) a : ℕ)
  | ⟨0, _⟩ => (Nat.zero_add _).symm
  | ⟨1, _⟩ => e

/-- Where a chunk's columns lie in the taps' weights. -/
theorem offw (o : ℕ) (k : Fin 3) (j : Fin 256) (j' : Fin 2816) (e : j'.val = o + j.val) :
    ∀ a, ((ix2 k j' : S3x2816.Idx) a : ℕ) = (![0, o] : Fin 2 → ℕ) a + ((ix2 k j : S3x256.Idx) a : ℕ)
  | ⟨0, _⟩ => (Nat.zero_add _).symm
  | ⟨1, _⟩ => e

/-- A chunk of the activation, at a place of the block. -/
theorem chunk_at (h : Vec Ideal S512x2048 .bf16) (wu wv : Vec Ideal S1x2048x256 .bf16) (cy : Vec Ideal S8x256 .f32) (cw : Vec Ideal S3x256 .f32)
    (Wu Wv : Vec Ideal S1x2048x2816 .bf16) (Cy : Vec Ideal S8x2816 .f32) (Cw : Vec Ideal S3x2816 .f32) (x : S512x256.Idx) (y : S512x2816.Idx)
    (e : (y 0).val = (x 0).val)
    (hu : ∀ k : Fin 2048, wu (ix3 0 k (x 1)) = Wu (ix3 0 k (y 1))) (hv : ∀ k : Fin 2048, wv (ix3 0 k (x 1)) = Wv (ix3 0 k (y 1)))
    (hc : ∀ i : Fin 8, cy (ix2 i (x 1)) = Cy (ix2 i (y 1))) (hw : ∀ i : Fin 3, cw (ix2 i (x 1)) = Cw (ix2 i (y 1))) :
    chunk h wu wv cy cw x = BLOCK h Wu Wv Cy Cw y := by
  have ex : x = ix2 (y 0) (x 1) := by
    funext a; match a with
    | ⟨0, _⟩ => exact Fin.ext e.symm
    | ⟨1, _⟩ => rfl
  exact (congrArg (chunk h wu wv cy cw) ex).trans (chunk_eq h wu wv cy cw Wu Wv Cy Cw (x 1) (y 1) hu hv hc hw (y 0))

/-- A chunk's carried rows, at a place of the block. -/
theorem carry_at (h : Vec Ideal S512x2048 .bf16) (wu : Vec Ideal S1x2048x256 .bf16) (Wu : Vec Ideal S1x2048x2816 .bf16) (x : S8x256.Idx) (y : S8x2816.Idx)
    (e : (y 0).val = (x 0).val) (hu : ∀ k : Fin 2048, wu (ix3 0 k (x 1)) = Wu (ix3 0 k (y 1))) :
    k0_pay16 (k0_pay6 (F := Ideal) h wu) x = LAST h Wu y := by
  have ex : x = ix2 (y 0) (x 1) := by
    funext a; match a with
    | ⟨0, _⟩ => exact Fin.ext e.symm
    | ⟨1, _⟩ => rfl
  exact (congrArg (k0_pay16 (k0_pay6 (F := Ideal) h wu)) ex).trans (carry_eq h wu Wu (x 1) (y 1) hu (y 0))

/-- A chunk's stored rows, at a place of the block. -/
theorem tail_at (h : Vec Ideal S512x2048 .bf16) (wu : Vec Ideal S1x2048x256 .bf16) (Wu : Vec Ideal S1x2048x2816 .bf16) (x : S1x8x256.Idx) (y : S1x8x2816.Idx)
    (e : (y 1).val = (x 1).val) (hu : ∀ k : Fin 2048, wu (ix3 0 k (x 2)) = Wu (ix3 0 k (y 2))) :
    k0_pay17 (k0_pay6 (F := Ideal) h wu) x = LAST1 h Wu y := by
  have ex : x = ix3 (x 0) (y 1) (x 2) := by
    funext a; match a with
    | ⟨0, _⟩ => rfl
    | ⟨1, _⟩ => exact Fin.ext e.symm
    | ⟨2, _⟩ => rfl
  exact (congrArg (k0_pay17 (k0_pay6 (F := Ideal) h wu)) ex).trans (tail_eq h wu Wu (x 2) (y 2) hu (x 0) (y 1))

/-- The rows a point carries on, at a point that does not begin a sequence. -/
theorem carryB (c : Dev nD) (t : Fin cfg0.N) (hB : ¬ t.val % 8 = 0) :
    (outsAt0 m c t.val t.isLt).2.2 = LAST (iblk m c 0 t) (iblk m c 1 t) := by
  funext y
  rw [outsAt0_B m c t hB]; frame_open
  simp (disch := decide) only [↓ View.readCov_skip, ↓ View.readCov_cons_toLoadRect, ↓ View.readCov_fill]
  frame_out
  clear hB
  canon_tiles x h
  · exact (congrFun (carry10 _ _) _).trans (carry_at _ _ _ _ _ (h0.trans (by omega)) (fun k => View.ld_unit_apply_of _ _ _ _ _ _ (off3 2560 k _ _ (h1.trans (by omega)))))
  · exact (congrFun (carry9 _ _) _).trans (carry_at _ _ _ _ _ (h0.trans (by omega)) (fun k => View.ld_unit_apply_of _ _ _ _ _ _ (off3 2304 k _ _ (h1.trans (by omega)))))
  · exact (congrFun (carry8 _ _) _).trans (carry_at _ _ _ _ _ (h0.trans (by omega)) (fun k => View.ld_unit_apply_of _ _ _ _ _ _ (off3 2048 k _ _ (h1.trans (by omega)))))
  · exact (congrFun (carry7 _ _) _).trans (carry_at _ _ _ _ _ (h0.trans (by omega)) (fun k => View.ld_unit_apply_of _ _ _ _ _ _ (off3 1792 k _ _ (h1.trans (by omega)))))
  · exact (congrFun (carry6 _ _) _).trans (carry_at _ _ _ _ _ (h0.trans (by omega)) (fun k => View.ld_unit_apply_of _ _ _ _ _ _ (off3 1536 k _ _ (h1.trans (by omega)))))
  · exact (congrFun (carry5 _ _) _).trans (carry_at _ _ _ _ _ (h0.trans (by omega)) (fun k => View.ld_unit_apply_of _ _ _ _ _ _ (off3 1280 k _ _ (h1.trans (by omega)))))
  · exact (congrFun (carry4 _ _) _).trans (carry_at _ _ _ _ _ (h0.trans (by omega)) (fun k => View.ld_unit_apply_of _ _ _ _ _ _ (off3 1024 k _ _ (h1.trans (by omega)))))
  · exact (congrFun (carry3 _ _) _).trans (carry_at _ _ _ _ _ (h0.trans (by omega)) (fun k => View.ld_unit_apply_of _ _ _ _ _ _ (off3 768 k _ _ (h1.trans (by omega)))))
  · exact (congrFun (carry2 _ _) _).trans (carry_at _ _ _ _ _ (h0.trans (by omega)) (fun k => View.ld_unit_apply_of _ _ _ _ _ _ (off3 512 k _ _ (h1.trans (by omega)))))
  · exact (congrFun (carry1 _ _) _).trans (carry_at _ _ _ _ _ (h0.trans (by omega)) (fun k => View.ld_unit_apply_of _ _ _ _ _ _ (off3 256 k _ _ (h1.trans (by omega)))))
  · exact (carry_at _ _ _ _ _ (h0.trans (by omega)) (fun k => View.ld_unit_apply_of _ _ _ _ _ _ (off3 0 k _ _ (h1.trans (by omega)))))

/-- An earlier store is not seen where a later one lies. -/
theorem canon_drop {Val : EltTy → Type} [∀ e, Nonempty (Val e)] {S : Shape} {e : EltTy} (L' : List (View.Piece Val S e)) (y : S.Idx) :
    ∀ (L : List (View.Piece Val S e)) (_ : ∃ p ∈ L, y ∈ p.1.set), View.canon (L ++ L') y = View.canon L y
  | [], hy => by obtain ⟨p, hp, _⟩ := hy; exact absurd hp List.not_mem_nil
  | p :: L, hy => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans (canon_drop L' y L ?_) (View.canon_cons_of_not_mem p L hm).symm)
      obtain ⟨q, hq, hyq⟩ := hy
      rcases List.mem_cons.mp hq with rfl | hq
      · exact absurd hyq hm
      · exact ⟨q, hq, hyq⟩

/-- Eleven stores that cover the buffer, over a fill of it. -/
theorem canon_fill {Val : EltTy → Type} [∀ e, Nonempty (Val e)] {S : Shape} {e : EltTy} (p0 p1 p2 p3 p4 p5 p6 p7 p8 p9 p10 q : View.Piece Val S e) (y : S.Idx)
    (hy : ∃ p ∈ [p0, p1, p2, p3, p4, p5, p6, p7, p8, p9, p10], y ∈ p.1.set) : View.canon [p0, p1, p2, p3, p4, p5, p6, p7, p8, p9, p10, q] y = View.canon [p0, p1, p2, p3, p4, p5, p6, p7, p8, p9, p10] y :=
  canon_drop [q] y [p0, p1, p2, p3, p4, p5, p6, p7, p8, p9, p10] hy

/-- The rows a point carries on, at a point that begins a sequence. -/
theorem carryA (c : Dev nD) (t : Fin cfg0.N) (hA : t.val % 8 = 0) :
    (outsAt0 m c t.val t.isLt).2.2 = LAST (iblk m c 0 t) (iblk m c 1 t) := by
  funext y
  rw [outsAt0_A m c t hA]; frame_open
  simp (disch := decide) only [↓ View.readCov_skip, ↓ View.readCov_cons_toLoadRect, ↓ View.readCov_fill]
  frame_out
  refine (canon_fill _ _ _ _ _ _ _ _ _ _ _ _ y (View.cover_of_tiledL (s := S8x2816) _ ![8, 256] (by sl_kernel_rfl) y)).trans ?_
  clear hA
  canon_tiles x h
  · exact (congrFun (carry10 _ _) _).trans (carry_at _ _ _ _ _ (h0.trans (by omega)) (fun k => View.ld_unit_apply_of _ _ _ _ _ _ (off3 2560 k _ _ (h1.trans (by omega)))))
  · exact (congrFun (carry9 _ _) _).trans (carry_at _ _ _ _ _ (h0.trans (by omega)) (fun k => View.ld_unit_apply_of _ _ _ _ _ _ (off3 2304 k _ _ (h1.trans (by omega)))))
  · exact (congrFun (carry8 _ _) _).trans (carry_at _ _ _ _ _ (h0.trans (by omega)) (fun k => View.ld_unit_apply_of _ _ _ _ _ _ (off3 2048 k _ _ (h1.trans (by omega)))))
  · exact (congrFun (carry7 _ _) _).trans (carry_at _ _ _ _ _ (h0.trans (by omega)) (fun k => View.ld_unit_apply_of _ _ _ _ _ _ (off3 1792 k _ _ (h1.trans (by omega)))))
  · exact (congrFun (carry6 _ _) _).trans (carry_at _ _ _ _ _ (h0.trans (by omega)) (fun k => View.ld_unit_apply_of _ _ _ _ _ _ (off3 1536 k _ _ (h1.trans (by omega)))))
  · exact (congrFun (carry5 _ _) _).trans (carry_at _ _ _ _ _ (h0.trans (by omega)) (fun k => View.ld_unit_apply_of _ _ _ _ _ _ (off3 1280 k _ _ (h1.trans (by omega)))))
  · exact (congrFun (carry4 _ _) _).trans (carry_at _ _ _ _ _ (h0.trans (by omega)) (fun k => View.ld_unit_apply_of _ _ _ _ _ _ (off3 1024 k _ _ (h1.trans (by omega)))))
  · exact (congrFun (carry3 _ _) _).trans (carry_at _ _ _ _ _ (h0.trans (by omega)) (fun k => View.ld_unit_apply_of _ _ _ _ _ _ (off3 768 k _ _ (h1.trans (by omega)))))
  · exact (congrFun (carry2 _ _) _).trans (carry_at _ _ _ _ _ (h0.trans (by omega)) (fun k => View.ld_unit_apply_of _ _ _ _ _ _ (off3 512 k _ _ (h1.trans (by omega)))))
  · exact (congrFun (carry1 _ _) _).trans (carry_at _ _ _ _ _ (h0.trans (by omega)) (fun k => View.ld_unit_apply_of _ _ _ _ _ _ (off3 256 k _ _ (h1.trans (by omega)))))
  · exact (carry_at _ _ _ _ _ (h0.trans (by omega)) (fun k => View.ld_unit_apply_of _ _ _ _ _ _ (off3 0 k _ _ (h1.trans (by omega)))))

/-- The rows a point stores apart, at a point that begins a sequence. -/
theorem tailA (c : Dev nD) (t : Fin cfg0.N) (hA : t.val % 8 = 0) :
    (outsAt0 m c t.val t.isLt).2.1 = LAST1 (iblk m c 0 t) (iblk m c 1 t) := by
  funext y
  rw [outsAt0_A m c t hA]; frame_open
  simp (disch := decide) only [↓ View.readCov_skip, ↓ View.readCov_cons_toLoadRect, ↓ View.readCov_fill]
  frame_out
  clear hA
  canon_tiles x h
  · exact (congrFun (tail10 _ _) _).trans (tail_at _ _ _ _ _ (h1.trans (by omega)) (fun k => View.ld_unit_apply_of _ _ _ _ _ _ (off3 2560 k _ _ (h2.trans (by omega)))))
  · exact (congrFun (tail9 _ _) _).trans (tail_at _ _ _ _ _ (h1.trans (by omega)) (fun k => View.ld_unit_apply_of _ _ _ _ _ _ (off3 2304 k _ _ (h2.trans (by omega)))))
  · exact (congrFun (tail8 _ _) _).trans (tail_at _ _ _ _ _ (h1.trans (by omega)) (fun k => View.ld_unit_apply_of _ _ _ _ _ _ (off3 2048 k _ _ (h2.trans (by omega)))))
  · exact (congrFun (tail7 _ _) _).trans (tail_at _ _ _ _ _ (h1.trans (by omega)) (fun k => View.ld_unit_apply_of _ _ _ _ _ _ (off3 1792 k _ _ (h2.trans (by omega)))))
  · exact (congrFun (tail6 _ _) _).trans (tail_at _ _ _ _ _ (h1.trans (by omega)) (fun k => View.ld_unit_apply_of _ _ _ _ _ _ (off3 1536 k _ _ (h2.trans (by omega)))))
  · exact (congrFun (tail5 _ _) _).trans (tail_at _ _ _ _ _ (h1.trans (by omega)) (fun k => View.ld_unit_apply_of _ _ _ _ _ _ (off3 1280 k _ _ (h2.trans (by omega)))))
  · exact (congrFun (tail4 _ _) _).trans (tail_at _ _ _ _ _ (h1.trans (by omega)) (fun k => View.ld_unit_apply_of _ _ _ _ _ _ (off3 1024 k _ _ (h2.trans (by omega)))))
  · exact (congrFun (tail3 _ _) _).trans (tail_at _ _ _ _ _ (h1.trans (by omega)) (fun k => View.ld_unit_apply_of _ _ _ _ _ _ (off3 768 k _ _ (h2.trans (by omega)))))
  · exact (congrFun (tail2 _ _) _).trans (tail_at _ _ _ _ _ (h1.trans (by omega)) (fun k => View.ld_unit_apply_of _ _ _ _ _ _ (off3 512 k _ _ (h2.trans (by omega)))))
  · exact (congrFun (tail1 _ _) _).trans (tail_at _ _ _ _ _ (h1.trans (by omega)) (fun k => View.ld_unit_apply_of _ _ _ _ _ _ (off3 256 k _ _ (h2.trans (by omega)))))
  · exact (tail_at _ _ _ _ _ (h1.trans (by omega)) (fun k => View.ld_unit_apply_of _ _ _ _ _ _ (off3 0 k _ _ (h2.trans (by omega)))))

/-- The rows a point stores apart, at a point that does not begin a sequence. -/
theorem tailB (c : Dev nD) (t : Fin cfg0.N) (hA : ¬ t.val % 8 = 0) :
    (outsAt0 m c t.val t.isLt).2.1 = LAST1 (iblk m c 0 t) (iblk m c 1 t) := by
  funext y
  rw [outsAt0_B m c t hA]; frame_open
  simp (disch := decide) only [↓ View.readCov_skip, ↓ View.readCov_cons_toLoadRect, ↓ View.readCov_fill]
  frame_out
  clear hA
  canon_tiles x h
  · exact (congrFun (tail10 _ _) _).trans (tail_at _ _ _ _ _ (h1.trans (by omega)) (fun k => View.ld_unit_apply_of _ _ _ _ _ _ (off3 2560 k _ _ (h2.trans (by omega)))))
  · exact (congrFun (tail9 _ _) _).trans (tail_at _ _ _ _ _ (h1.trans (by omega)) (fun k => View.ld_unit_apply_of _ _ _ _ _ _ (off3 2304 k _ _ (h2.trans (by omega)))))
  · exact (congrFun (tail8 _ _) _).trans (tail_at _ _ _ _ _ (h1.trans (by omega)) (fun k => View.ld_unit_apply_of _ _ _ _ _ _ (off3 2048 k _ _ (h2.trans (by omega)))))
  · exact (congrFun (tail7 _ _) _).trans (tail_at _ _ _ _ _ (h1.trans (by omega)) (fun k => View.ld_unit_apply_of _ _ _ _ _ _ (off3 1792 k _ _ (h2.trans (by omega)))))
  · exact (congrFun (tail6 _ _) _).trans (tail_at _ _ _ _ _ (h1.trans (by omega)) (fun k => View.ld_unit_apply_of _ _ _ _ _ _ (off3 1536 k _ _ (h2.trans (by omega)))))
  · exact (congrFun (tail5 _ _) _).trans (tail_at _ _ _ _ _ (h1.trans (by omega)) (fun k => View.ld_unit_apply_of _ _ _ _ _ _ (off3 1280 k _ _ (h2.trans (by omega)))))
  · exact (congrFun (tail4 _ _) _).trans (tail_at _ _ _ _ _ (h1.trans (by omega)) (fun k => View.ld_unit_apply_of _ _ _ _ _ _ (off3 1024 k _ _ (h2.trans (by omega)))))
  · exact (congrFun (tail3 _ _) _).trans (tail_at _ _ _ _ _ (h1.trans (by omega)) (fun k => View.ld_unit_apply_of _ _ _ _ _ _ (off3 768 k _ _ (h2.trans (by omega)))))
  · exact (congrFun (tail2 _ _) _).trans (tail_at _ _ _ _ _ (h1.trans (by omega)) (fun k => View.ld_unit_apply_of _ _ _ _ _ _ (off3 512 k _ _ (h2.trans (by omega)))))
  · exact (congrFun (tail1 _ _) _).trans (tail_at _ _ _ _ _ (h1.trans (by omega)) (fun k => View.ld_unit_apply_of _ _ _ _ _ _ (off3 256 k _ _ (h2.trans (by omega)))))
  · exact (tail_at _ _ _ _ _ (h1.trans (by omega)) (fun k => View.ld_unit_apply_of _ _ _ _ _ _ (off3 0 k _ _ (h2.trans (by omega)))))

/-- The block of the activation a point stores, at a point that begins a sequence. -/
theorem actA (c : Dev nD) (t : Fin cfg0.N) (hA : t.val % 8 = 0) :
    (outsAt0 m c t.val t.isLt).1 = BLOCK (iblk m c 0 t) (iblk m c 1 t) (iblk m c 2 t) (k0_pay5 (F := Ideal)) (iblk m c 3 t) := by
  funext y
  rw [outsAt0_A m c t hA]; frame_open
  simp (disch := decide) only [↓ View.readCov_skip, ↓ View.readCov_cons_toLoadRect, ↓ View.readCov_fill]
  frame_out
  clear hA
  canon_tiles x h
  · exact (congrFun (chunk10 _ _ _ _ _) _).trans (chunk_at _ _ _ _ _ _ _ _ _ _ _ (h0.trans (by omega)) (fun k => View.ld_unit_apply_of _ _ _ _ _ _ (off3 2560 k _ _ (h1.trans (by omega)))) (fun k => View.ld_unit_apply_of _ _ _ _ _ _ (off3 2560 k _ _ (h1.trans (by omega)))) (fun k => View.ld_unit_apply_of _ _ _ _ _ _ (off8 2560 k _ _ (h1.trans (by omega)))) (fun k => View.ld_unit_apply_of _ _ _ _ _ _ (offw 2560 k _ _ (h1.trans (by omega)))))
  · exact (congrFun (chunk9 _ _ _ _ _) _).trans (chunk_at _ _ _ _ _ _ _ _ _ _ _ (h0.trans (by omega)) (fun k => View.ld_unit_apply_of _ _ _ _ _ _ (off3 2304 k _ _ (h1.trans (by omega)))) (fun k => View.ld_unit_apply_of _ _ _ _ _ _ (off3 2304 k _ _ (h1.trans (by omega)))) (fun k => View.ld_unit_apply_of _ _ _ _ _ _ (off8 2304 k _ _ (h1.trans (by omega)))) (fun k => View.ld_unit_apply_of _ _ _ _ _ _ (offw 2304 k _ _ (h1.trans (by omega)))))
  · exact (congrFun (chunk8 _ _ _ _ _) _).trans (chunk_at _ _ _ _ _ _ _ _ _ _ _ (h0.trans (by omega)) (fun k => View.ld_unit_apply_of _ _ _ _ _ _ (off3 2048 k _ _ (h1.trans (by omega)))) (fun k => View.ld_unit_apply_of _ _ _ _ _ _ (off3 2048 k _ _ (h1.trans (by omega)))) (fun k => View.ld_unit_apply_of _ _ _ _ _ _ (off8 2048 k _ _ (h1.trans (by omega)))) (fun k => View.ld_unit_apply_of _ _ _ _ _ _ (offw 2048 k _ _ (h1.trans (by omega)))))
  · exact (congrFun (chunk7 _ _ _ _ _) _).trans (chunk_at _ _ _ _ _ _ _ _ _ _ _ (h0.trans (by omega)) (fun k => View.ld_unit_apply_of _ _ _ _ _ _ (off3 1792 k _ _ (h1.trans (by omega)))) (fun k => View.ld_unit_apply_of _ _ _ _ _ _ (off3 1792 k _ _ (h1.trans (by omega)))) (fun k => View.ld_unit_apply_of _ _ _ _ _ _ (off8 1792 k _ _ (h1.trans (by omega)))) (fun k => View.ld_unit_apply_of _ _ _ _ _ _ (offw 1792 k _ _ (h1.trans (by omega)))))
  · exact (congrFun (chunk6 _ _ _ _ _) _).trans (chunk_at _ _ _ _ _ _ _ _ _ _ _ (h0.trans (by omega)) (fun k => View.ld_unit_apply_of _ _ _ _ _ _ (off3 1536 k _ _ (h1.trans (by omega)))) (fun k => View.ld_unit_apply_of _ _ _ _ _ _ (off3 1536 k _ _ (h1.trans (by omega)))) (fun k => View.ld_unit_apply_of _ _ _ _ _ _ (off8 1536 k _ _ (h1.trans (by omega)))) (fun k => View.ld_unit_apply_of _ _ _ _ _ _ (offw 1536 k _ _ (h1.trans (by omega)))))
  · exact (congrFun (chunk5 _ _ _ _ _) _).trans (chunk_at _ _ _ _ _ _ _ _ _ _ _ (h0.trans (by omega)) (fun k => View.ld_unit_apply_of _ _ _ _ _ _ (off3 1280 k _ _ (h1.trans (by omega)))) (fun k => View.ld_unit_apply_of _ _ _ _ _ _ (off3 1280 k _ _ (h1.trans (by omega)))) (fun k => View.ld_unit_apply_of _ _ _ _ _ _ (off8 1280 k _ _ (h1.trans (by omega)))) (fun k => View.ld_unit_apply_of _ _ _ _ _ _ (offw 1280 k _ _ (h1.trans (by omega)))))
  · exact (congrFun (chunk4 _ _ _ _ _) _).trans (chunk_at _ _ _ _ _ _ _ _ _ _ _ (h0.trans (by omega)) (fun k => View.ld_unit_apply_of _ _ _ _ _ _ (off3 1024 k _ _ (h1.trans (by omega)))) (fun k => View.ld_unit_apply_of _ _ _ _ _ _ (off3 1024 k _ _ (h1.trans (by omega)))) (fun k => View.ld_unit_apply_of _ _ _ _ _ _ (off8 1024 k _ _ (h1.trans (by omega)))) (fun k => View.ld_unit_apply_of _ _ _ _ _ _ (offw 1024 k _ _ (h1.trans (by omega)))))
  · exact (congrFun (chunk3 _ _ _ _ _) _).trans (chunk_at _ _ _ _ _ _ _ _ _ _ _ (h0.trans (by omega)) (fun k => View.ld_unit_apply_of _ _ _ _ _ _ (off3 768 k _ _ (h1.trans (by omega)))) (fun k => View.ld_unit_apply_of _ _ _ _ _ _ (off3 768 k _ _ (h1.trans (by omega)))) (fun k => View.ld_unit_apply_of _ _ _ _ _ _ (off8 768 k _ _ (h1.trans (by omega)))) (fun k => View.ld_unit_apply_of _ _ _ _ _ _ (offw 768 k _ _ (h1.trans (by omega)))))
  · exact (congrFun (chunk2 _ _ _ _ _) _).trans (chunk_at _ _ _ _ _ _ _ _ _ _ _ (h0.trans (by omega)) (fun k => View.ld_unit_apply_of _ _ _ _ _ _ (off3 512 k _ _ (h1.trans (by omega)))) (fun k => View.ld_unit_apply_of _ _ _ _ _ _ (off3 512 k _ _ (h1.trans (by omega)))) (fun k => View.ld_unit_apply_of _ _ _ _ _ _ (off8 512 k _ _ (h1.trans (by omega)))) (fun k => View.ld_unit_apply_of _ _ _ _ _ _ (offw 512 k _ _ (h1.trans (by omega)))))
  · exact (congrFun (chunk1 _ _ _ _ _) _).trans (chunk_at _ _ _ _ _ _ _ _ _ _ _ (h0.trans (by omega)) (fun k => View.ld_unit_apply_of _ _ _ _ _ _ (off3 256 k _ _ (h1.trans (by omega)))) (fun k => View.ld_unit_apply_of _ _ _ _ _ _ (off3 256 k _ _ (h1.trans (by omega)))) (fun k => View.ld_unit_apply_of _ _ _ _ _ _ (off8 256 k _ _ (h1.trans (by omega)))) (fun k => View.ld_unit_apply_of _ _ _ _ _ _ (offw 256 k _ _ (h1.trans (by omega)))))
  · exact (chunk_at _ _ _ _ _ _ _ _ _ _ _ (h0.trans (by omega)) (fun k => View.ld_unit_apply_of _ _ _ _ _ _ (off3 0 k _ _ (h1.trans (by omega)))) (fun k => View.ld_unit_apply_of _ _ _ _ _ _ (off3 0 k _ _ (h1.trans (by omega)))) (fun k => View.ld_unit_apply_of _ _ _ _ _ _ (off8 0 k _ _ (h1.trans (by omega)))) (fun k => View.ld_unit_apply_of _ _ _ _ _ _ (offw 0 k _ _ (h1.trans (by omega)))))

/-- The block of the activation a point stores, at a point that does not begin a sequence. -/
theorem actB (c : Dev nD) (t : Fin cfg0.N) (hA : ¬ t.val % 8 = 0) :
    (outsAt0 m c t.val t.isLt).1 = BLOCK (iblk m c 0 t) (iblk m c 1 t) (iblk m c 2 t) (outsAt0 m c (t.val - 1) (by omega)).2.2 (iblk m c 3 t) := by
  funext y
  rw [outsAt0_B m c t hA]; frame_open
  simp (disch := decide) only [↓ View.readCov_skip, ↓ View.readCov_cons_toLoadRect, ↓ View.readCov_fill]
  frame_out
  clear hA
  canon_tiles x h
  · exact (congrFun (chunk10 _ _ _ _ _) _).trans (chunk_at _ _ _ _ _ _ _ _ _ _ _ (h0.trans (by omega)) (fun k => View.ld_unit_apply_of _ _ _ _ _ _ (off3 2560 k _ _ (h1.trans (by omega)))) (fun k => View.ld_unit_apply_of _ _ _ _ _ _ (off3 2560 k _ _ (h1.trans (by omega)))) (fun k => (View.ld_unit_apply_of _ _ _ _ _ _ (off8 2560 k _ _ (h1.trans (by omega)))).trans (congrFun (read_unread_whole cc0_scratch0 _ _) _)) (fun k => View.ld_unit_apply_of _ _ _ _ _ _ (offw 2560 k _ _ (h1.trans (by omega)))))
  · exact (congrFun (chunk9 _ _ _ _ _) _).trans (chunk_at _ _ _ _ _ _ _ _ _ _ _ (h0.trans (by omega)) (fun k => View.ld_unit_apply_of _ _ _ _ _ _ (off3 2304 k _ _ (h1.trans (by omega)))) (fun k => View.ld_unit_apply_of _ _ _ _ _ _ (off3 2304 k _ _ (h1.trans (by omega)))) (fun k => (View.ld_unit_apply_of _ _ _ _ _ _ (off8 2304 k _ _ (h1.trans (by omega)))).trans (congrFun (read_unread_whole cc0_scratch0 _ _) _)) (fun k => View.ld_unit_apply_of _ _ _ _ _ _ (offw 2304 k _ _ (h1.trans (by omega)))))
  · exact (congrFun (chunk8 _ _ _ _ _) _).trans (chunk_at _ _ _ _ _ _ _ _ _ _ _ (h0.trans (by omega)) (fun k => View.ld_unit_apply_of _ _ _ _ _ _ (off3 2048 k _ _ (h1.trans (by omega)))) (fun k => View.ld_unit_apply_of _ _ _ _ _ _ (off3 2048 k _ _ (h1.trans (by omega)))) (fun k => (View.ld_unit_apply_of _ _ _ _ _ _ (off8 2048 k _ _ (h1.trans (by omega)))).trans (congrFun (read_unread_whole cc0_scratch0 _ _) _)) (fun k => View.ld_unit_apply_of _ _ _ _ _ _ (offw 2048 k _ _ (h1.trans (by omega)))))
  · exact (congrFun (chunk7 _ _ _ _ _) _).trans (chunk_at _ _ _ _ _ _ _ _ _ _ _ (h0.trans (by omega)) (fun k => View.ld_unit_apply_of _ _ _ _ _ _ (off3 1792 k _ _ (h1.trans (by omega)))) (fun k => View.ld_unit_apply_of _ _ _ _ _ _ (off3 1792 k _ _ (h1.trans (by omega)))) (fun k => (View.ld_unit_apply_of _ _ _ _ _ _ (off8 1792 k _ _ (h1.trans (by omega)))).trans (congrFun (read_unread_whole cc0_scratch0 _ _) _)) (fun k => View.ld_unit_apply_of _ _ _ _ _ _ (offw 1792 k _ _ (h1.trans (by omega)))))
  · exact (congrFun (chunk6 _ _ _ _ _) _).trans (chunk_at _ _ _ _ _ _ _ _ _ _ _ (h0.trans (by omega)) (fun k => View.ld_unit_apply_of _ _ _ _ _ _ (off3 1536 k _ _ (h1.trans (by omega)))) (fun k => View.ld_unit_apply_of _ _ _ _ _ _ (off3 1536 k _ _ (h1.trans (by omega)))) (fun k => (View.ld_unit_apply_of _ _ _ _ _ _ (off8 1536 k _ _ (h1.trans (by omega)))).trans (congrFun (read_unread_whole cc0_scratch0 _ _) _)) (fun k => View.ld_unit_apply_of _ _ _ _ _ _ (offw 1536 k _ _ (h1.trans (by omega)))))
  · exact (congrFun (chunk5 _ _ _ _ _) _).trans (chunk_at _ _ _ _ _ _ _ _ _ _ _ (h0.trans (by omega)) (fun k => View.ld_unit_apply_of _ _ _ _ _ _ (off3 1280 k _ _ (h1.trans (by omega)))) (fun k => View.ld_unit_apply_of _ _ _ _ _ _ (off3 1280 k _ _ (h1.trans (by omega)))) (fun k => (View.ld_unit_apply_of _ _ _ _ _ _ (off8 1280 k _ _ (h1.trans (by omega)))).trans (congrFun (read_unread_whole cc0_scratch0 _ _) _)) (fun k => View.ld_unit_apply_of _ _ _ _ _ _ (offw 1280 k _ _ (h1.trans (by omega)))))
  · exact (congrFun (chunk4 _ _ _ _ _) _).trans (chunk_at _ _ _ _ _ _ _ _ _ _ _ (h0.trans (by omega)) (fun k => View.ld_unit_apply_of _ _ _ _ _ _ (off3 1024 k _ _ (h1.trans (by omega)))) (fun k => View.ld_unit_apply_of _ _ _ _ _ _ (off3 1024 k _ _ (h1.trans (by omega)))) (fun k => (View.ld_unit_apply_of _ _ _ _ _ _ (off8 1024 k _ _ (h1.trans (by omega)))).trans (congrFun (read_unread_whole cc0_scratch0 _ _) _)) (fun k => View.ld_unit_apply_of _ _ _ _ _ _ (offw 1024 k _ _ (h1.trans (by omega)))))
  · exact (congrFun (chunk3 _ _ _ _ _) _).trans (chunk_at _ _ _ _ _ _ _ _ _ _ _ (h0.trans (by omega)) (fun k => View.ld_unit_apply_of _ _ _ _ _ _ (off3 768 k _ _ (h1.trans (by omega)))) (fun k => View.ld_unit_apply_of _ _ _ _ _ _ (off3 768 k _ _ (h1.trans (by omega)))) (fun k => (View.ld_unit_apply_of _ _ _ _ _ _ (off8 768 k _ _ (h1.trans (by omega)))).trans (congrFun (read_unread_whole cc0_scratch0 _ _) _)) (fun k => View.ld_unit_apply_of _ _ _ _ _ _ (offw 768 k _ _ (h1.trans (by omega)))))
  · exact (congrFun (chunk2 _ _ _ _ _) _).trans (chunk_at _ _ _ _ _ _ _ _ _ _ _ (h0.trans (by omega)) (fun k => View.ld_unit_apply_of _ _ _ _ _ _ (off3 512 k _ _ (h1.trans (by omega)))) (fun k => View.ld_unit_apply_of _ _ _ _ _ _ (off3 512 k _ _ (h1.trans (by omega)))) (fun k => (View.ld_unit_apply_of _ _ _ _ _ _ (off8 512 k _ _ (h1.trans (by omega)))).trans (congrFun (read_unread_whole cc0_scratch0 _ _) _)) (fun k => View.ld_unit_apply_of _ _ _ _ _ _ (offw 512 k _ _ (h1.trans (by omega)))))
  · exact (congrFun (chunk1 _ _ _ _ _) _).trans (chunk_at _ _ _ _ _ _ _ _ _ _ _ (h0.trans (by omega)) (fun k => View.ld_unit_apply_of _ _ _ _ _ _ (off3 256 k _ _ (h1.trans (by omega)))) (fun k => View.ld_unit_apply_of _ _ _ _ _ _ (off3 256 k _ _ (h1.trans (by omega)))) (fun k => (View.ld_unit_apply_of _ _ _ _ _ _ (off8 256 k _ _ (h1.trans (by omega)))).trans (congrFun (read_unread_whole cc0_scratch0 _ _) _)) (fun k => View.ld_unit_apply_of _ _ _ _ _ _ (offw 256 k _ _ (h1.trans (by omega)))))
  · exact (chunk_at _ _ _ _ _ _ _ _ _ _ _ (h0.trans (by omega)) (fun k => View.ld_unit_apply_of _ _ _ _ _ _ (off3 0 k _ _ (h1.trans (by omega)))) (fun k => View.ld_unit_apply_of _ _ _ _ _ _ (off3 0 k _ _ (h1.trans (by omega)))) (fun k => (View.ld_unit_apply_of _ _ _ _ _ _ (off8 0 k _ _ (h1.trans (by omega)))).trans (congrFun (read_unread_whole cc0_scratch0 _ _) _)) (fun k => View.ld_unit_apply_of _ _ _ _ _ _ (offw 0 k _ _ (h1.trans (by omega)))))

end Cert.Kernel5Ideal.Up
end
end
-- ==== Proof.Up.lean ====
module

public import proofs.«01_k».proof.Proof.UpRef
public import proofs.«01_k».proof.Proof.UpRun
public import Idealize.ShloMosaic.Lib.Pipeline.ValueKit
public import Idealize.ShloMosaic.Lib.Pointwise

/-! The up projection: what the kernel leaves in its two results is the reference's function of the arguments. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel5Ideal.Up

open Cert.Kernel5Ideal Cert.Kernel5Ideal.Gen
open Cert.Reference5Ideal.Up (P BACK CONV REF TAIL gated)

variable (m : (ℓ : Loc nD τ sig) → Buf (Elt Ideal) ℓ)

/-- The activations. -/
abbrev aX (c : Dev nD) := m ((c : Thread nD τ).loc main_arg0)
/-- The weights of the four layers. -/
abbrev aW (c : Dev nD) := m ((c : Thread nD τ).loc main_arg1)
/-- The taps' weights of the four layers. -/
abbrev aC (c : Dev nD) := m ((c : Thread nD τ).loc main_arg2)

/-- Which block of its array each window stages at a point. -/
theorem idx : ∀ t : Fin cfg0.N, win0_0.index t = ![t.val % 16, 0] ∧ win0_1.index t = ![0, 0, t.val / 16] ∧ win0_2.index t = ![0, 0, 2 + t.val / 16]
    ∧ win0_3.index t = ![0, t.val / 16] ∧ win0_4.index t = ![t.val % 16, t.val / 16] ∧ win0_5.index t = ![t.val % 16 / 8, 0, t.val / 16] :=
  (by decide +kernel : ∀ t : Fin grid0.N, _)

/-- There are thirty-two points. -/
theorem lt32 : ∀ t : Fin cfg0.N, t.val < 32 := (by decide +kernel : ∀ t : Fin grid0.N, t.val < 32)

/-- The weights at the region's start. -/
theorem entry_w (c : Dev nD) (i : Fin 4) (k : Fin 2048) (j : Fin 11264) : V m c main_v0 (ix3 i k j) = aW m c (ix3 i k j) := by
  simp only [V, V0, hostOps0, List.flatten_cons, List.flatten_nil, List.append_nil, List.cons_append, List.nil_append]
  entry_read
  pointwise

/-- The taps' weights at the region's start. -/
theorem entry_c (c : Dev nD) (i : Fin 3) (j : Fin 5632) : V m c main_v2 (ix2 i j) = aC m c (ix3 0 i j) := by
  simp only [V, V0, hostOps0, List.flatten_cons, List.flatten_nil, List.append_nil, List.cons_append, List.nil_append]
  entry_read
  pointwise

/-- A block of rows, as rows of the argument. -/
theorem rows (c : Dev nD) (t : Fin cfg0.N) (r : Fin 512) (k : Fin 2048) : iblk m c 0 t (ix2 r k)
    = aX m c (ix2 (⟨t.val % 16 * 512 + r.val, by omega⟩ : Fin 8192) k) := by
  refine congrArg (V m c main_arg0) (?_ : ((cfg0.win 0).blk t).view.emb (ix2 r k) = ix2 (⟨t.val % 16 * 512 + r.val, by omega⟩ : Fin 8192) k)
  blk_ext [idx t]

/-- A block of the first half of the weights. -/
theorem cols (c : Dev nD) (t : Fin cfg0.N) (k : Fin 2048) (j : Fin 2816) : iblk m c 1 t (ix3 (0 : Fin 1) k j)
    = aW m c (ix3 (0 : Fin 4) k (⟨t.val / 16 * 2816 + j.val, by have := lt32 t; omega⟩ : Fin 11264)) := by
  have hT := lt32 t
  refine (congrArg (V m c main_v0) (?_ : ((cfg0.win 1).blk t).view.emb (ix3 (0 : Fin 1) k j) = ix3 (0 : Fin 4) k (⟨t.val / 16 * 2816 + j.val, by omega⟩ : Fin 11264))).trans (entry_w m c _ _ _)
  blk_ext [idx t]

/-- A block of the second half of the weights. -/
theorem gcols (c : Dev nD) (t : Fin cfg0.N) (k : Fin 2048) (j : Fin 2816) : iblk m c 2 t (ix3 (0 : Fin 1) k j)
    = aW m c (ix3 (0 : Fin 4) k (⟨5632 + (t.val / 16 * 2816 + j.val), by have := lt32 t; omega⟩ : Fin 11264)) := by
  have hT := lt32 t
  refine (congrArg (V m c main_v0) (?_ : ((cfg0.win 2).blk t).view.emb (ix3 (0 : Fin 1) k j) = ix3 (0 : Fin 4) k (⟨5632 + (t.val / 16 * 2816 + j.val), by omega⟩ : Fin 11264))).trans (entry_w m c _ _ _)
  blk_ext [idx t]

/-- A block of the taps' weights. -/
theorem taps (c : Dev nD) (t : Fin cfg0.N) (i : Fin 3) (j : Fin 2816) : iblk m c 3 t (ix2 i j)
    = aC m c (ix3 (0 : Fin 4) i (⟨t.val / 16 * 2816 + j.val, by have := lt32 t; omega⟩ : Fin 5632)) := by
  have hT := lt32 t
  refine (congrArg (V m c main_v2) (?_ : ((cfg0.win 3).blk t).view.emb (ix2 i j) = ix2 i (⟨t.val / 16 * 2816 + j.val, by omega⟩ : Fin 5632))).trans (entry_c m c _ _)
  blk_ext [idx t]

/-- A block's product is the whole product's. -/
theorem U_eq (c : Dev nD) (t : Fin cfg0.N) (r : Fin 512) (j : Fin 2816) : U (iblk m c 0 t) (iblk m c 1 t) r j
    = P (aX m c) (aW m c) ⟨t.val % 16 * 512 + r.val, by omega⟩ ⟨t.val / 16 * 2816 + j.val, by have := lt32 t; omega⟩ :=
  Finset.sum_congr rfl fun k _ => by rw [rows m c t r k, cols m c t k j]

/-- A block's gate is the whole gate's. -/
theorem G_eq (c : Dev nD) (t : Fin cfg0.N) (r : Fin 512) (j : Fin 2816) : U (iblk m c 0 t) (iblk m c 2 t) r j
    = P (aX m c) (aW m c) ⟨t.val % 16 * 512 + r.val, by omega⟩ ⟨5632 + (t.val / 16 * 2816 + j.val), by have := lt32 t; omega⟩ :=
  Finset.sum_congr rfl fun k _ => by rw [rows m c t r k, gcols m c t k j]

/-- The rows a point carries on. -/
theorem carry_all (c : Dev nD) (t : Fin cfg0.N) : (outsAt0 m c t.val t.isLt).2.2 = LAST (iblk m c 0 t) (iblk m c 1 t) := by
  by_cases h : t.val % 8 = 0
  · exact carryA m c t h
  · exact carryB m c t h

/-- What the rows carried into a point must be: the rows before it in its sequence, zero before the sequence's start. -/
def Carried (c : Dev nD) (t : Fin cfg0.N) (cy : Vec Ideal S8x2816 .f32) : Prop :=
  ∀ (i : Fin 8) (j : Fin 2816), cy (ix2 i j) = if h : t.val % 8 = 0 then (0 : EReal)
    else P (aX m c) (aW m c) ⟨t.val % 16 * 512 + i.val - 8, by omega⟩ ⟨t.val / 16 * 2816 + j.val, by have := lt32 t; omega⟩

/-- The row before. -/
theorem L1_eq (c : Dev nD) (t : Fin cfg0.N) (cy : Vec Ideal S8x2816 .f32) (hc : Carried m c t cy) (r : Fin 512) (j : Fin 2816) :
    L1 (iblk m c 0 t) (iblk m c 1 t) cy r j
      = BACK 1 (aX m c) (aW m c) ⟨t.val % 16 * 512 + r.val, by omega⟩ ⟨t.val / 16 * 2816 + j.val, by have := lt32 t; omega⟩ := by
  have hT := lt32 t
  unfold L1 BACK
  by_cases h : 1 ≤ r.val
  · rw [dif_pos h, if_pos (by show 1 ≤ (t.val % 16 * 512 + r.val) % 4096; omega), U_eq m c t]
    exact congrArg (fun q => P _ _ q _) (Fin.ext (by show t.val % 16 * 512 + (r.val - 1) = t.val % 16 * 512 + r.val - 1; omega))
  · rw [dif_neg h, hc]
    by_cases hb : t.val % 8 = 0
    · rw [dif_pos hb, if_neg (by show ¬ 1 ≤ (t.val % 16 * 512 + r.val) % 4096; omega)]
    · rw [dif_neg hb, if_pos (by show 1 ≤ (t.val % 16 * 512 + r.val) % 4096; omega)]
      exact congrArg (fun q => P _ _ q _) (Fin.ext (by show t.val % 16 * 512 + 7 - 8 = t.val % 16 * 512 + r.val - 1; omega))

/-- The row two before. -/
theorem L2_eq (c : Dev nD) (t : Fin cfg0.N) (cy : Vec Ideal S8x2816 .f32) (hc : Carried m c t cy) (r : Fin 512) (j : Fin 2816) :
    L2 (iblk m c 0 t) (iblk m c 1 t) cy r j
      = BACK 2 (aX m c) (aW m c) ⟨t.val % 16 * 512 + r.val, by omega⟩ ⟨t.val / 16 * 2816 + j.val, by have := lt32 t; omega⟩ := by
  have hT := lt32 t
  unfold L2 BACK
  by_cases h : 2 ≤ r.val
  · rw [dif_pos h, if_pos (by show 2 ≤ (t.val % 16 * 512 + r.val) % 4096; omega), U_eq m c t]
    exact congrArg (fun q => P _ _ q _) (Fin.ext (by show t.val % 16 * 512 + (r.val - 2) = t.val % 16 * 512 + r.val - 2; omega))
  · rw [dif_neg h, hc]
    by_cases hb : t.val % 8 = 0
    · rw [dif_pos hb, if_neg (by show ¬ 2 ≤ (t.val % 16 * 512 + r.val) % 4096; omega)]
    · rw [dif_neg hb, if_pos (by show 2 ≤ (t.val % 16 * 512 + r.val) % 4096; omega)]
      exact congrArg (fun q => P _ _ q _) (Fin.ext (by show t.val % 16 * 512 + (6 + r.val) - 8 = t.val % 16 * 512 + r.val - 2; omega))

/-- A block of the activation, over the right carried rows, is the reference's. -/
theorem block_eq (c : Dev nD) (t : Fin cfg0.N) (cy : Vec Ideal S8x2816 .f32) (hc : Carried m c t cy) (r : Fin 512) (j : Fin 2816) :
    BLOCK (iblk m c 0 t) (iblk m c 1 t) (iblk m c 2 t) cy (iblk m c 3 t) (ix2 r j)
      = REF (aX m c) (aW m c) (aC m c) (ix2 (⟨t.val % 16 * 512 + r.val, by omega⟩ : Fin 8192) (⟨t.val / 16 * 2816 + j.val, by have := lt32 t; omega⟩ : Fin 5632)) := by
  show ACT (iblk m c 0 t) (iblk m c 1 t) (iblk m c 2 t) cy (iblk m c 3 t) r j = _
  unfold ACT
  rw [L1_eq m c t cy hc r j, L2_eq m c t cy hc r j, U_eq m c t r j, G_eq m c t r j, taps m c t, taps m c t, taps m c t]
  rfl

/-- The rows carried into a point that begins a sequence. -/
theorem carriedA (c : Dev nD) (t : Fin cfg0.N) (h : t.val % 8 = 0) : Carried m c t (k0_pay5 (F := Ideal)) := by
  intro i j
  rw [dif_pos h]
  pointwise [k0_pay5]

/-- The rows carried into any other point. -/
theorem carriedB (c : Dev nD) (t : Fin cfg0.N) (h : ¬ t.val % 8 = 0) : Carried m c t (outsAt0 m c (t.val - 1) (by omega)).2.2 := by
  intro i j
  have hT := lt32 t
  rw [dif_neg h]
  refine (congrFun (carry_all m c ⟨t.val - 1, by omega⟩) (ix2 i j)).trans ?_
  refine (U_eq m c ⟨t.val - 1, by omega⟩ ⟨504 + i.val, by omega⟩ j).trans ?_
  congr 1
  · exact Fin.ext (by show (t.val - 1) % 16 * 512 + (504 + i.val) = t.val % 16 * 512 + i.val - 8; omega)
  · exact Fin.ext (by show (t.val - 1) / 16 * 2816 + j.val = t.val / 16 * 2816 + j.val; omega)

/-- What a point stores in the activation. -/
theorem act_all (c : Dev nD) (t : Fin cfg0.N) (r : Fin 512) (j : Fin 2816) : (outsAt0 m c t.val t.isLt).1 (ix2 r j)
    = REF (aX m c) (aW m c) (aC m c) (ix2 (⟨t.val % 16 * 512 + r.val, by omega⟩ : Fin 8192) (⟨t.val / 16 * 2816 + j.val, by have := lt32 t; omega⟩ : Fin 5632)) := by
  by_cases h : t.val % 8 = 0
  · exact (congrFun (actA m c t h) _).trans (block_eq m c t _ (carriedA m c t h) r j)
  · exact (congrFun (actB m c t h) _).trans (block_eq m c t _ (carriedB m c t h) r j)

/-- The activation after the run. -/
theorem final4 (c : Dev nD) : (dats m 0 c).arrAt 4 (cfgs 0).N = REF (aX m c) (aW m c) (aC m c) := by
  refine (dats m 0 c).arrAt_eq_of_covers 4 _ (by decide +kernel) fun t _ y => ?_
  blk_simp
  rw [after0_4]
  obtain ⟨r, j, rfl⟩ : ∃ (r : Fin 512) (j : Fin 2816), y = ix2 r j := ⟨y 0, y 1, by idx_ext⟩
  have hT := lt32 t
  have e : ((cfg0.win 4).blk t).view.emb (ix2 r j) = ix2 (⟨t.val % 16 * 512 + r.val, by omega⟩ : Fin 8192) (⟨t.val / 16 * 2816 + j.val, by omega⟩ : Fin 5632) := by
    blk_ext [idx t]
  exact (act_all m c t r j).trans (congrArg (REF (aX m c) (aW m c) (aC m c)) e.symm)

/-- The last eight rows of each sequence's product. -/
def LAST8 (c : Dev nD) : FVec Ideal S2x8x5632 .f32 :=
  fun y => P (aX m c) (aW m c) ⟨(y 0).val * 4096 + 4088 + (y 1).val, by have := (y 0).isLt; change _ < 2 at this; have := (y 1).isLt; change _ < 8 at this; omega⟩
    ⟨(y 2).val, by have := (y 2).isLt; change _ < 5632 at this; omega⟩

/-- What a point that ends a sequence stores apart. -/
theorem tail_all (c : Dev nD) (t : Fin cfg0.N) (h : t.val % 8 = 7) (a : Fin 1) (i : Fin 8) (j : Fin 2816) : (outsAt0 m c t.val t.isLt).2.1 (ix3 a i j)
    = LAST8 m c (ix3 (⟨t.val % 16 / 8, by omega⟩ : Fin 2) i (⟨t.val / 16 * 2816 + j.val, by have := lt32 t; omega⟩ : Fin 5632)) := by
  refine (congrFun (tailB m c t (by omega)) _).trans ((U_eq m c t ⟨504 + i.val, by omega⟩ j).trans ?_)
  exact congrArg (fun q => P _ _ q _) (Fin.ext (by show t.val % 16 * 512 + (504 + i.val) = t.val % 16 / 8 * 4096 + 4088 + i.val; omega))

/-- The stored rows after the run. -/
theorem final5 (c : Dev nD) : (dats m 0 c).arrAt 5 (cfgs 0).N = LAST8 m c := by
  refine (dats m 0 c).arrAt_eq_of_covers 5 _ (by decide +kernel) fun t hf y => ?_
  have h7 := (flush0_5 t).mp hf
  blk_simp
  rw [after0_5]
  obtain ⟨a, i, j, rfl⟩ : ∃ (a : Fin 1) (i : Fin 8) (j : Fin 2816), y = ix3 a i j := ⟨y 0, y 1, y 2, by idx_ext⟩
  have hT := lt32 t
  have e : ((cfg0.win 5).blk t).view.emb (ix3 a i j) = ix3 (⟨t.val % 16 / 8, by omega⟩ : Fin 2) i (⟨t.val / 16 * 2816 + j.val, by omega⟩ : Fin 5632) := by
    blk_ext [idx t]
  exact (tail_all m c t h7 a i j).trans (congrArg (LAST8 m c) e.symm)

/-- The contents when the region has ended. -/
abbrev atEnd (c : Dev nD) : Valuation τ sig (Elt Ideal) :=
  Pipeline.withArrays (cfgs 0).spec c (V0 m c) fun w => (dats m 0 c).arrAt w (cfgs 0).N

/-- The stored rows at the region's end. -/
theorem atEnd_rows (c : Dev nD) : atEnd m c (Proc.devRef .tc main_v3_1) = LAST8 m c :=
  (Pipeline.Dat.withArrays_arrAt (dats m 0 c) sharedIn0 (V0 m c) (A_eq m c) 5).trans (final5 m c)

/-- The last two of them, as the line after the region cuts them. -/
theorem line_tail (σ : Valuation τ sig (Elt Ideal)) : StableHlo.after (List.flatten [hostOps1]) σ (Proc.devRef .tc main_v4)
    = extractStridedSlice S2x2x5632 ![0, 6, 0] (σ (Proc.devRef .tc main_v3_1)) slices_S2x8x5632_S2x2x5632_0_6_0 := rfl

/-- The second result after the run. -/
theorem tail_end (c : Dev nD) : Pipeline.afterTail₀ cfgs (dats m) 0 (V0 m) [hostOps1] c main_v4 = TAIL (aX m c) (aW m c) := by
  refine (line_tail (atEnd m c)).trans ?_
  rw [atEnd_rows m c]
  funext y
  obtain ⟨b, s, j, rfl⟩ : ∃ (b : Fin 2) (s : Fin 2) (j : Fin 5632), y = ix3 b s j := ⟨y 0, y 1, y 2, by idx_ext⟩
  refine Eq.trans (b := LAST8 m c (ix3 b ⟨6 + s.val, by omega⟩ j)) ?_ ?_
  · generalize LAST8 m c = E; pointwise
  · exact congrArg (fun q => P _ _ q _) (Fin.ext (by show b.val * 4096 + 4088 + (6 + s.val) = b.val * 4096 + 4094 + s.val; omega))

end Cert.Kernel5Ideal.Up
end
end
-- ==== Proof.Claim5.lean ====
module

public import proofs.«01_k».proof.Defs
public import proofs.«01_k».proof.Proof.Up
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import Idealize.ShloMosaic.Lib.Claim
public import Idealize.ShloMosaic.Lib.Quiescent

/-! The claims about the up projection: the frames, and that kernel and reference end with the same two results. -/

set_option maxRecDepth 16384

@[expose] public section
noncomputable section

open Idealize.ShloMosaic Idealize.SL.Sem

namespace Cert.UpClaim

/-- The printed kernel runs, leaves its arguments and its counters. -/
theorem frame_kernel : Cert.quiescent_Kernel5 (hKernel5 := Cert.Kernel5.Gen.facts) := fun m g _ => Cert.Kernel5.Gen.frame m g

/-- The idealized kernel runs, leaves its arguments and its counters. -/
theorem frame_ideal : Cert.quiescent_Kernel5Ideal (hKernel5Ideal := Cert.Kernel5Ideal.Gen.facts) := fun m g _ => Cert.Kernel5Ideal.Gen.frame m g

/-- The reference runs, leaves its arguments and its counters. -/
theorem frame_reference : Cert.quiescent_Reference5Ideal (hReference5Ideal := Cert.Reference5Ideal.Gen.facts) := by
  intro m g _
  exact (θ_run Cert.Reference5Ideal.defs _ _).mono (fun r h => ⟨fun c => (h c).2.2, sem_eq_zero_of_no_sems rfl _⟩)
    (Cert.Reference5Ideal.Value.run m g)

/-- The kernel and the reference end with the same two results. -/
theorem value : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
    · exact Cert.Kernel5Ideal.Gen.W_main_arg1 m (Cert.Kernel5Ideal.Gen.dats m) c
    · exact Cert.Kernel5Ideal.Gen.W_main_arg2 m (Cert.Kernel5Ideal.Gen.dats m) c
  · run_from Cert.Reference5Ideal.Value.run m' g'
    · refine (Cert.Reference5Ideal.Up.out0 m' c).trans (Eq.trans ?_ (Cert.Kernel5Ideal.Up.final4 m c).symm)
      rw [(hagree c).1, (hagree c).2.1, (hagree c).2.2]
    · exact (Cert.Reference5Ideal.Up.tail_parts _ _).trans (Cert.Kernel5Ideal.Up.tail_end m c).symm

end Cert.UpClaim
end
end
-- ==== Proof.StepRows.lean ====
module

public import Idealize.ShloMosaic.Lib.Routing.OpsSet
public import Idealize.ShloMosaic.Lib.Routing.OpsPair
public import Idealize.ShloMosaic.Lib.Pointwise

/-! Rows set into a larger array, read where they were set. -/

set_option maxRecDepth 16384

@[expose] public section
noncomputable section

open Idealize.ShloMosaic

namespace Cert.StepRows

/-- Rows set from a place on the middle axis, read at one of them: where every update's start is that place and its window coordinates are its own. -/
theorem set_at {α : Type} {B R n C : Nat} {si : Shape} {w : Nat} (d : ScatterDims ⟨3, ![B, R, C]⟩ si ⟨3, ![B, n, C]⟩) (p : Nat)
    (x0 : (⟨3, ![B, R, C]⟩ : Shape).Idx → α) (idx : IVec si w) (upd : (⟨3, ![B, n, C]⟩ : Shape).Idx → α)
    (h0 : ∀ k, d.start k idx 0 = 0 ∧ d.start k idx 1 = (p : Int) ∧ d.start k idx 2 = 0)
    (hw : ∀ k, d.window k 0 = (k 0).val ∧ d.window k 1 = (k 1).val ∧ d.window k 2 = (k 2).val)
    (b : Fin B) (t : Fin n) (j : Fin C) (hp : p + t.val < R) :
    Host.scatter d (fun _ y => y) x0 idx upd (ix3 b (⟨p + t.val, hp⟩ : Fin R) j) = upd (ix3 b t j) := by
  refine Routing.scatter_set_hit d x0 idx upd _ _ (fun k hk => ?_) (ix3 b t j) ?_
  · have e := (Routing.resultIdx?_eq_some d k idx _).1 hk
    have e0 := e 0; have e1 := e 1; have e2 := e 2
    rw [(h0 k).1, (hw k).1] at e0
    rw [(h0 k).2.1, (hw k).2.1] at e1
    rw [(h0 k).2.2, (hw k).2.2] at e2
    change (0 : Int) + ((k 0).val : Int) = (b.val : Int) at e0
    change (p : Int) + ((k 1).val : Int) = ((p + t.val : Nat) : Int) at e1
    change (0 : Int) + ((k 2).val : Int) = (j.val : Int) at e2
    refine congrArg upd (funext fun a => Fin.ext ?_)
    match a with
    | ⟨0, _⟩ => show (k 0).val = b.val; omega
    | ⟨1, _⟩ => show (k 1).val = t.val; omega
    | ⟨2, _⟩ => show (k 2).val = j.val; omega
  · refine (Routing.resultIdx?_eq_some d _ idx _).2 fun a => ?_
    match a with
    | ⟨0, _⟩ =>
      show d.start _ idx 0 + (d.window _ 0 : Int) = (b.val : Int)
      rw [(h0 _).1, (hw _).1]; show (0 : Int) + (b.val : Int) = _; omega
    | ⟨1, _⟩ =>
      show d.start _ idx 1 + (d.window _ 1 : Int) = ((p + t.val : Nat) : Int)
      rw [(h0 _).2.1, (hw _).2.1]; show (p : Int) + (t.val : Int) = _; omega
    | ⟨2, _⟩ =>
      show d.start _ idx 2 + (d.window _ 2 : Int) = (j.val : Int)
      rw [(h0 _).2.2, (hw _).2.2]; show (0 : Int) + (j.val : Int) = _; omega

end Cert.StepRows
end
end
-- ==== Proof.StepProj.lean ====
module

public import proofs.«01_k».proof.Proof.Gen.Kernel6Ideal.Frame
public import proofs.«01_k».proof.Proof.Gen.Reference6Ideal.Run
public import proofs.«01_k».proof.Proof.StepRows
public import Idealize.ShloMosaic.Lib.Pipeline.ValueKit
public import Idealize.ShloMosaic.Lib.Pointwise

/-! The step's input projection: the rows the kernel reads, and the product it leaves. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel6Ideal.StepProj

open Cert.Kernel6Ideal Cert.Kernel6Ideal.Gen

/-- The step's rows, each sequence's from row eight of sixteen. -/
def zrows (X : FVec Ideal S8x4x2048 .f32) : FVec Ideal S128x2048 .f32 :=
  shapeCast S128x2048 (Host.scatter scatter_S8x16x2048_S1_S8x4x2048_012_n_1_0 (fun _ b => b)
    (broadcastInDim S8x16x2048 ![] bcast_S_S8x16x2048 (constant S_ .f32 0x00000000#32) : FVec Ideal S8x16x2048 .f32)
    (broadcastInDim S1 ![] bcast_S_S1 (constantI S_ 32 8#32)) X) shapeCasts_S8x16x2048_S128x2048

/-- A row of a sequence among the sixteen. -/
theorem zrows_at (X : FVec Ideal S8x4x2048 .f32) (b : Fin 8) (t : Fin 4) (j : Fin 2048) :
    zrows X (ix2 (⟨b.val * 16 + (8 + t.val), by omega⟩ : Fin 128) j) = X (ix3 b t j) := by
  have h := StepRows.set_at (R := 16) scatter_S8x16x2048_S1_S8x4x2048_012_n_1_0 8
    (broadcastInDim S8x16x2048 ![] bcast_S_S8x16x2048 (constant S_ .f32 0x00000000#32) : FVec Ideal S8x16x2048 .f32)
    (broadcastInDim S1 ![] bcast_S_S1 (constantI S_ 32 8#32)) X (fun k => ⟨rfl, rfl, rfl⟩) (fun k => ⟨rfl, rfl, rfl⟩) b t j (by omega)
  refine Eq.trans ?_ h
  unfold zrows
  generalize Host.scatter scatter_S8x16x2048_S1_S8x4x2048_012_n_1_0 (fun _ b => b)
    (broadcastInDim S8x16x2048 ![] bcast_S_S8x16x2048 (constant S_ .f32 0x00000000#32) : FVec Ideal S8x16x2048 .f32)
    (broadcastInDim S1 ![] bcast_S_S1 (constantI S_ 32 8#32)) X = Z
  pointwise
  exact congrArg (fun x : Fin 16 => Z (ix3 b x j)) (Fin.ext (by dsimp only; omega))

/-- The product of the rows with the weights of the first layer. -/
def prod (Z : FVec Ideal S128x2048 .f32) (U : FVec Ideal S4x2048x7168 .bf16) : FVec Ideal S128x7168 .f32 := fun i =>
  (∑ k : Fin 2048, Z (ix2 (i 0) k) * U (ix3 (0 : Fin 4) k (i 1)) : EReal)

variable (m : (ℓ : Loc nD τ sig) → Buf (Elt Ideal) ℓ)

/-- Which block of its array each window stages at a point. -/
theorem idx : ∀ t : Fin cfg0.N, win0_0.index t = ![0, 0] ∧ win0_1.index t = ![0, 0, t.val] ∧ win0_2.index t = ![0, t.val] :=
  (by decide +kernel : ∀ t : Fin grid0.N, _)

/-- The rows at the region's start. -/
theorem entry_x (c : Dev nD) : V m c main_v3 = zrows (m ((c : Thread nD τ).loc main_arg0)) := by
  simp only [V, V0, hostOps0, List.flatten_cons, List.flatten_nil, List.append_nil, List.cons_append, List.nil_append]
  entry_read
  unfold zrows
  rfl

/-- A block of rows: all of them. -/
theorem rows (c : Dev nD) (t : Fin cfg0.N) (i : Fin 128) (k : Fin 2048) : iblk m c 0 t (ix2 i k)
    = zrows (m ((c : Thread nD τ).loc main_arg0)) (ix2 i k) := by
  refine (congrArg (V m c main_v3) (?_ : ((cfg0.win 0).blk t).view.emb (ix2 i k) = ix2 i k)).trans (congrFun (entry_x m c) _)
  blk_ext [idx t]

/-- A block of weights, as columns of the weights. -/
theorem cols (c : Dev nD) (t : Fin cfg0.N) (k : Fin 2048) (j : Fin 1024) (h : t.val < 7) : iblk m c 1 t (ix3 (0 : Fin 1) k j)
    = V m c main_v14 (ix3 (0 : Fin 4) k (⟨t.val * 1024 + j.val, by omega⟩ : Fin 7168)) := by
  refine congrArg (V m c main_v14) (?_ : ((cfg0.win 1).blk t).view.emb (ix3 (0 : Fin 1) k j) = ix3 (0 : Fin 4) k (⟨t.val * 1024 + j.val, by omega⟩ : Fin 7168))
  blk_ext [idx t]

/-- An entry of what a point stores, as the sum it is. -/
theorem pay_at (A : Vec Ideal S128x2048 .f32) (U : Vec Ideal S1x2048x1024 .bf16) (i : Fin 128) (j : Fin 1024) :
    k0_pay1 (F := Ideal) A U (ix2 i j) = (∑ k : Fin 2048, A (ix2 i k) * U (ix3 (0 : Fin 1) k j) : EReal) := by
  pointwise [k0_pay1]

/-- What a point stores is the product where the block lies. -/
theorem point (c : Dev nD) (t : Fin cfg0.N) (y) : k0_pay1 (iblk m c 0 t) (iblk m c 1 t) y
    = prod (zrows (m ((c : Thread nD τ).loc main_arg0))) (V m c main_v14) (((cfg0.win 2).blk t).view.emb y) := by
  have h : t.val < 7 := (by decide +kernel : ∀ t : Fin grid0.N, t.val < 7) t
  obtain ⟨i, j, rfl⟩ : ∃ (i : Fin 128) (j : Fin 1024), y = ix2 i j := ⟨y 0, y 1, by idx_ext⟩
  have e : ((cfg0.win 2).blk t).view.emb (ix2 i j) = ix2 i (⟨t.val * 1024 + j.val, by omega⟩ : Fin 7168) := by
    blk_ext [idx t]
  refine Eq.trans ?_ (congrArg (prod (zrows (m ((c : Thread nD τ).loc main_arg0))) (V m c main_v14)) e.symm)
  refine (pay_at _ _ i j).trans ?_
  exact Finset.sum_congr rfl fun k _ => by rw [rows m c t i k, cols m c t k j h]; rfl

/-- The product after the run. -/
theorem final (c : Dev nD) : (dats m 0 c).arrAt 2 (cfgs 0).N = prod (zrows (m ((c : Thread nD τ).loc main_arg0))) (V m c main_v14) := by
  refine (dats m 0 c).arrAt_eq_of_covers 2 _ (by decide +kernel) fun t _ y => ?_
  blk_simp
  rw [after0_2]; frame_out
  exact point m c t y

end Cert.Kernel6Ideal.StepProj
end
end
-- ==== Proof.StepPieces.lean ====
module

public import proofs.«01_k».proof.Proof.StepProj
public import proofs.«01_k».proof.Proof.ProjCols
public import proofs.«01_k».proof.Proof.Gen.Reference6Ideal.Run
public import Idealize.ShloMosaic.Lib.Pipeline.ValueKit
public import Idealize.ShloMosaic.Lib.Pointwise

/-! The step's input projection: each cut of the kernel's product is the reference's. -/

set_option maxRecDepth 16384

@[expose] public section
noncomputable section

open Idealize.ShloMosaic Idealize.ShloMosaic.TcCoe Idealize.SL.Sem Idealize.ShloMosaic.StableHlo

namespace Cert.Kernel6Ideal.StepProj

open Cert.Kernel6Ideal Cert.Kernel6Ideal.Gen
open Cert.Kernel2Ideal.Proj (weights w_q w_win w_qkv w_z w_gates w_cmp w_slc w_ab)

/-- An entry of the product at a row of a sequence, as the sum it is. -/
theorem prod_at (X : FVec Ideal S8x4x2048 .f32) (U : FVec Ideal S4x2048x7168 .bf16) (b : Fin 8) (s : Fin 4) (j : Fin 7168) :
    prod (zrows X) U (ix2 (⟨b.val * 16 + (8 + s.val), by omega⟩ : Fin 128) j) = (∑ k : Fin 2048, X (ix3 b s k) * U (ix3 (0 : Fin 4) k j) : EReal) := by
  unfold prod
  exact Finset.sum_congr rfl fun k _ => congrArg (· * U (ix3 (0 : Fin 4) k j)) (zrows_at X b s k)

/-- The reference's product. -/
abbrev rdot (X : FVec Ideal S8x4x2048 .f32) (W : FVec Ideal S4x2048x6696 .f32) : FVec Ideal Cert.Reference6Ideal.S8x4x6696 .f32 :=
  Host.dotGeneral Cert.Reference6Ideal.dot_S8x4x2048_S2048x6696_S8x4x6696_2_0_01_1_n_n none X
    (shapeCast Cert.Reference6Ideal.S2048x6696 (extractStridedSlice Cert.Reference6Ideal.S1x2048x6696 ![0, 0, 0] W
      Cert.Reference6Ideal.Gen.slices_S4x2048x6696_S1x2048x6696_0_0_0) Cert.Reference6Ideal.Gen.shapeCasts_S1x2048x6696_S2048x6696)

/-- An entry of the reference's product, as the sum it is. -/
theorem rdot_at (X : FVec Ideal S8x4x2048 .f32) (W : FVec Ideal S4x2048x6696 .f32) (b : Fin 8) (s : Fin 4) (j : Fin 6696) :
    rdot X W (ix3 b s j) = (∑ k : Fin 2048, X (ix3 b s k) * W (ix3 (0 : Fin 4) k j) : EReal) := by
  pointwise [rdot]

/-- Columns that agree among the weights agree among the two products. -/
theorem col (X : FVec Ideal S8x4x2048 .f32) (W : FVec Ideal S4x2048x6696 .f32) (b : Fin 8) (s : Fin 4) (j : Fin 7168) (j' : Fin 6696)
    (h : ∀ k : Fin 2048, weights W (ix3 (0 : Fin 4) k j) = W (ix3 (0 : Fin 4) k j')) :
    rdot X W (ix3 b s j') = prod (zrows X) (weights W) (ix2 (⟨b.val * 16 + (8 + s.val), by omega⟩ : Fin 128) j) := by
  refine (rdot_at X W b s j').trans (Eq.trans ?_ (prod_at X (weights W) b s j).symm)
  exact Finset.sum_congr rfl fun k _ => congrArg (X (ix3 b s k) * ·) (h k).symm

/-- The step's rows of the product. -/
abbrev rowsOf (P : FVec Ideal S128x7168 .f32) : FVec Ideal S8x4x7168 .f32 :=
  extractStridedSlice S8x4x7168 ![0, 8, 0] (shapeCast S8x16x7168 P shapeCasts_S128x7168_S8x16x7168) slices_S8x16x7168_S8x4x7168_0_8_0

/-- An entry of the step's rows of the product. -/
theorem rowsOf_at (P : FVec Ideal S128x7168 .f32) (b : Fin 8) (s : Fin 4) (j : Fin 7168) :
    rowsOf P (ix3 b s j) = P (ix2 (⟨b.val * 16 + (8 + s.val), by omega⟩ : Fin 128) j) := by
  pointwise [rowsOf]

/-- The queries. -/
theorem piece_q (X : FVec Ideal S8x4x2048 .f32) (W : FVec Ideal S4x2048x6696 .f32) :
    (extractStridedSlice Cert.Reference6Ideal.S8x4x1024 ![0, 0, 0] (rdot X W) Cert.Reference6Ideal.Gen.slices_S8x4x6696_S8x4x1024_0_0_0 : FVec Ideal Cert.Reference6Ideal.S8x4x1024 .f32)
      = extractStridedSlice S8x4x1024 ![0, 0, 3072] (rowsOf (prod (zrows X) (weights W))) slices_S8x4x7168_S8x4x1024_0_0_3072 := by
  funext i
  obtain ⟨b, s, j, rfl⟩ : ∃ (b : Fin 8) (s : Fin 4) (j : Fin 1024), i = ix3 b s j := ⟨i 0, i 1, i 2, by idx_ext⟩
  have h := (col X W b s (⟨3072 + j.val, by omega⟩ : Fin 7168) (⟨0 + j.val, by omega⟩ : Fin 6696) fun k => w_q W k j).trans (rowsOf_at _ b s _).symm
  generalize rowsOf (prod (zrows X) (weights W)) = P at h ⊢
  revert h
  generalize rdot X W = Q
  intro h
  pointwise
  simp only [Nat.zero_add] at h
  exact h

/-- The windowed keys and values. -/
theorem piece_kvw (X : FVec Ideal S8x4x2048 .f32) (W : FVec Ideal S4x2048x6696 .f32) :
    (extractStridedSlice Cert.Reference6Ideal.S8x4x512 ![0, 0, 2048] (rdot X W) Cert.Reference6Ideal.Gen.slices_S8x4x6696_S8x4x512_0_0_2048 : FVec Ideal Cert.Reference6Ideal.S8x4x512 .f32)
      = extractStridedSlice S8x4x512 ![0, 0, 6144] (rowsOf (prod (zrows X) (weights W))) slices_S8x4x7168_S8x4x512_0_0_6144 := by
  funext i
  obtain ⟨b, s, j, rfl⟩ : ∃ (b : Fin 8) (s : Fin 4) (j : Fin 512), i = ix3 b s j := ⟨i 0, i 1, i 2, by idx_ext⟩
  have h := (col X W b s (⟨6144 + j.val, by omega⟩ : Fin 7168) (⟨2048 + j.val, by omega⟩ : Fin 6696) fun k => w_win W k j).trans (rowsOf_at _ b s _).symm
  generalize rowsOf (prod (zrows X) (weights W)) = P at h ⊢
  revert h
  generalize rdot X W = Q
  intro h
  pointwise
  exact h

/-- The convolved channels. -/
theorem piece_qkv (X : FVec Ideal S8x4x2048 .f32) (W : FVec Ideal S4x2048x6696 .f32) :
    (extractStridedSlice Cert.Reference6Ideal.S8x4x3072 ![0, 0, 2584] (rdot X W) Cert.Reference6Ideal.Gen.slices_S8x4x6696_S8x4x3072_0_0_2584 : FVec Ideal Cert.Reference6Ideal.S8x4x3072 .f32)
      = extractStridedSlice S8x4x3072 ![0, 0, 0] (rowsOf (prod (zrows X) (weights W))) slices_S8x4x7168_S8x4x3072_0_0_0 := by
  funext i
  obtain ⟨b, s, j, rfl⟩ : ∃ (b : Fin 8) (s : Fin 4) (j : Fin 3072), i = ix3 b s j := ⟨i 0, i 1, i 2, by idx_ext⟩
  have h := (col X W b s (⟨0 + j.val, by omega⟩ : Fin 7168) (⟨2584 + j.val, by omega⟩ : Fin 6696) fun k => w_qkv W k j).trans (rowsOf_at _ b s _).symm
  generalize rowsOf (prod (zrows X) (weights W)) = P at h ⊢
  revert h
  generalize rdot X W = Q
  intro h
  pointwise
  simp only [Nat.zero_add] at h
  exact h

/-- The output gates. -/
theorem piece_z (X : FVec Ideal S8x4x2048 .f32) (W : FVec Ideal S4x2048x6696 .f32) :
    (extractStridedSlice Cert.Reference6Ideal.S8x4x1024 ![0, 0, 5656] (rdot X W) Cert.Reference6Ideal.Gen.slices_S8x4x6696_S8x4x1024_0_0_5656 : FVec Ideal Cert.Reference6Ideal.S8x4x1024 .f32)
      = extractStridedSlice S8x4x1024 ![0, 0, 4096] (rowsOf (prod (zrows X) (weights W))) slices_S8x4x7168_S8x4x1024_0_0_4096 := by
  funext i
  obtain ⟨b, s, j, rfl⟩ : ∃ (b : Fin 8) (s : Fin 4) (j : Fin 1024), i = ix3 b s j := ⟨i 0, i 1, i 2, by idx_ext⟩
  have h := (col X W b s (⟨4096 + j.val, by omega⟩ : Fin 7168) (⟨5656 + j.val, by omega⟩ : Fin 6696) fun k => w_z W k j).trans (rowsOf_at _ b s _).symm
  generalize rowsOf (prod (zrows X) (weights W)) = P at h ⊢
  revert h
  generalize rdot X W = Q
  intro h
  pointwise
  exact h

/-- The branch gates. -/
theorem piece_gates (X : FVec Ideal S8x4x2048 .f32) (W : FVec Ideal S4x2048x6696 .f32) :
    (extractStridedSlice Cert.Reference6Ideal.S8x4x24 ![0, 0, 2560] (rdot X W) Cert.Reference6Ideal.Gen.slices_S8x4x6696_S8x4x24_0_0_2560 : FVec Ideal Cert.Reference6Ideal.S8x4x24 .f32)
      = extractStridedSlice S8x4x24 ![0, 0, 6656] (rowsOf (prod (zrows X) (weights W))) slices_S8x4x7168_S8x4x24_0_0_6656 := by
  funext i
  obtain ⟨b, s, j, rfl⟩ : ∃ (b : Fin 8) (s : Fin 4) (j : Fin 24), i = ix3 b s j := ⟨i 0, i 1, i 2, by idx_ext⟩
  have h := (col X W b s (⟨6656 + j.val, by omega⟩ : Fin 7168) (⟨2560 + j.val, by omega⟩ : Fin 6696) fun k => w_gates W k j).trans (rowsOf_at _ b s _).symm
  generalize rowsOf (prod (zrows X) (weights W)) = P at h ⊢
  revert h
  generalize rdot X W = Q
  intro h
  pointwise
  exact h

/-- The compressed keys and values. -/
theorem piece_cmp (X : FVec Ideal S8x4x2048 .f32) (W : FVec Ideal S4x2048x6696 .f32) :
    (extractStridedSlice Cert.Reference6Ideal.S8x4x512 ![0, 0, 1024] (rdot X W) Cert.Reference6Ideal.Gen.slices_S8x4x6696_S8x4x512_0_0_1024 : FVec Ideal Cert.Reference6Ideal.S8x4x512 .f32)
      = extractStridedSlice S8x4x512 ![0, 0, 5120] (rowsOf (prod (zrows X) (weights W))) slices_S8x4x7168_S8x4x512_0_0_5120 := by
  funext i
  obtain ⟨b, s, j, rfl⟩ : ∃ (b : Fin 8) (s : Fin 4) (j : Fin 512), i = ix3 b s j := ⟨i 0, i 1, i 2, by idx_ext⟩
  have h := (col X W b s (⟨5120 + j.val, by omega⟩ : Fin 7168) (⟨1024 + j.val, by omega⟩ : Fin 6696) fun k => w_cmp W k j).trans (rowsOf_at _ b s _).symm
  generalize rowsOf (prod (zrows X) (weights W)) = P at h ⊢
  revert h
  generalize rdot X W = Q
  intro h
  pointwise
  exact h

/-- The selected keys and values. -/
theorem piece_slc (X : FVec Ideal S8x4x2048 .f32) (W : FVec Ideal S4x2048x6696 .f32) :
    (extractStridedSlice Cert.Reference6Ideal.S8x4x512 ![0, 0, 1536] (rdot X W) Cert.Reference6Ideal.Gen.slices_S8x4x6696_S8x4x512_0_0_1536 : FVec Ideal Cert.Reference6Ideal.S8x4x512 .f32)
      = extractStridedSlice S8x4x512 ![0, 0, 5632] (rowsOf (prod (zrows X) (weights W))) slices_S8x4x7168_S8x4x512_0_0_5632 := by
  funext i
  obtain ⟨b, s, j, rfl⟩ : ∃ (b : Fin 8) (s : Fin 4) (j : Fin 512), i = ix3 b s j := ⟨i 0, i 1, i 2, by idx_ext⟩
  have h := (col X W b s (⟨5632 + j.val, by omega⟩ : Fin 7168) (⟨1536 + j.val, by omega⟩ : Fin 6696) fun k => w_slc W k j).trans (rowsOf_at _ b s _).symm
  generalize rowsOf (prod (zrows X) (weights W)) = P at h ⊢
  revert h
  generalize rdot X W = Q
  intro h
  pointwise
  exact h

/-- The decays. -/
theorem piece_a (X : FVec Ideal S8x4x2048 .f32) (W : FVec Ideal S4x2048x6696 .f32) :
    (extractStridedSlice Cert.Reference6Ideal.S8x4x8 ![0, 0, 6680] (rdot X W) Cert.Reference6Ideal.Gen.slices_S8x4x6696_S8x4x8_0_0_6680 : FVec Ideal Cert.Reference6Ideal.S8x4x8 .f32)
      = extractStridedSlice S8x4x8 ![0, 0, 6680] (rowsOf (prod (zrows X) (weights W))) slices_S8x4x7168_S8x4x8_0_0_6680 := by
  funext i
  obtain ⟨b, s, j, rfl⟩ : ∃ (b : Fin 8) (s : Fin 4) (j : Fin 8), i = ix3 b s j := ⟨i 0, i 1, i 2, by idx_ext⟩
  have h := (col X W b s (⟨6680 + j.val, by omega⟩ : Fin 7168) (⟨6680 + j.val, by omega⟩ : Fin 6696) fun k => w_ab W k (⟨j.val, by omega⟩ : Fin 16)).trans (rowsOf_at _ b s _).symm
  generalize rowsOf (prod (zrows X) (weights W)) = P at h ⊢
  revert h
  generalize rdot X W = Q
  intro h
  pointwise
  exact h

/-- The step sizes. -/
theorem piece_b (X : FVec Ideal S8x4x2048 .f32) (W : FVec Ideal S4x2048x6696 .f32) :
    (extractStridedSlice Cert.Reference6Ideal.S8x4x8 ![0, 0, 6688] (rdot X W) Cert.Reference6Ideal.Gen.slices_S8x4x6696_S8x4x8_0_0_6688 : FVec Ideal Cert.Reference6Ideal.S8x4x8 .f32)
      = extractStridedSlice S8x4x8 ![0, 0, 6688] (rowsOf (prod (zrows X) (weights W))) slices_S8x4x7168_S8x4x8_0_0_6688 := by
  funext i
  obtain ⟨b, s, j, rfl⟩ : ∃ (b : Fin 8) (s : Fin 4) (j : Fin 8), i = ix3 b s j := ⟨i 0, i 1, i 2, by idx_ext⟩
  have h := (col X W b s (⟨6688 + j.val, by omega⟩ : Fin 7168) (⟨6688 + j.val, by omega⟩ : Fin 6696) fun k => (congrArg (fun x : Fin 7168 => weights W (ix3 (0 : Fin 4) k x)) (Fin.ext (by dsimp only; omega))).trans ((w_ab W k (⟨8 + j.val, by omega⟩ : Fin 16)).trans (congrArg (fun x : Fin 6696 => W (ix3 (0 : Fin 4) k x)) (Fin.ext (by dsimp only; omega))))).trans (rowsOf_at _ b s _).symm
  generalize rowsOf (prod (zrows X) (weights W)) = P at h ⊢
  revert h
  generalize rdot X W = Q
  intro h
  pointwise
  exact h

/-- The kernel's new buffer, of the rows, the weights and the buffer. -/
abbrev buffer (X : FVec Ideal S8x4x2048 .f32) (W : FVec Ideal S4x2048x6696 .f32) (S : FVec Ideal S4x8x3x3072 .f32) : FVec Ideal S8x3x3072 .f32 :=
  extractStridedSlice S8x3x3072 ![0, 4, 0] (concatenate S8x7x3072 1 [⟨S8x3x3072, (shapeCast S8x3x3072 (extractStridedSlice S1x8x3x3072 ![0, 0, 0, 0] S slices_S4x8x3x3072_S1x8x3x3072_0_0_0_0) shapeCasts_S1x8x3x3072_S8x3x3072)⟩,
      ⟨S8x4x3072, (extractStridedSlice S8x4x3072 ![0, 0, 0] (rowsOf (prod (zrows X) (weights W))) slices_S8x4x7168_S8x4x3072_0_0_0)⟩] concatenates_S8x3x3072_S8x4x3072_S8x7x3072_d1) slices_S8x7x3072_S8x3x3072_0_4_0

/-- The buffered rows of the first layer with the step's convolved channels after them, the last three. -/
theorem piece_gconv (X : FVec Ideal S8x4x2048 .f32) (W : FVec Ideal S4x2048x6696 .f32) (S : FVec Ideal S4x8x3x3072 .f32) :
    (extractStridedSlice Cert.Reference6Ideal.S8x3x3072 ![0, 4, 0] (concatenate Cert.Reference6Ideal.S8x7x3072 1 [⟨Cert.Reference6Ideal.S8x3x3072, (shapeCast Cert.Reference6Ideal.S8x3x3072 (extractStridedSlice Cert.Reference6Ideal.S1x8x3x3072 ![0, 0, 0, 0] S Cert.Reference6Ideal.Gen.slices_S4x8x3x3072_S1x8x3x3072_0_0_0_0) Cert.Reference6Ideal.Gen.shapeCasts_S1x8x3x3072_S8x3x3072)⟩,
      ⟨Cert.Reference6Ideal.S8x4x3072, (extractStridedSlice Cert.Reference6Ideal.S8x4x3072 ![0, 0, 2584] (rdot X W) Cert.Reference6Ideal.Gen.slices_S8x4x6696_S8x4x3072_0_0_2584)⟩] Cert.Reference6Ideal.Gen.concatenates_S8x3x3072_S8x4x3072_S8x7x3072_d1) Cert.Reference6Ideal.Gen.slices_S8x7x3072_S8x3x3072_0_4_0 : FVec Ideal Cert.Reference6Ideal.S8x3x3072 .f32)
      = buffer X W S := by
  unfold buffer
  rw [← piece_qkv X W]

end Cert.Kernel6Ideal.StepProj
end
end
-- ==== Proof.StepTail.lean ====
module

public import proofs.«01_k».proof.Proof.StepPieces
public import Idealize.ShloMosaic.Lib.Pipeline.ValueKit

/-! The step's input projection: what the lines after the region leave in each result. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel6Ideal.StepProj

open Cert.Kernel6Ideal Cert.Kernel6Ideal.Gen
open Cert.Kernel2Ideal.Proj (weights)

variable (m : (ℓ : Loc nD τ sig) → Buf (Elt Ideal) ℓ)

/-- The weights at the region's start. -/
theorem entry_w (c : Dev nD) : V m c main_v14 = weights (m ((c : Thread nD τ).loc main_arg2)) := rfl

/-- The contents when the region has ended. -/
abbrev atEnd (c : Dev nD) : Valuation τ sig (Elt Ideal) :=
  Pipeline.withArrays (cfgs 0).spec c (V0 m c) fun w => (dats m 0 c).arrAt w (cfgs 0).N

/-- The region's array at its end is the product. -/
theorem atEnd_prod (c : Dev nD) : atEnd m c (Proc.devRef .tc main_v15)
    = prod (zrows (m ((c : Thread nD τ).loc main_arg0))) (weights (m ((c : Thread nD τ).loc main_arg2))) := by
  have h := Pipeline.withArrays_arr (cfgs 0).spec (show Function.Injective (Pipeline.arrRef spec0) by decide) c (V0 m c)
    (fun w => (dats m 0 c).arrAt w (cfgs 0).N) 2
  exact h.trans ((final m c).trans (congrArg (prod (zrows (m ((c : Thread nD τ).loc main_arg0)))) (entry_w m c)))

/-- The buffered rows are as they were when the region has ended. -/
theorem atEnd_buf (c : Dev nD) : atEnd m c (Proc.devRef .tc main_arg1) = m ((c : Thread nD τ).loc main_arg1) := by
  refine (Pipeline.withArrays_of_ne (cfgs 0).spec c (V0 m c) (fun w => (dats m 0 c).arrAt w (cfgs 0).N) main_arg1 (by decide)).trans ?_
  exact V_main_arg1 m c

/-- The lines after the region, run on any contents. -/
abbrev lines (σ : Valuation τ sig (Elt Ideal)) : Valuation τ sig (Elt Ideal) := StableHlo.after (List.flatten [hostOps1]) σ

/-- The queries, as the lines cut them. -/
theorem line_q (σ : Valuation τ sig (Elt Ideal)) : lines σ (Proc.devRef .tc main_v26)
    = extractStridedSlice S8x4x1024 ![0, 0, 3072] (rowsOf (σ (Proc.devRef .tc main_v15))) slices_S8x4x7168_S8x4x1024_0_0_3072 := rfl

/-- The queries after the run. -/
theorem tail_q (c : Dev nD) : Pipeline.afterTail₀ cfgs (dats m) 0 (V0 m) [hostOps1] c main_v26
    = extractStridedSlice S8x4x1024 ![0, 0, 3072] (rowsOf (prod (zrows (m ((c : Thread nD τ).loc main_arg0))) (weights (m ((c : Thread nD τ).loc main_arg2))))) slices_S8x4x7168_S8x4x1024_0_0_3072 := by
  refine (line_q (atEnd m c)).trans ?_
  rw [atEnd_prod m c]

/-- The windowed keys and values, as the lines cut them. -/
theorem line_kvw (σ : Valuation τ sig (Elt Ideal)) : lines σ (Proc.devRef .tc main_v27)
    = extractStridedSlice S8x4x512 ![0, 0, 6144] (rowsOf (σ (Proc.devRef .tc main_v15))) slices_S8x4x7168_S8x4x512_0_0_6144 := rfl

/-- The windowed keys and values after the run. -/
theorem tail_kvw (c : Dev nD) : Pipeline.afterTail₀ cfgs (dats m) 0 (V0 m) [hostOps1] c main_v27
    = extractStridedSlice S8x4x512 ![0, 0, 6144] (rowsOf (prod (zrows (m ((c : Thread nD τ).loc main_arg0))) (weights (m ((c : Thread nD τ).loc main_arg2))))) slices_S8x4x7168_S8x4x512_0_0_6144 := by
  refine (line_kvw (atEnd m c)).trans ?_
  rw [atEnd_prod m c]

/-- The convolved channels, as the lines cut them. -/
theorem line_qkv (σ : Valuation τ sig (Elt Ideal)) : lines σ (Proc.devRef .tc main_v28)
    = extractStridedSlice S8x4x3072 ![0, 0, 0] (rowsOf (σ (Proc.devRef .tc main_v15))) slices_S8x4x7168_S8x4x3072_0_0_0 := rfl

/-- The convolved channels after the run. -/
theorem tail_qkv (c : Dev nD) : Pipeline.afterTail₀ cfgs (dats m) 0 (V0 m) [hostOps1] c main_v28
    = extractStridedSlice S8x4x3072 ![0, 0, 0] (rowsOf (prod (zrows (m ((c : Thread nD τ).loc main_arg0))) (weights (m ((c : Thread nD τ).loc main_arg2))))) slices_S8x4x7168_S8x4x3072_0_0_0 := by
  refine (line_qkv (atEnd m c)).trans ?_
  rw [atEnd_prod m c]

/-- The output gates, as the lines cut them. -/
theorem line_z (σ : Valuation τ sig (Elt Ideal)) : lines σ (Proc.devRef .tc main_v29)
    = extractStridedSlice S8x4x1024 ![0, 0, 4096] (rowsOf (σ (Proc.devRef .tc main_v15))) slices_S8x4x7168_S8x4x1024_0_0_4096 := rfl

/-- The output gates after the run. -/
theorem tail_z (c : Dev nD) : Pipeline.afterTail₀ cfgs (dats m) 0 (V0 m) [hostOps1] c main_v29
    = extractStridedSlice S8x4x1024 ![0, 0, 4096] (rowsOf (prod (zrows (m ((c : Thread nD τ).loc main_arg0))) (weights (m ((c : Thread nD τ).loc main_arg2))))) slices_S8x4x7168_S8x4x1024_0_0_4096 := by
  refine (line_z (atEnd m c)).trans ?_
  rw [atEnd_prod m c]

/-- The branch gates, as the lines cut them. -/
theorem line_gates (σ : Valuation τ sig (Elt Ideal)) : lines σ (Proc.devRef .tc main_v30)
    = extractStridedSlice S8x4x24 ![0, 0, 6656] (rowsOf (σ (Proc.devRef .tc main_v15))) slices_S8x4x7168_S8x4x24_0_0_6656 := rfl

/-- The branch gates after the run. -/
theorem tail_gates (c : Dev nD) : Pipeline.afterTail₀ cfgs (dats m) 0 (V0 m) [hostOps1] c main_v30
    = extractStridedSlice S8x4x24 ![0, 0, 6656] (rowsOf (prod (zrows (m ((c : Thread nD τ).loc main_arg0))) (weights (m ((c : Thread nD τ).loc main_arg2))))) slices_S8x4x7168_S8x4x24_0_0_6656 := by
  refine (line_gates (atEnd m c)).trans ?_
  rw [atEnd_prod m c]

/-- The compressed keys and values, as the lines cut them. -/
theorem line_cmp (σ : Valuation τ sig (Elt Ideal)) : lines σ (Proc.devRef .tc main_v19)
    = shapeCast S8x4x2x2x128 (extractStridedSlice S8x4x512 ![0, 0, 5120] (rowsOf (σ (Proc.devRef .tc main_v15))) slices_S8x4x7168_S8x4x512_0_0_5120) shapeCasts_S8x4x512_S8x4x2x2x128 := rfl

/-- The compressed keys and values after the run. -/
theorem tail_cmp (c : Dev nD) : Pipeline.afterTail₀ cfgs (dats m) 0 (V0 m) [hostOps1] c main_v19
    = shapeCast S8x4x2x2x128 (extractStridedSlice S8x4x512 ![0, 0, 5120] (rowsOf (prod (zrows (m ((c : Thread nD τ).loc main_arg0))) (weights (m ((c : Thread nD τ).loc main_arg2))))) slices_S8x4x7168_S8x4x512_0_0_5120) shapeCasts_S8x4x512_S8x4x2x2x128 := by
  refine (line_cmp (atEnd m c)).trans ?_
  rw [atEnd_prod m c]

/-- The selected keys and values, as the lines cut them. -/
theorem line_slc (σ : Valuation τ sig (Elt Ideal)) : lines σ (Proc.devRef .tc main_v21)
    = shapeCast S8x4x2x2x128 (extractStridedSlice S8x4x512 ![0, 0, 5632] (rowsOf (σ (Proc.devRef .tc main_v15))) slices_S8x4x7168_S8x4x512_0_0_5632) shapeCasts_S8x4x512_S8x4x2x2x128 := rfl

/-- The selected keys and values after the run. -/
theorem tail_slc (c : Dev nD) : Pipeline.afterTail₀ cfgs (dats m) 0 (V0 m) [hostOps1] c main_v21
    = shapeCast S8x4x2x2x128 (extractStridedSlice S8x4x512 ![0, 0, 5632] (rowsOf (prod (zrows (m ((c : Thread nD τ).loc main_arg0))) (weights (m ((c : Thread nD τ).loc main_arg2))))) slices_S8x4x7168_S8x4x512_0_0_5632) shapeCasts_S8x4x512_S8x4x2x2x128 := by
  refine (line_slc (atEnd m c)).trans ?_
  rw [atEnd_prod m c]

/-- The decays, as the lines cut them. -/
theorem line_a (σ : Valuation τ sig (Elt Ideal)) : lines σ (Proc.devRef .tc main_v31)
    = extractStridedSlice S8x4x8 ![0, 0, 6680] (rowsOf (σ (Proc.devRef .tc main_v15))) slices_S8x4x7168_S8x4x8_0_0_6680 := rfl

/-- The decays after the run. -/
theorem tail_a (c : Dev nD) : Pipeline.afterTail₀ cfgs (dats m) 0 (V0 m) [hostOps1] c main_v31
    = extractStridedSlice S8x4x8 ![0, 0, 6680] (rowsOf (prod (zrows (m ((c : Thread nD τ).loc main_arg0))) (weights (m ((c : Thread nD τ).loc main_arg2))))) slices_S8x4x7168_S8x4x8_0_0_6680 := by
  refine (line_a (atEnd m c)).trans ?_
  rw [atEnd_prod m c]

/-- The step sizes, as the lines cut them. -/
theorem line_b (σ : Valuation τ sig (Elt Ideal)) : lines σ (Proc.devRef .tc main_v32)
    = extractStridedSlice S8x4x8 ![0, 0, 6688] (rowsOf (σ (Proc.devRef .tc main_v15))) slices_S8x4x7168_S8x4x8_0_0_6688 := rfl

/-- The step sizes after the run. -/
theorem tail_b (c : Dev nD) : Pipeline.afterTail₀ cfgs (dats m) 0 (V0 m) [hostOps1] c main_v32
    = extractStridedSlice S8x4x8 ![0, 0, 6688] (rowsOf (prod (zrows (m ((c : Thread nD τ).loc main_arg0))) (weights (m ((c : Thread nD τ).loc main_arg2))))) slices_S8x4x7168_S8x4x8_0_0_6688 := by
  refine (line_b (atEnd m c)).trans ?_
  rw [atEnd_prod m c]

/-- The new buffer, as the lines cut it. -/
theorem line_gconv (σ : Valuation τ sig (Elt Ideal)) : lines σ (Proc.devRef .tc main_v33)
    = extractStridedSlice S8x3x3072 ![0, 4, 0] (concatenate S8x7x3072 1 [⟨S8x3x3072, (shapeCast S8x3x3072 (extractStridedSlice S1x8x3x3072 ![0, 0, 0, 0] (σ (Proc.devRef .tc main_arg1)) slices_S4x8x3x3072_S1x8x3x3072_0_0_0_0) shapeCasts_S1x8x3x3072_S8x3x3072)⟩, ⟨S8x4x3072, (extractStridedSlice S8x4x3072 ![0, 0, 0] (rowsOf (σ (Proc.devRef .tc main_v15))) slices_S8x4x7168_S8x4x3072_0_0_0)⟩] concatenates_S8x3x3072_S8x4x3072_S8x7x3072_d1) slices_S8x7x3072_S8x3x3072_0_4_0 := rfl

/-- The new buffer after the run. -/
theorem tail_gconv (c : Dev nD) : Pipeline.afterTail₀ cfgs (dats m) 0 (V0 m) [hostOps1] c main_v33
    = buffer (m ((c : Thread nD τ).loc main_arg0)) (m ((c : Thread nD τ).loc main_arg2)) (m ((c : Thread nD τ).loc main_arg1)) := by
  refine (line_gconv (atEnd m c)).trans ?_
  rw [atEnd_prod m c, atEnd_buf m c]

end Cert.Kernel6Ideal.StepProj
end
end
-- ==== Proof.Claim6.lean ====
module

public import proofs.«01_k».proof.Defs
public import proofs.«01_k».proof.Proof.StepTail
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import Idealize.ShloMosaic.Lib.Claim
public import Idealize.ShloMosaic.Lib.Quiescent

/-! The claims about the step's input projection: the frames, and that kernel and reference end with the same ten results. -/

set_option maxRecDepth 16384

@[expose] public section
noncomputable section

open Idealize.ShloMosaic Idealize.SL.Sem

namespace Cert.StepProjClaim

/-- The printed kernel runs, leaves its arguments and its counters. -/
theorem frame_kernel : Cert.quiescent_Kernel6 (hKernel6 := Cert.Kernel6.Gen.facts) := fun m g _ => Cert.Kernel6.Gen.frame m g

/-- The idealized kernel runs, leaves its arguments and its counters. -/
theorem frame_ideal : Cert.quiescent_Kernel6Ideal (hKernel6Ideal := Cert.Kernel6Ideal.Gen.facts) := fun m g _ => Cert.Kernel6Ideal.Gen.frame m g

/-- The reference runs, leaves its arguments and its counters. -/
theorem frame_reference : Cert.quiescent_Reference6Ideal (hReference6Ideal := Cert.Reference6Ideal.Gen.facts) := by
  intro m g _
  exact (θ_run Cert.Reference6Ideal.defs _ _).mono (fun r h => ⟨fun c => (h c).2.2.2.2.2.2.2.2.2.2, sem_eq_zero_of_no_sems rfl _⟩)
    (Cert.Reference6Ideal.Value.run m g)

/-- The kernel and the reference end with the same ten results. -/
theorem value : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
    · exact Cert.Kernel6Ideal.Gen.W_main_arg0 m (Cert.Kernel6Ideal.Gen.dats m) c
    · exact Cert.Kernel6Ideal.Gen.W_main_arg1 m (Cert.Kernel6Ideal.Gen.dats m) c
    · exact Cert.Kernel6Ideal.Gen.W_main_arg2 m (Cert.Kernel6Ideal.Gen.dats m) c
  · run_from Cert.Reference6Ideal.Value.run m' g'
    · exact (congrArg (fun x => shapeCast Cert.Kernel6Ideal.S8x4x2x2x128 x Cert.Kernel6Ideal.Gen.shapeCasts_S8x4x512_S8x4x2x2x128) (Cert.Kernel6Ideal.StepProj.piece_cmp _ _)).trans (Cert.Kernel6Ideal.StepProj.tail_cmp m c).symm
    · exact (congrArg (fun x => shapeCast Cert.Kernel6Ideal.S8x4x2x2x128 x Cert.Kernel6Ideal.Gen.shapeCasts_S8x4x512_S8x4x2x2x128) (Cert.Kernel6Ideal.StepProj.piece_slc _ _)).trans (Cert.Kernel6Ideal.StepProj.tail_slc m c).symm
    · refine Eq.trans ?_ (Cert.Kernel6Ideal.StepProj.tail_gconv m c).symm
      refine (Cert.Kernel6Ideal.StepProj.piece_gconv (m (c.tc.loc Cert.Kernel6Ideal.main_arg0)) (m' (c.tc.loc Cert.Reference6Ideal.main_arg2)) (m (c.tc.loc Cert.Kernel6Ideal.main_arg1))).trans ?_
      rw [(hagree c).2.2]
    · exact (Cert.Kernel6Ideal.StepProj.piece_q _ _).trans (Cert.Kernel6Ideal.StepProj.tail_q m c).symm
    · exact (Cert.Kernel6Ideal.StepProj.piece_kvw _ _).trans (Cert.Kernel6Ideal.StepProj.tail_kvw m c).symm
    · exact (Cert.Kernel6Ideal.StepProj.piece_qkv _ _).trans (Cert.Kernel6Ideal.StepProj.tail_qkv m c).symm
    · exact (Cert.Kernel6Ideal.StepProj.piece_z _ _).trans (Cert.Kernel6Ideal.StepProj.tail_z m c).symm
    · exact (Cert.Kernel6Ideal.StepProj.piece_gates _ _).trans (Cert.Kernel6Ideal.StepProj.tail_gates m c).symm
    · exact (Cert.Kernel6Ideal.StepProj.piece_a _ _).trans (Cert.Kernel6Ideal.StepProj.tail_a m c).symm
    · exact (Cert.Kernel6Ideal.StepProj.piece_b _ _).trans (Cert.Kernel6Ideal.StepProj.tail_b m c).symm

end Cert.StepProjClaim
end
end
-- ==== Proof.StepDownRef.lean ====
module

public import proofs.«01_k».proof.Proof.Gen.Reference7Ideal.Run
public import proofs.«01_k».proof.Proof.Gen.Kernel7Ideal.Frame
public import proofs.«01_k».proof.Proof.StepRows
public import Idealize.ShloMosaic.Lib.Pipeline.ValueKit
public import Idealize.ShloMosaic.Lib.Pointwise

/-! The step's down projection: a row of the kernel's norm is the row of the reference's. -/

set_option maxRecDepth 16384

@[expose] public section
noncomputable section

open Idealize.ShloMosaic Idealize.ShloMosaic.TcCoe Idealize.SL.Sem Idealize.ShloMosaic.StableHlo

namespace Cert.Reference7Ideal.StepDown

open Cert.Reference7Ideal Cert.Reference7Ideal.Gen

/-- The projected activations. -/
abbrev dot (A : FVec Ideal S8x4x5632 .bf16) (W : FVec Ideal S4x5632x2048 .f32) : FVec Ideal S8x4x2048 .f32 :=
  Host.dotGeneral dot_S8x4x5632_S5632x2048_S8x4x2048_2_0_01_1_n_n none (extf .f32 A bitsLt_bf16_f32)
    (shapeCast _ (extractStridedSlice S1x5632x2048 ![0, 0, 0] W slices_S4x5632x2048_S1x5632x2048_0_0_0) shapeCasts_S1x5632x2048_S5632x2048)

/-- What is normalised: the scaled residual plus the projected activations. -/
abbrev pre (D : FVec Ideal S8x4x2048 .f32) (H : FVec Ideal S8x4x2048 .f32) : FVec Ideal S8x4x2048 .f32 :=
  addf (mulf (broadcastInDim S8x4x2048 ![] bcast_S_S8x4x2048 (constant S_ .f32 0x3FD744FD#32)) H) D

/-- The mean of each row. -/
abbrev mean (X : FVec Ideal S8x4x2048 .f32) : FVec Ideal S8x4x1 .f32 :=
  Host.divf (broadcastInDim S8x4x1 ![0, 1] bcast_S8x4_S8x4x1_0_1 (Host.reduceAdd X (constant S_ .f32 0x00000000#32) reducesTo_S8x4x2048_S8x4_d2 h_S_))
    (broadcastInDim S8x4x1 ![] bcast_S_S8x4x1 (constant S_ .f32 0x45000000#32))

/-- Each row less its mean. -/
abbrev cen (X : FVec Ideal S8x4x2048 .f32) : FVec Ideal S8x4x2048 .f32 :=
  subf X (broadcastInDim S8x4x2048 ![0, 1, 2] bcast_S8x4x1_S8x4x2048_0_1_2 (mean X))

/-- The first of the four rows of weights, repeated for each row. -/
abbrev wide (G : FVec Ideal S4x2048 .f32) : FVec Ideal S8x4x2048 .f32 :=
  broadcastInDim S8x4x2048 ![0, 1, 2] bcast_S1x1x2048_S8x4x2048_0_1_2 (broadcastInDim S1x1x2048 ![2] bcast_S2048_S1x1x2048_2
    (shapeCast _ (extractStridedSlice S1x2048 ![0, 0] G slices_S4x2048_S1x2048_0_0) shapeCasts_S1x2048_S2048))

/-- The normalised rows. -/
abbrev ln (X : FVec Ideal S8x4x2048 .f32) (G B : FVec Ideal S4x2048 .f32) : FVec Ideal S8x4x2048 .f32 :=
  addf (mulf (mulf (cen X) (broadcastInDim S8x4x2048 ![0, 1, 2] bcast_S8x4x1_S8x4x2048_0_1_2
    (Host.rsqrt (addf (mean (mulf (cen X) (cen X))) (broadcastInDim S8x4x1 ![] bcast_S_S8x4x1 (constant S_ .f32 0x3727C5AC#32)))))) (wide G)) (wide B)

/-- The reference's first result. -/
abbrev REF (A : FVec Ideal S8x4x5632 .bf16) (W : FVec Ideal S4x5632x2048 .f32) (H : FVec Ideal S8x4x2048 .f32)
    (G B : FVec Ideal S4x2048 .f32) : FVec Ideal S8x4x2048 .f32 := ln (pre (dot A W) H) G B

/-- The reference's first result, as it ends. -/
theorem out0 (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_out0 Value.res_main_v34; rfl

/-- The reference's second result, as it ends: the first one rounded. -/
theorem out1 (m : (ℓ : Loc nD τ sig) → Buf (Elt Ideal) ℓ) (c : Dev nD) : Value.res_out1 m c
    = (truncf .bf16 (REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) bitsLt_bf16_f32 : FVec Ideal S8x4x2048 .bf16) := by
  unfold Value.res_out1 Value.res_main_v35; rfl

/-- An entry of the projected activations, as the sum it is. -/
theorem dot_at (A : FVec Ideal S8x4x5632 .bf16) (W : FVec Ideal S4x5632x2048 .f32) (b : Fin 8) (s : Fin 4) (j : Fin 2048) :
    dot A W (ix3 b s j) = (∑ k : Fin 5632, A (ix3 b s k) * W (ix3 (0 : Fin 4) k j) : EReal) := by
  pointwise [dot]

/-- A row of the kernel's norm is the reference's where the rows going in are. -/
theorem row (H P : Vec Ideal Cert.Kernel7Ideal.S128x2048 .f32) (g b' : Vec Ideal Cert.Kernel7Ideal.S1x2048 .f32) (D X : FVec Ideal S8x4x2048 .f32) (G B : FVec Ideal S4x2048 .f32)
    (i : Fin 128) (b : Fin 8) (s : Fin 4) (j : Fin 2048) (hH : ∀ k : Fin 2048, H (ix2 i k) = X (ix3 b s k)) (hP : ∀ k : Fin 2048, P (ix2 i k) = D (ix3 b s k))
    (hg : g (ix2 (0 : Fin 1) j) = G (ix2 (0 : Fin 4) j)) (hb : b' (ix2 (0 : Fin 1) j) = B (ix2 (0 : Fin 4) j)) :
    Cert.Kernel7Ideal.Gen.k0_pay3 (F := Ideal) H P g b' (ix2 i j) = ln (pre D X) G B (ix3 b s j) := by
  pointwise [Cert.Kernel7Ideal.Gen.k0_pay3, ln]
  simp only [hH, hP, hg, hb]

end Cert.Reference7Ideal.StepDown
end
end
-- ==== Proof.StepDown.lean ====
module

public import proofs.«01_k».proof.Proof.StepDownRef
public import Idealize.ShloMosaic.Lib.Pipeline.ReadBack

/-! The step's down projection: what the grid leaves. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel7Ideal.StepDown

open Cert.Kernel7Ideal Cert.Kernel7Ideal.Gen

/-- The step's activations, each sequence's from row eight of sixteen. -/
def zact (X : FVec Ideal S8x4x5632 .bf16) : FVec Ideal S128x5632 .bf16 :=
  shapeCast S128x5632 (Host.scatter scatter_S8x16x5632_S1_S8x4x5632_012_n_1_0 (fun _ b => b)
    (broadcastInDim S8x16x5632 ![] bcast_S_S8x16x5632 (constant S_ .bf16 0x0000#16) : FVec Ideal S8x16x5632 .bf16)
    (broadcastInDim S1 ![] bcast_S_S1 (constantI S_ 32 8#32)) X) shapeCasts_S8x16x5632_S128x5632

/-- The step's residual, placed the same. -/
def zres (X : FVec Ideal S8x4x2048 .f32) : FVec Ideal S128x2048 .f32 :=
  shapeCast S128x2048 (Host.scatter scatter_S8x16x2048_S1_S8x4x2048_012_n_1_0 (fun _ b => b)
    (broadcastInDim S8x16x2048 ![] bcast_S_S8x16x2048 (constant S_ .f32 0x00000000#32) : FVec Ideal S8x16x2048 .f32)
    (broadcastInDim S1 ![] bcast_S_S1 (constantI S_ 32 8#32)) X) shapeCasts_S8x16x2048_S128x2048

/-- A row of a sequence among the sixteen. -/
theorem zact_at (X : FVec Ideal S8x4x5632 .bf16) (b : Fin 8) (t : Fin 4) (j : Fin 5632) :
    zact X (ix2 (⟨b.val * 16 + (8 + t.val), by omega⟩ : Fin 128) j) = X (ix3 b t j) := by
  have h := StepRows.set_at (R := 16) scatter_S8x16x5632_S1_S8x4x5632_012_n_1_0 8 (broadcastInDim S8x16x5632 ![] bcast_S_S8x16x5632 (constant S_ .bf16 0x0000#16) : FVec Ideal S8x16x5632 .bf16) (broadcastInDim S1 ![] bcast_S_S1 (constantI S_ 32 8#32)) X (fun k => ⟨rfl, rfl, rfl⟩) (fun k => ⟨rfl, rfl, rfl⟩) b t j (by omega)
  refine Eq.trans ?_ h
  unfold zact
  generalize Host.scatter scatter_S8x16x5632_S1_S8x4x5632_012_n_1_0 (fun _ b => b) (broadcastInDim S8x16x5632 ![] bcast_S_S8x16x5632 (constant S_ .bf16 0x0000#16) : FVec Ideal S8x16x5632 .bf16) (broadcastInDim S1 ![] bcast_S_S1 (constantI S_ 32 8#32)) X = Z
  pointwise
  exact congrArg (fun x : Fin 16 => Z (ix3 b x j)) (Fin.ext (by dsimp only; omega))

/-- A row of a sequence among the sixteen. -/
theorem zres_at (X : FVec Ideal S8x4x2048 .f32) (b : Fin 8) (t : Fin 4) (j : Fin 2048) :
    zres X (ix2 (⟨b.val * 16 + (8 + t.val), by omega⟩ : Fin 128) j) = X (ix3 b t j) := by
  have h := StepRows.set_at (R := 16) scatter_S8x16x2048_S1_S8x4x2048_012_n_1_0 8 (broadcastInDim S8x16x2048 ![] bcast_S_S8x16x2048 (constant S_ .f32 0x00000000#32) : FVec Ideal S8x16x2048 .f32) (broadcastInDim S1 ![] bcast_S_S1 (constantI S_ 32 8#32)) X (fun k => ⟨rfl, rfl, rfl⟩) (fun k => ⟨rfl, rfl, rfl⟩) b t j (by omega)
  refine Eq.trans ?_ h
  unfold zres
  generalize Host.scatter scatter_S8x16x2048_S1_S8x4x2048_012_n_1_0 (fun _ b => b) (broadcastInDim S8x16x2048 ![] bcast_S_S8x16x2048 (constant S_ .f32 0x00000000#32) : FVec Ideal S8x16x2048 .f32) (broadcastInDim S1 ![] bcast_S_S1 (constantI S_ 32 8#32)) X = Z
  pointwise
  exact congrArg (fun x : Fin 16 => Z (ix3 b x j)) (Fin.ext (by dsimp only; omega))

variable (m : (ℓ : Loc nD τ sig) → Buf (Elt Ideal) ℓ)

/-- Which block of its array each window stages at a point. -/
theorem idx : ∀ t : Fin cfg0.N, win0_0.index t = ![0, t.val] ∧ win0_1.index t = ![0, t.val, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The activations at the region's start. -/
theorem entry_a (c : Dev nD) : V m c main_v3 = zact (m ((c : Thread nD τ).loc main_arg0)) := by
  simp only [V, V0, hostOps0, List.flatten_cons, List.flatten_nil, List.append_nil, List.cons_append, List.nil_append]
  entry_read
  unfold zact
  rfl

/-- The residual at the region's start. -/
theorem entry_h (c : Dev nD) : V m c main_v8 = zres (m ((c : Thread nD τ).loc main_arg2)) := by
  simp only [V, V0, hostOps0, List.flatten_cons, List.flatten_nil, List.append_nil, List.cons_append, List.nil_append]
  entry_read
  unfold zres
  rfl

/-- The first row of weights, as the region finds it. -/
abbrev first (G : FVec Ideal S4x2048 .f32) : FVec Ideal S1x2048 .f32 :=
  shapeCast S1x2048 (shapeCast S2048 (extractStridedSlice S1x2048 ![0, 0] G slices_S4x2048_S1x2048_0_0) shapeCasts_S1x2048_S2048) shapeCasts_S2048_S1x2048

/-- An entry of it. -/
theorem first_at (G : FVec Ideal S4x2048 .f32) (j : Fin 2048) : first G (ix2 (0 : Fin 1) j) = G (ix2 (0 : Fin 4) j) := by
  pointwise [first]

/-- The gains at the region's start. -/
theorem entry_g (c : Dev nD) : V m c main_v11 = first (m ((c : Thread nD τ).loc main_arg3)) := rfl

/-- The offsets at the region's start. -/
theorem entry_b (c : Dev nD) : V m c main_v14 = first (m ((c : Thread nD τ).loc main_arg4)) := rfl

/-- The weights at the region's start. -/
theorem entry_w (c : Dev nD) : V m c main_v4 = (truncf .bf16 (m ((c : Thread nD τ).loc main_arg1)) bitsLt_bf16_f32 : FVec Ideal S4x5632x2048 .bf16) := rfl

/-- A block of activations. -/
theorem blk_a (c : Dev nD) (t : Fin cfg0.N) (ht : t.val < 4) (i : Fin 128) (k : Fin 1408) : iblk m c 0 t (ix2 i k)
    = zact (m ((c : Thread nD τ).loc main_arg0)) (ix2 i (⟨t.val * 1408 + k.val, by omega⟩ : Fin 5632)) := by
  refine (congrArg (V m c main_v3) (?_ : ((cfg0.win 0).blk t).view.emb (ix2 i k) = ix2 i (⟨t.val * 1408 + k.val, by omega⟩ : Fin 5632))).trans (congrFun (entry_a m c) _)
  blk_ext [idx t]

/-- A block of weights. -/
theorem blk_w (c : Dev nD) (t : Fin cfg0.N) (ht : t.val < 4) (k : Fin 1408) (j : Fin 2048) : iblk m c 1 t (ix3 (0 : Fin 1) k j)
    = (m ((c : Thread nD τ).loc main_arg1)) (ix3 (0 : Fin 4) (⟨t.val * 1408 + k.val, by omega⟩ : Fin 5632) j) := by
  refine (congrArg (V m c main_v4) (?_ : ((cfg0.win 1).blk t).view.emb (ix3 (0 : Fin 1) k j) = ix3 (0 : Fin 4) (⟨t.val * 1408 + k.val, by omega⟩ : Fin 5632) j)).trans (congrFun (entry_w m c) _)
  blk_ext [idx t]

/-- The residual's block: all of it. -/
theorem blk_h (c : Dev nD) (t : Fin cfg0.N) (i : Fin 128) (k : Fin 2048) : iblk m c 2 t (ix2 i k) = zres (m ((c : Thread nD τ).loc main_arg2)) (ix2 i k) := by
  refine (congrArg (V m c main_v8) (?_ : ((cfg0.win 2).blk t).view.emb (ix2 i k) = ix2 i k)).trans (congrFun (entry_h m c) _)
  blk_ext [idx t]

/-- The gains' block. -/
theorem blk_g (c : Dev nD) (t : Fin cfg0.N) (k : Fin 2048) : iblk m c 3 t (ix2 (0 : Fin 1) k) = (m ((c : Thread nD τ).loc main_arg3)) (ix2 (0 : Fin 4) k) := by
  refine (congrArg (V m c main_v11) (?_ : ((cfg0.win 3).blk t).view.emb (ix2 (0 : Fin 1) k) = ix2 (0 : Fin 1) k)).trans ((congrFun (entry_g m c) _).trans (first_at _ k))
  blk_ext [idx t]

/-- The offsets' block. -/
theorem blk_b (c : Dev nD) (t : Fin cfg0.N) (k : Fin 2048) : iblk m c 4 t (ix2 (0 : Fin 1) k) = (m ((c : Thread nD τ).loc main_arg4)) (ix2 (0 : Fin 4) k) := by
  refine (congrArg (V m c main_v14) (?_ : ((cfg0.win 4).blk t).view.emb (ix2 (0 : Fin 1) k) = ix2 (0 : Fin 1) k)).trans ((congrFun (entry_b m c) _).trans (first_at _ k))
  blk_ext [idx t]

/-- The fill the sums start from is zero. -/
theorem fill_at (i : Fin 128) (j : Fin 2048) : k0_pay1 (F := Ideal) (ix2 i j) = (0 : EReal) := by
  pointwise [k0_pay1]

/-- One step of the sums. -/
theorem step_at (S : Vec Ideal S128x2048 .f32) (A : Vec Ideal S128x1408 .bf16) (U : Vec Ideal S1x1408x2048 .bf16) (i : Fin 128) (j : Fin 2048) :
    k0_pay2 (F := Ideal) S A U (ix2 i j) = (S (ix2 i j) + ∑ k : Fin 1408, A (ix2 i k) * U (ix3 (0 : Fin 1) k j) : EReal) := by
  pointwise [k0_pay2]

/-- The sums after the first point. -/
theorem sumA (c : Dev nD) (t : Fin cfg0.N) (h0 : t.val % 4 = 0) (h1 : ¬ t.val % 4 = 3) :
    (outsAt0 m c t.val t.isLt).2.2 = k0_pay2 (k0_pay1 (F := Ideal)) (iblk m c 0 t) (iblk m c 1 t) := by
  rw [outsAt0_A m c t h0 h1]; frame_open
  simp (disch := decide) only [↓ View.readCov_skip, ↓ View.readCov_cons_toLoadRect, ↓ View.readCov_fill]
  frame_out

/-- The sums after a point between. -/
theorem sumB (c : Dev nD) (t : Fin cfg0.N) (h0 : ¬ t.val % 4 = 0) (h1 : ¬ t.val % 4 = 3) (h : t.val - 1 < cfg0.N) :
    (outsAt0 m c t.val t.isLt).2.2 = k0_pay2 (F := Ideal) (outsAt0 m c (t.val - 1) h).2.2 (iblk m c 0 t) (iblk m c 1 t) := by
  rw [outsAt0_B m c t h0 h1]; frame_open
  simp (disch := decide) only [↓ View.readCov_skip, ↓ View.readCov_cons_toLoadRect, ↓ View.readCov_fill]
  frame_out
  exact congrArg (fun S => (k0_pay2 (F := Ideal) S (iblk m c 0 t) (iblk m c 1 t))) ((Memref.isWhole_whole cc0_scratch0).read_unread _)

/-- The first block the last point stores. -/
theorem outC (c : Dev nD) (t : Fin cfg0.N) (h0 : ¬ t.val % 4 = 0) (h1 : t.val % 4 = 3) (h : t.val - 1 < cfg0.N) :
    (outsAt0 m c t.val t.isLt).1 = k0_pay3 (F := Ideal) (iblk m c 2 t) (k0_pay2 (F := Ideal) (outsAt0 m c (t.val - 1) h).2.2 (iblk m c 0 t) (iblk m c 1 t)) (iblk m c 3 t) (iblk m c 4 t) := by
  rw [outsAt0_C m c t h0 h1]; frame_open
  simp (disch := decide) only [↓ View.readCov_skip, ↓ View.readCov_cons_toLoadRect, ↓ View.readCov_fill]
  frame_out
  exact congrArg (fun S => k0_pay3 (F := Ideal) (iblk m c 2 t) (k0_pay2 (F := Ideal) S (iblk m c 0 t) (iblk m c 1 t)) (iblk m c 3 t) (iblk m c 4 t)) ((Memref.isWhole_whole cc0_scratch0).read_unread _)

/-- The second block the last point stores. -/
theorem outC' (c : Dev nD) (t : Fin cfg0.N) (h0 : ¬ t.val % 4 = 0) (h1 : t.val % 4 = 3) (h : t.val - 1 < cfg0.N) :
    (outsAt0 m c t.val t.isLt).2.1 = k0_pay4 (F := Ideal) (iblk m c 2 t) (k0_pay2 (F := Ideal) (outsAt0 m c (t.val - 1) h).2.2 (iblk m c 0 t) (iblk m c 1 t)) (iblk m c 3 t) (iblk m c 4 t) := by
  rw [outsAt0_C m c t h0 h1]; frame_open
  simp (disch := decide) only [↓ View.readCov_skip, ↓ View.readCov_cons_toLoadRect, ↓ View.readCov_fill]
  frame_out
  exact congrArg (fun S => k0_pay4 (F := Ideal) (iblk m c 2 t) (k0_pay2 (F := Ideal) S (iblk m c 0 t) (iblk m c 1 t)) (iblk m c 3 t) (iblk m c 4 t)) ((Memref.isWhole_whole cc0_scratch0).read_unread _)

end Cert.Kernel7Ideal.StepDown
end
end
-- ==== Proof.StepDownTail.lean ====
module

public import proofs.«01_k».proof.Proof.StepDown

/-! The step's down projection: what the lines after the region leave in each result. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel7Ideal.StepDown

open Cert.Kernel7Ideal Cert.Kernel7Ideal.Gen
open Cert.Reference7Ideal.StepDown (REF dot dot_at row)

/-- A sum over the depth, in four parts. -/
theorem sum_parts (f : Fin 5632 → EReal) : (∑ k, f k) = ∑ t : Fin 4, ∑ k : Fin 1408, f ⟨t.val * 1408 + k.val, by omega⟩ := by
  rw [← Fintype.sum_prod_type']
  refine (Fintype.sum_equiv (finProdFinEquiv (m := 4) (n := 1408)) _ _ fun p => ?_).symm
  exact congrArg f (Fin.ext (by show p.1.val * 1408 + p.2.val = p.2.val + 1408 * p.1.val; omega))

/-- One product of the sums. -/
abbrev prd (A : FVec Ideal S8x4x5632 .bf16) (W : FVec Ideal S4x5632x2048 .f32) (b : Fin 8) (s : Fin 4) (j : Fin 2048) (k : Fin 5632) : EReal :=
  A (ix3 b s k) * W (ix3 (0 : Fin 4) k j)

variable (m : (ℓ : Loc nD τ sig) → Buf (Elt Ideal) ℓ)

/-- The part of an entry of the product that one point adds. -/
def part (c : Dev nD) (t : Fin 4) (i : Fin 128) (j : Fin 2048) : EReal :=
  ∑ k : Fin 1408, zact (m ((c : Thread nD τ).loc main_arg0)) (ix2 i (⟨t.val * 1408 + k.val, by omega⟩ : Fin 5632)) * (m ((c : Thread nD τ).loc main_arg1)) (ix3 (0 : Fin 4) (⟨t.val * 1408 + k.val, by omega⟩ : Fin 5632) j)

/-- What a point adds to the sums. -/
theorem step_eq (c : Dev nD) (t : Fin cfg0.N) (ht : t.val < 4) (S : Vec Ideal S128x2048 .f32) (i : Fin 128) (j : Fin 2048) :
    k0_pay2 (F := Ideal) S (iblk m c 0 t) (iblk m c 1 t) (ix2 i j) = (S (ix2 i j) + part m c ⟨t.val, ht⟩ i j : EReal) := by
  refine (step_at S _ _ i j).trans (congrArg (S (ix2 i j) + ·) ?_)
  exact Finset.sum_congr rfl fun k _ => congrArg₂ (· * ·) (blk_a m c t ht i k) (blk_w m c t ht k j)

/-- The sums the last point adds to. -/
theorem sums (c : Dev nD) (h : 2 < cfg0.N) (i : Fin 128) (j : Fin 2048) :
    (outsAt0 m c 2 h).2.2 (ix2 i j) = (0 + part m c 0 i j + part m c 1 i j + part m c 2 i j : EReal) := by
  refine (congrFun (sumB m c ⟨2, h⟩ (by dsimp only; omega) (by dsimp only; omega) (by show 1 < cfg0.N; omega)) _).trans ((step_eq m c ⟨2, h⟩ (by dsimp only; omega) _ i j).trans ?_)
  refine congrArg (· + part m c 2 i j) ?_
  refine (congrFun (sumB m c ⟨1, by omega⟩ (by dsimp only; omega) (by dsimp only; omega) (by show 0 < cfg0.N; omega)) _).trans ((step_eq m c ⟨1, by omega⟩ (by dsimp only; omega) _ i j).trans ?_)
  refine congrArg (· + part m c 1 i j) ?_
  refine (congrFun (sumA m c ⟨0, by omega⟩ (Nat.zero_mod 4) (by dsimp only; omega)) _).trans ((step_eq m c ⟨0, by omega⟩ (by dsimp only; omega) _ i j).trans ?_)
  exact congrArg (· + part m c 0 i j) (fill_at i j)

/-- The projected activations, as the last point has them. -/
theorem product (c : Dev nD) (h : 3 < cfg0.N) (h' : 2 < cfg0.N) (b : Fin 8) (s : Fin 4) (j : Fin 2048) :
    k0_pay2 (F := Ideal) (outsAt0 m c 2 h').2.2 (iblk m c 0 ⟨3, h⟩) (iblk m c 1 ⟨3, h⟩) (ix2 (⟨b.val * 16 + (8 + s.val), by omega⟩ : Fin 128) j)
      = dot (m ((c : Thread nD τ).loc main_arg0)) (m ((c : Thread nD τ).loc main_arg1)) (ix3 b s j) := by
  refine (step_eq m c ⟨3, h⟩ (by show 3 < 4; omega) _ _ j).trans ?_
  rw [sums m c h' _ j]
  refine Eq.trans ?_ (dot_at (m ((c : Thread nD τ).loc main_arg0)) (m ((c : Thread nD τ).loc main_arg1)) b s j).symm
  refine Eq.trans ?_ (sum_parts fun k => prd (m ((c : Thread nD τ).loc main_arg0)) (m ((c : Thread nD τ).loc main_arg1)) b s j k).symm
  have e : ∀ t : Fin 4, part m c t (⟨b.val * 16 + (8 + s.val), by omega⟩ : Fin 128) j
      = ∑ k : Fin 1408, prd (m ((c : Thread nD τ).loc main_arg0)) (m ((c : Thread nD τ).loc main_arg1)) b s j (⟨t.val * 1408 + k.val, by omega⟩ : Fin 5632) :=
    fun t => Finset.sum_congr rfl fun k _ => congrArg (· * (m ((c : Thread nD τ).loc main_arg1)) (ix3 (0 : Fin 4) (⟨t.val * 1408 + k.val, by omega⟩ : Fin 5632) j)) (zact_at (m ((c : Thread nD τ).loc main_arg0)) b s _)
  rw [Fin.sum_univ_four, ← e 0, ← e 1, ← e 2, ← e 3, zero_add]
  rfl

/-- The first block the last point stores, at a row of a sequence, is the reference's. -/
theorem stored (c : Dev nD) (h : 3 < cfg0.N) (b : Fin 8) (s : Fin 4) (j : Fin 2048) :
    (outsAt0 m c 3 h).1 (ix2 (⟨b.val * 16 + (8 + s.val), by omega⟩ : Fin 128) j) = REF (m ((c : Thread nD τ).loc main_arg0)) (m ((c : Thread nD τ).loc main_arg1)) (m ((c : Thread nD τ).loc main_arg2)) (m ((c : Thread nD τ).loc main_arg3)) (m ((c : Thread nD τ).loc main_arg4)) (ix3 b s j) := by
  have h' : 2 < cfg0.N := by omega
  refine (congrFun (outC m c ⟨3, h⟩ (by dsimp only; omega) (show 3 % 4 = 3 from rfl) h') _).trans ?_
  exact row _ _ _ _ (dot (m ((c : Thread nD τ).loc main_arg0)) (m ((c : Thread nD τ).loc main_arg1))) (m ((c : Thread nD τ).loc main_arg2)) (m ((c : Thread nD τ).loc main_arg3)) (m ((c : Thread nD τ).loc main_arg4)) _ b s j (fun k => (blk_h m c ⟨3, h⟩ _ k).trans (zres_at (m ((c : Thread nD τ).loc main_arg2)) b s k)) (fun k => product m c h h' b s k)
    (blk_g m c ⟨3, h⟩ j) (blk_b m c ⟨3, h⟩ j)

/-- The second block holds the first one rounded. -/
theorem stored' (c : Dev nD) (h : 3 < cfg0.N) (b : Fin 8) (s : Fin 4) (j : Fin 2048) :
    (outsAt0 m c 3 h).2.1 (ix2 (⟨b.val * 16 + (8 + s.val), by omega⟩ : Fin 128) j) = REF (m ((c : Thread nD τ).loc main_arg0)) (m ((c : Thread nD τ).loc main_arg1)) (m ((c : Thread nD τ).loc main_arg2)) (m ((c : Thread nD τ).loc main_arg3)) (m ((c : Thread nD τ).loc main_arg4)) (ix3 b s j) := by
  have h' : 2 < cfg0.N := by omega
  refine (congrFun (outC' m c ⟨3, h⟩ (by dsimp only; omega) (show 3 % 4 = 3 from rfl) h') _).trans ?_
  exact row _ _ _ _ (dot (m ((c : Thread nD τ).loc main_arg0)) (m ((c : Thread nD τ).loc main_arg1))) (m ((c : Thread nD τ).loc main_arg2)) (m ((c : Thread nD τ).loc main_arg3)) (m ((c : Thread nD τ).loc main_arg4)) _ b s j (fun k => (blk_h m c ⟨3, h⟩ _ k).trans (zres_at (m ((c : Thread nD τ).loc main_arg2)) b s k)) (fun k => product m c h h' b s k)
    (blk_g m c ⟨3, h⟩ j) (blk_b m c ⟨3, h⟩ j)

/-- The first array after the run is the block stored last. -/
theorem final5 (c : Dev nD) (h : 3 < cfg0.N) : (dats m 0 c).arrAt 5 (cfgs 0).N = (outsAt0 m c 3 h).1 := by
  refine (dats m 0 c).arrAt_eq_of_covers 5 _ (by decide +kernel) fun t hf y => ?_
  have h3 := (flush0_5 t).mp hf
  have h4 : t.val < 4 := (by decide +kernel : ∀ t : Fin grid0.N, t.val < 4) t
  have e : ((cfg0.win 5).blk t).view.emb y = y := by
    obtain ⟨r, j, rfl⟩ : ∃ (r : Fin 128) (j : Fin 2048), y = ix2 r j := ⟨y 0, y 1, by idx_ext⟩
    blk_ext [idx t]
  blk_simp
  rw [after0_5]
  refine Eq.trans ?_ (congrArg (outsAt0 m c 3 h).1 e.symm)
  have q : ∀ (n : ℕ) (hn : n < cfg0.N), n = 3 → (outsAt0 m c n hn).1 = (outsAt0 m c 3 h).1 := by
    intro n hn e; subst e; rfl
  exact congrFun (q t.val t.isLt (by omega)) y

/-- The second array after the run is the block stored last. -/
theorem final6 (c : Dev nD) (h : 3 < cfg0.N) : (dats m 0 c).arrAt 6 (cfgs 0).N = (outsAt0 m c 3 h).2.1 := by
  refine (dats m 0 c).arrAt_eq_of_covers 6 _ (by decide +kernel) fun t hf y => ?_
  have h3 := (flush0_6 t).mp hf
  have h4 : t.val < 4 := (by decide +kernel : ∀ t : Fin grid0.N, t.val < 4) t
  have e : ((cfg0.win 6).blk t).view.emb y = y := by
    obtain ⟨r, j, rfl⟩ : ∃ (r : Fin 128) (j : Fin 2048), y = ix2 r j := ⟨y 0, y 1, by idx_ext⟩
    blk_ext [idx t]
  blk_simp
  rw [after0_6]
  refine Eq.trans ?_ (congrArg (outsAt0 m c 3 h).2.1 e.symm)
  have q : ∀ (n : ℕ) (hn : n < cfg0.N), n = 3 → (outsAt0 m c n hn).2.1 = (outsAt0 m c 3 h).2.1 := by
    intro n hn e; subst e; rfl
  exact congrFun (q t.val t.isLt (by omega)) y

/-- The contents when the region has ended. -/
abbrev atEnd (c : Dev nD) : Valuation τ sig (Elt Ideal) :=
  Pipeline.withArrays (cfgs 0).spec c (V0 m c) fun w => (dats m 0 c).arrAt w (cfgs 0).N

/-- The first array at the region's end. -/
theorem atEnd_y (c : Dev nD) (h : 3 < cfg0.N) : atEnd m c (Proc.devRef .tc main_v15_0) = (outsAt0 m c 3 h).1 :=
  (Pipeline.withArrays_arr (cfgs 0).spec (show Function.Injective (Pipeline.arrRef spec0) by decide) c (V0 m c)
    (fun w => (dats m 0 c).arrAt w (cfgs 0).N) 5).trans (final5 m c h)

/-- The second array at the region's end. -/
theorem atEnd_yb (c : Dev nD) (h : 3 < cfg0.N) : atEnd m c (Proc.devRef .tc main_v15_1) = (outsAt0 m c 3 h).2.1 :=
  (Pipeline.withArrays_arr (cfgs 0).spec (show Function.Injective (Pipeline.arrRef spec0) by decide) c (V0 m c)
    (fun w => (dats m 0 c).arrAt w (cfgs 0).N) 6).trans (final6 m c h)

/-- The step's rows of the first array, as the lines cut them. -/
theorem line_y (σ : Valuation τ sig (Elt Ideal)) : StableHlo.after (List.flatten [hostOps1]) σ (Proc.devRef .tc main_v17)
    = extractStridedSlice S8x4x2048 ![0, 8, 0] (shapeCast S8x16x2048 (σ (Proc.devRef .tc main_v15_0)) shapeCasts_S128x2048_S8x16x2048) slices_S8x16x2048_S8x4x2048_0_8_0 := rfl

/-- The step's rows of the second array, as the lines cut them. -/
theorem line_yb (σ : Valuation τ sig (Elt Ideal)) : StableHlo.after (List.flatten [hostOps1]) σ (Proc.devRef .tc main_v19)
    = extractStridedSlice S8x4x2048 ![0, 8, 0] (shapeCast S8x16x2048 (σ (Proc.devRef .tc main_v15_1)) shapeCasts_S128x2048_S8x16x2048) slices_S8x16x2048_S8x4x2048_0_8_0 := rfl

/-- An entry of the step's rows. -/
theorem cut_at (E : FVec Ideal S128x2048 .f32) (b : Fin 8) (s : Fin 4) (j : Fin 2048) :
    (extractStridedSlice S8x4x2048 ![0, 8, 0] (shapeCast S8x16x2048 E shapeCasts_S128x2048_S8x16x2048) slices_S8x16x2048_S8x4x2048_0_8_0 : FVec Ideal S8x4x2048 .f32) (ix3 b s j)
      = E (ix2 (⟨b.val * 16 + (8 + s.val), by omega⟩ : Fin 128) j) := by
  pointwise

/-- The same of the rounded rows. -/
theorem cut_at' (E : FVec Ideal S128x2048 .bf16) (b : Fin 8) (s : Fin 4) (j : Fin 2048) :
    (extractStridedSlice S8x4x2048 ![0, 8, 0] (shapeCast S8x16x2048 E shapeCasts_S128x2048_S8x16x2048) slices_S8x16x2048_S8x4x2048_0_8_0 : FVec Ideal S8x4x2048 .bf16) (ix3 b s j)
      = E (ix2 (⟨b.val * 16 + (8 + s.val), by omega⟩ : Fin 128) j) := by
  pointwise

/-- There are four points. -/
theorem three : 3 < cfg0.N := by rw [show cfg0.N = 4 from N_0]; omega

/-- The first result after the run. -/
theorem tail_y (c : Dev nD) : Pipeline.afterTail₀ cfgs (dats m) 0 (V0 m) [hostOps1] c main_v17 = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (line_y (atEnd m c)).trans ?_
  rw [atEnd_y m c three]
  funext y
  obtain ⟨b, s, j, rfl⟩ : ∃ (b : Fin 8) (s : Fin 4) (j : Fin 2048), y = ix3 b s j := ⟨y 0, y 1, y 2, by idx_ext⟩
  exact (cut_at _ b s j).trans (stored m c three b s j)

/-- The second result after the run. -/
theorem tail_yb (c : Dev nD) : Pipeline.afterTail₀ cfgs (dats m) 0 (V0 m) [hostOps1] c main_v19
    = (truncf .bf16 (REF (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 : FVec Ideal S8x4x2048 .bf16) := by
  refine (line_yb (atEnd m c)).trans ?_
  rw [atEnd_yb m c three]
  funext y
  obtain ⟨b, s, j, rfl⟩ : ∃ (b : Fin 8) (s : Fin 4) (j : Fin 2048), y = ix3 b s j := ⟨y 0, y 1, y 2, by idx_ext⟩
  exact (cut_at' _ b s j).trans (stored' m c three b s j)

end Cert.Kernel7Ideal.StepDown
end
end
-- ==== Proof.Claim7.lean ====
module

public import proofs.«01_k».proof.Defs
public import proofs.«01_k».proof.Proof.StepDownTail
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import Idealize.ShloMosaic.Lib.Claim
public import Idealize.ShloMosaic.Lib.Quiescent

/-! The claims about the step's down projection: the frames, and that kernel and reference end with the same two results. -/

set_option maxRecDepth 16384

@[expose] public section
noncomputable section

open Idealize.ShloMosaic Idealize.SL.Sem

namespace Cert.StepDownClaim

/-- The printed kernel runs, leaves its arguments and its counters. -/
theorem frame_kernel : Cert.quiescent_Kernel7 (hKernel7 := Cert.Kernel7.Gen.facts) := fun m g _ => Cert.Kernel7.Gen.frame m g

/-- The idealized kernel runs, leaves its arguments and its counters. -/
theorem frame_ideal : Cert.quiescent_Kernel7Ideal (hKernel7Ideal := Cert.Kernel7Ideal.Gen.facts) := fun m g _ => Cert.Kernel7Ideal.Gen.frame m g

/-- The reference runs, leaves its arguments and its counters. -/
theorem frame_reference : Cert.quiescent_Reference7Ideal (hReference7Ideal := Cert.Reference7Ideal.Gen.facts) := by
  intro m g _
  exact (θ_run Cert.Reference7Ideal.defs _ _).mono (fun r h => ⟨fun c => (h c).2.2, sem_eq_zero_of_no_sems rfl _⟩)
    (Cert.Reference7Ideal.Value.run m g)

/-- The kernel and the reference end with the same two results. -/
theorem value : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
    · exact Cert.Kernel7Ideal.Gen.W_main_arg0 m (Cert.Kernel7Ideal.Gen.dats m) c
    · exact Cert.Kernel7Ideal.Gen.W_main_arg1 m (Cert.Kernel7Ideal.Gen.dats m) c
    · exact Cert.Kernel7Ideal.Gen.W_main_arg2 m (Cert.Kernel7Ideal.Gen.dats m) c
    · exact Cert.Kernel7Ideal.Gen.W_main_arg3 m (Cert.Kernel7Ideal.Gen.dats m) c
    · exact Cert.Kernel7Ideal.Gen.W_main_arg4 m (Cert.Kernel7Ideal.Gen.dats m) c
  · run_from Cert.Reference7Ideal.Value.run m' g'
    · refine (Cert.Reference7Ideal.StepDown.out0 m' c).trans (Eq.trans ?_ (Cert.Kernel7Ideal.StepDown.tail_y m c).symm)
      rw [(hagree c).1, (hagree c).2.1, (hagree c).2.2.1, (hagree c).2.2.2.1, (hagree c).2.2.2.2]; try rfl
    · refine (Cert.Reference7Ideal.StepDown.out1 m' c).trans (Eq.trans ?_ (Cert.Kernel7Ideal.StepDown.tail_yb m c).symm)
      rw [(hagree c).1, (hagree c).2.1, (hagree c).2.2.1, (hagree c).2.2.2.1, (hagree c).2.2.2.2]; try rfl

end Cert.StepDownClaim
end
end
-- ==== Proof.StepUpBlock.lean ====
module

public import proofs.«01_k».proof.Proof.Gen.Kernel8Ideal.Frame
public import Idealize.ShloMosaic.Lib.Pipeline.ValueKit
public import Idealize.ShloMosaic.Lib.Pointwise
public import Idealize.ShloMosaic.Lib.Pipeline.ReadBack

/-! One chunk of columns of the step's up projection: the product, the three taps and the gate, read at an element. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel8Ideal.StepUp

open Cert.Kernel8Ideal Cert.Kernel8Ideal.Gen

/-- The gated activation of a convolved value `a` and its gate `v`. -/
def cell (a v : EReal) : EReal :=
  a * (Ideal.ofBits .f32 1056964608#32 * (1 + Ideal.tanh (Ideal.ofBits .f32 1061962282#32 * (a + Ideal.ofBits .f32 1027024659#32 * (a * (a * a)))))) * v

/-- Which rows hold what came before a sequence: rows six and seven of its sixteen. -/
theorem mask_all : ∀ r : Fin 128, k0_pay3 (ix2 r (0 : Fin 1)) = if 6 ≤ r.val % 16 ∧ r.val % 16 < 8 then 1#1 else 0#1 := by
  decide +kernel

/-- The row `d` before, around the block. -/
abbrev back (d : ℕ) (r : Fin 128) : Fin 128 := ⟨(r.val + 128 - d) % 128, Nat.mod_lt _ (by omega)⟩

/-- The product of the rows with a block of columns, at an element. -/
def U (h : Vec Ideal S128x2048 .bf16) (w : Vec Ideal S1x2048x1408 .bf16) (r : Fin 128) (j : Fin 1408) : EReal :=
  ∑ k : Fin 2048, h (ix2 r k) * w (ix3 0 k j)

/-- The product with the buffered rows in their places. -/
def UZ (h : Vec Ideal S128x2048 .bf16) (w : Vec Ideal S1x2048x1408 .bf16) (buf : Vec Ideal S128x1408 .f32) (r : Fin 128) (j : Fin 1408) : EReal :=
  if 6 ≤ r.val % 16 ∧ r.val % 16 < 8 then buf (ix2 r j) else U h w r j

/-- A block of the activation at an element. -/
def ACT (h : Vec Ideal S128x2048 .bf16) (wu wv : Vec Ideal S1x2048x1408 .bf16) (buf : Vec Ideal S128x1408 .f32) (cw : Vec Ideal S3x1408 .f32)
    (r : Fin 128) (j : Fin 1408) : EReal :=
  cell (cw (ix2 2 j) * UZ h wu buf r j + cw (ix2 1 j) * UZ h wu buf (back 1 r) j + cw (ix2 0 j) * UZ h wu buf (back 2 r) j) (U h wv r j)

/-- A mask picks the buffered row or the product. -/
theorem pick (r : Fin 128) (a b : EReal) : Scalar.select (k0_pay3 (ix2 r (0 : Fin 1))) a b = if 6 ≤ r.val % 16 ∧ r.val % 16 < 8 then a else b := by
  rw [mask_all]
  by_cases h : 6 ≤ r.val % 16 ∧ r.val % 16 < 8
  · rw [if_pos h, if_pos h]; rfl
  · rw [if_neg h, if_neg h]; rfl

/-- The product of a chunk of 256 columns at an element. -/
theorem prod256 (h : Vec Ideal S128x2048 .bf16) (wu : Vec Ideal S1x2048x256 .bf16) (r : Fin 128) (j : Fin 256) :
    k0_pay4 (F := Ideal) h wu (ix2 r j) = ∑ k : Fin 2048, h (ix2 r k) * wu (ix3 0 k j) := by
  pointwise [k0_pay4, k0_pay2]

/-- The gate's product, at an element. -/
theorem gprod256 (h : Vec Ideal S128x2048 .bf16) (wv : Vec Ideal S1x2048x256 .bf16) (r : Fin 128) (j : Fin 256) :
    k0_pay5 (F := Ideal) h wv (ix2 r j) = ∑ k : Fin 2048, h (ix2 r k) * wv (ix3 0 k j) := by
  pointwise [k0_pay5, k0_pay2]

/-- The product of a chunk with the buffered rows in their places. -/
def mixed256 (h : Vec Ideal S128x2048 .bf16) (wu : Vec Ideal S1x2048x256 .bf16) (buf : Vec Ideal S128x256 .f32) : FVec Ideal S128x256 .f32 :=
  select (broadcastTo S128x256 (shapeCast S128x1 k0_pay3 shapeCasts_S128x1_S128x1) broadcasts_S128x1_S128x256) (shapeCast S128x256 buf shapeCasts_S128x256_S128x256) (k0_pay4 (F := Ideal) h wu)

/-- It at an element. -/
theorem mixed256_at (h : Vec Ideal S128x2048 .bf16) (wu : Vec Ideal S1x2048x256 .bf16) (buf : Vec Ideal S128x256 .f32) (r : Fin 128) (j : Fin 256) :
    mixed256 h wu buf (ix2 r j) = if 6 ≤ r.val % 16 ∧ r.val % 16 < 8 then buf (ix2 r j) else k0_pay4 (F := Ideal) h wu (ix2 r j) := by
  rw [← pick]
  unfold mixed256
  generalize k0_pay4 (F := Ideal) h wu = A
  generalize k0_pay3 = M
  pointwise

/-- A chunk of the activation, as the first chunk computes it. -/
def chunk256 (h : Vec Ideal S128x2048 .bf16) (wu wv : Vec Ideal S1x2048x256 .bf16) (buf : Vec Ideal S128x256 .f32) (cw : Vec Ideal S3x256 .f32) : FVec Ideal S128x256 .bf16 :=
  k0_pay8 (k0_pay5 h wv) (k0_pay6 h wu buf) (k0_pay7 cw)

/-- The gated activation of a chunk at an element. -/
theorem gate256 (v z : FVec Ideal S128x256 .f32) (cw : Vec Ideal S3x256 .f32) (r : Fin 128) (j : Fin 256) :
    k0_pay8 (F := Ideal) v z (k0_pay7 cw) (ix2 r j)
      = cell (cw (ix2 2 j) * z (ix2 r j) + cw (ix2 1 j) * z (ix2 (back 1 r) j) + cw (ix2 0 j) * z (ix2 (back 2 r) j)) (v (ix2 r j)) := by
  pointwise [k0_pay8, k0_pay7, cell, back]

/-- A chunk, as the gate of its parts. -/
theorem parts256 (h : Vec Ideal S128x2048 .bf16) (wu wv : Vec Ideal S1x2048x256 .bf16) (buf : Vec Ideal S128x256 .f32) (cw : Vec Ideal S3x256 .f32) (r : Fin 128) (j : Fin 256) :
    chunk256 h wu wv buf cw (ix2 r j)
      = cell (cw (ix2 2 j) * mixed256 h wu buf (ix2 r j) + cw (ix2 1 j) * mixed256 h wu buf (ix2 (back 1 r) j) + cw (ix2 0 j) * mixed256 h wu buf (ix2 (back 2 r) j))
        (k0_pay5 (F := Ideal) h wv (ix2 r j)) :=
  gate256 (k0_pay5 h wv) (mixed256 h wu buf) cw r j

/-- A chunk's product is the block's, where its columns are the block's. -/
theorem prod256_eq (h : Vec Ideal S128x2048 .bf16) (wu : Vec Ideal S1x2048x256 .bf16) (w : Vec Ideal S1x2048x1408 .bf16) (j : Fin 256) (j' : Fin 1408)
    (hw : ∀ k, wu (ix3 0 k j) = w (ix3 0 k j')) (r : Fin 128) : k0_pay4 (F := Ideal) h wu (ix2 r j) = U h w r j' :=
  (prod256 h wu r j).trans (Finset.sum_congr rfl fun k _ => congrArg (h (ix2 r k) * ·) (hw k))

/-- A chunk of the activation is the block's, where its columns are the block's. -/
theorem chunk256_eq (h : Vec Ideal S128x2048 .bf16) (wu wv : Vec Ideal S1x2048x256 .bf16) (buf : Vec Ideal S128x256 .f32) (cw : Vec Ideal S3x256 .f32) (Wu Wv : Vec Ideal S1x2048x1408 .bf16)
    (B : Vec Ideal S128x1408 .f32) (Cw : Vec Ideal S3x1408 .f32) (j : Fin 256) (j' : Fin 1408)
    (hu : ∀ k, wu (ix3 0 k j) = Wu (ix3 0 k j')) (hv : ∀ k, wv (ix3 0 k j) = Wv (ix3 0 k j')) (hb : ∀ i, buf (ix2 i j) = B (ix2 i j'))
    (hw : ∀ i, cw (ix2 i j) = Cw (ix2 i j')) (r : Fin 128) : chunk256 h wu wv buf cw (ix2 r j) = ACT h Wu Wv B Cw r j' := by
  have ev : k0_pay5 (F := Ideal) h wv (ix2 r j) = U h Wv r j' :=
    (gprod256 h wv r j).trans (Finset.sum_congr rfl fun k _ => congrArg (h (ix2 r k) * ·) (hv k))
  have eu : ∀ q : Fin 128, mixed256 h wu buf (ix2 q j) = UZ h Wu B q j' := by
    intro q
    rw [mixed256_at, hb, prod256_eq h wu Wu j j' hu]; rfl
  rw [parts256, ev, eu, eu, eu, hw, hw, hw]; rfl

/-- The product of a chunk of 128 columns at an element. -/
theorem prod128 (h : Vec Ideal S128x2048 .bf16) (wu : Vec Ideal S1x2048x128 .bf16) (r : Fin 128) (j : Fin 128) :
    k0_pay21 (F := Ideal) (k0_pay2 h) wu (ix2 r j) = ∑ k : Fin 2048, h (ix2 r k) * wu (ix3 0 k j) := by
  pointwise [k0_pay21, k0_pay2]

/-- The gate's product, at an element. -/
theorem gprod128 (h : Vec Ideal S128x2048 .bf16) (wv : Vec Ideal S1x2048x128 .bf16) (r : Fin 128) (j : Fin 128) :
    k0_pay22 (F := Ideal) (k0_pay2 h) wv (ix2 r j) = ∑ k : Fin 2048, h (ix2 r k) * wv (ix3 0 k j) := by
  pointwise [k0_pay22, k0_pay2]

/-- The product of a chunk with the buffered rows in their places. -/
def mixed128 (h : Vec Ideal S128x2048 .bf16) (wu : Vec Ideal S1x2048x128 .bf16) (buf : Vec Ideal S128x128 .f32) : FVec Ideal S128x128 .f32 :=
  select (broadcastTo S128x128 (shapeCast S128x1 k0_pay3 shapeCasts_S128x1_S128x1) broadcasts_S128x1_S128x128) (shapeCast S128x128 buf shapeCasts_S128x128_S128x128) (k0_pay21 (F := Ideal) (k0_pay2 h) wu)

/-- It at an element. -/
theorem mixed128_at (h : Vec Ideal S128x2048 .bf16) (wu : Vec Ideal S1x2048x128 .bf16) (buf : Vec Ideal S128x128 .f32) (r : Fin 128) (j : Fin 128) :
    mixed128 h wu buf (ix2 r j) = if 6 ≤ r.val % 16 ∧ r.val % 16 < 8 then buf (ix2 r j) else k0_pay21 (F := Ideal) (k0_pay2 h) wu (ix2 r j) := by
  rw [← pick]
  unfold mixed128
  generalize k0_pay21 (F := Ideal) (k0_pay2 h) wu = A
  generalize k0_pay3 = M
  pointwise

/-- The last chunk of the activation, as it is computed. -/
def chunk128 (h : Vec Ideal S128x2048 .bf16) (wu wv : Vec Ideal S1x2048x128 .bf16) (buf : Vec Ideal S128x128 .f32) (cw : Vec Ideal S3x128 .f32) : FVec Ideal S128x128 .bf16 :=
  k0_pay1 (k0_pay22 (k0_pay2 h) wv) (k0_pay23 (k0_pay2 h) k0_pay3 wu buf cw) (k0_pay24 (k0_pay2 h) k0_pay3 wu buf cw)

/-- The three taps of the last chunk. -/
def taps128 (z : FVec Ideal S128x128 .f32) (cw : Vec Ideal S3x128 .f32) : FVec Ideal S128x128 .f32 :=
  (addf (addf (mulf (broadcastTo S128x128 (extractStridedSlice S1x128 ![2, 0] (shapeCast S3x128 cw shapeCasts_S3x128_S3x128) slices_S3x128_o2_0_S1x128) broadcasts_S1x128_S128x128) z)
    (mulf (broadcastTo S128x128 (extractStridedSlice S1x128 ![1, 0] (shapeCast S3x128 cw shapeCasts_S3x128_S3x128) slices_S3x128_o1_0_S1x128) broadcasts_S1x128_S128x128) (dynamicRotate 0 1#32 none z rotates_S128x128_d0)))
    (mulf (broadcastTo S128x128 (extractStridedSlice S1x128 ![0, 0] (shapeCast S3x128 cw shapeCasts_S3x128_S3x128) slices_S3x128_o0_0_S1x128) broadcasts_S1x128_S128x128) (dynamicRotate 0 2#32 none z rotates_S128x128_d0)))

/-- They at an element. -/
theorem taps128_at (z : FVec Ideal S128x128 .f32) (cw : Vec Ideal S3x128 .f32) (r : Fin 128) (j : Fin 128) :
    taps128 z cw (ix2 r j) = cw (ix2 2 j) * z (ix2 r j) + cw (ix2 1 j) * z (ix2 (back 1 r) j) + cw (ix2 0 j) * z (ix2 (back 2 r) j) := by
  pointwise [taps128, back]

/-- The gate of the last chunk at an element. -/
theorem gate128 (h : Vec Ideal S128x2048 .bf16) (wu wv : Vec Ideal S1x2048x128 .bf16) (buf : Vec Ideal S128x128 .f32) (cw : Vec Ideal S3x128 .f32) (r : Fin 128) (j : Fin 128) :
    chunk128 h wu wv buf cw (ix2 r j) = cell (k0_pay23 (F := Ideal) (k0_pay2 h) k0_pay3 wu buf cw (ix2 r j)) (k0_pay22 (F := Ideal) (k0_pay2 h) wv (ix2 r j)) := by
  unfold chunk128 k0_pay24
  generalize k0_pay23 (F := Ideal) (k0_pay2 h) k0_pay3 wu buf cw = A
  generalize k0_pay22 (F := Ideal) (k0_pay2 h) wv = V
  pointwise [k0_pay1, cell]

/-- A chunk, as the gate of its parts. -/
theorem parts128 (h : Vec Ideal S128x2048 .bf16) (wu wv : Vec Ideal S1x2048x128 .bf16) (buf : Vec Ideal S128x128 .f32) (cw : Vec Ideal S3x128 .f32) (r : Fin 128) (j : Fin 128) :
    chunk128 h wu wv buf cw (ix2 r j)
      = cell (cw (ix2 2 j) * mixed128 h wu buf (ix2 r j) + cw (ix2 1 j) * mixed128 h wu buf (ix2 (back 1 r) j) + cw (ix2 0 j) * mixed128 h wu buf (ix2 (back 2 r) j))
        (k0_pay22 (F := Ideal) (k0_pay2 h) wv (ix2 r j)) := by
  rw [← taps128_at]
  exact gate128 h wu wv buf cw r j

/-- A chunk's product is the block's, where its columns are the block's. -/
theorem prod128_eq (h : Vec Ideal S128x2048 .bf16) (wu : Vec Ideal S1x2048x128 .bf16) (w : Vec Ideal S1x2048x1408 .bf16) (j : Fin 128) (j' : Fin 1408)
    (hw : ∀ k, wu (ix3 0 k j) = w (ix3 0 k j')) (r : Fin 128) : k0_pay21 (F := Ideal) (k0_pay2 h) wu (ix2 r j) = U h w r j' :=
  (prod128 h wu r j).trans (Finset.sum_congr rfl fun k _ => congrArg (h (ix2 r k) * ·) (hw k))

/-- A chunk of the activation is the block's, where its columns are the block's. -/
theorem chunk128_eq (h : Vec Ideal S128x2048 .bf16) (wu wv : Vec Ideal S1x2048x128 .bf16) (buf : Vec Ideal S128x128 .f32) (cw : Vec Ideal S3x128 .f32) (Wu Wv : Vec Ideal S1x2048x1408 .bf16)
    (B : Vec Ideal S128x1408 .f32) (Cw : Vec Ideal S3x1408 .f32) (j : Fin 128) (j' : Fin 1408)
    (hu : ∀ k, wu (ix3 0 k j) = Wu (ix3 0 k j')) (hv : ∀ k, wv (ix3 0 k j) = Wv (ix3 0 k j')) (hb : ∀ i, buf (ix2 i j) = B (ix2 i j'))
    (hw : ∀ i, cw (ix2 i j) = Cw (ix2 i j')) (r : Fin 128) : chunk128 h wu wv buf cw (ix2 r j) = ACT h Wu Wv B Cw r j' := by
  have ev : k0_pay22 (F := Ideal) (k0_pay2 h) wv (ix2 r j) = U h Wv r j' :=
    (gprod128 h wv r j).trans (Finset.sum_congr rfl fun k _ => congrArg (h (ix2 r k) * ·) (hv k))
  have eu : ∀ q : Fin 128, mixed128 h wu buf (ix2 q j) = UZ h Wu B q j' := by
    intro q
    rw [mixed128_at, hb, prod128_eq h wu Wu j j' hu]; rfl
  rw [parts128, ev, eu, eu, eu, hw, hw, hw]; rfl

variable (h : Vec Ideal S128x2048 .bf16) (wu wv : Vec Ideal S1x2048x256 .bf16) (buf : Vec Ideal S128x256 .f32) (cw : Vec Ideal S3x256 .f32)

/-- Chunk 1 is computed as the first is. -/
theorem chunk1 : k0_pay12 k0_pay3 (k0_pay9 (k0_pay2 h) wu) (k0_pay10 (k0_pay2 h) wv) (k0_pay11 buf) cw = chunk256 h wu wv buf cw := rfl
/-- Chunk 2 is computed as the first is. -/
theorem chunk2 : k0_pay14 (k0_pay2 h) k0_pay3 (k0_pay13 (k0_pay2 h) wu) wv buf cw = chunk256 h wu wv buf cw := rfl
/-- Chunk 3 is computed as the first is. -/
theorem chunk3 : k0_pay16 (k0_pay2 h) k0_pay3 wu wv buf cw = chunk256 h wu wv buf cw := rfl
/-- Chunk 4 is computed as the first is. -/
theorem chunk4 : k0_pay20 (k0_pay18 (k0_pay2 h) wv) (k0_pay19 (k0_pay2 h) k0_pay3 wu buf cw) = chunk256 h wu wv buf cw := rfl
/-- Chunk 1's product is computed as the first is. -/
theorem uchunk1 : k0_pay9 (F := Ideal) (k0_pay2 h) wu = k0_pay4 h wu := rfl
/-- Chunk 2's product is computed as the first is. -/
theorem uchunk2 : k0_pay13 (F := Ideal) (k0_pay2 h) wu = k0_pay4 h wu := rfl
/-- Chunk 3's product is computed as the first is. -/
theorem uchunk3 : k0_pay15 (F := Ideal) (k0_pay2 h) wu = k0_pay4 h wu := rfl
/-- Chunk 4's product is computed as the first is. -/
theorem uchunk4 : k0_pay17 (F := Ideal) (k0_pay2 h) wu = k0_pay4 h wu := rfl

end Cert.Kernel8Ideal.StepUp
end
end
-- ==== Proof.StepUpRun.lean ====
module

public import proofs.«01_k».proof.Proof.StepUpBlock

/-! The step's up projection: what a point stores, as one block. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel8Ideal.StepUp

open Cert.Kernel8Ideal Cert.Kernel8Ideal.Gen

variable (m : (ℓ : Loc nD τ sig) → Buf (Elt Ideal) ℓ)

/-- The activation of a block. -/
def BLOCK (h : Vec Ideal S128x2048 .bf16) (wu wv : Vec Ideal S1x2048x1408 .bf16) (buf : Vec Ideal S128x1408 .f32) (cw : Vec Ideal S3x1408 .f32) :
    Vec Ideal S128x1408 .bf16 :=
  fun y => ACT h wu wv buf cw (y 0) (y 1)

/-- The product of a block. -/
def UBLOCK (h : Vec Ideal S128x2048 .bf16) (wu : Vec Ideal S1x2048x1408 .bf16) : Vec Ideal S128x1408 .f32 :=
  fun y => U h wu (y 0) (y 1)

/-- Where a chunk's columns lie in a block of weights. -/
theorem off3_256 (o : ℕ) (k : Fin 2048) (j : Fin 256) (j' : Fin 1408) (e : j'.val = o + j.val) :
    ∀ a, ((ix3 0 k j' : S1x2048x1408.Idx) a : ℕ) = (![0, 0, o] : Fin 3 → ℕ) a + ((ix3 0 k j : S1x2048x256.Idx) a : ℕ)
  | ⟨0, _⟩ => rfl
  | ⟨1, _⟩ => (Nat.zero_add _).symm
  | ⟨2, _⟩ => e

/-- Where a chunk's columns lie in the buffered rows. -/
theorem offb_256 (o : ℕ) (k : Fin 128) (j : Fin 256) (j' : Fin 1408) (e : j'.val = o + j.val) :
    ∀ a, ((ix2 k j' : S128x1408.Idx) a : ℕ) = (![0, o] : Fin 2 → ℕ) a + ((ix2 k j : S128x256.Idx) a : ℕ)
  | ⟨0, _⟩ => (Nat.zero_add _).symm
  | ⟨1, _⟩ => e

/-- Where a chunk's columns lie in the taps' weights. -/
theorem offw_256 (o : ℕ) (k : Fin 3) (j : Fin 256) (j' : Fin 1408) (e : j'.val = o + j.val) :
    ∀ a, ((ix2 k j' : S3x1408.Idx) a : ℕ) = (![0, o] : Fin 2 → ℕ) a + ((ix2 k j : S3x256.Idx) a : ℕ)
  | ⟨0, _⟩ => (Nat.zero_add _).symm
  | ⟨1, _⟩ => e

/-- A chunk of the activation, at a place of the block. -/
theorem chunk256_at (h : Vec Ideal S128x2048 .bf16) (wu wv : Vec Ideal S1x2048x256 .bf16) (buf : Vec Ideal S128x256 .f32) (cw : Vec Ideal S3x256 .f32)
    (Wu Wv : Vec Ideal S1x2048x1408 .bf16) (B : Vec Ideal S128x1408 .f32) (Cw : Vec Ideal S3x1408 .f32) (x : S128x256.Idx) (y : S128x1408.Idx)
    (e : (y 0).val = (x 0).val)
    (hu : ∀ k : Fin 2048, wu (ix3 0 k (x 1)) = Wu (ix3 0 k (y 1))) (hv : ∀ k : Fin 2048, wv (ix3 0 k (x 1)) = Wv (ix3 0 k (y 1)))
    (hb : ∀ i : Fin 128, buf (ix2 i (x 1)) = B (ix2 i (y 1))) (hw : ∀ i : Fin 3, cw (ix2 i (x 1)) = Cw (ix2 i (y 1))) :
    chunk256 h wu wv buf cw x = BLOCK h Wu Wv B Cw y := by
  have ex : x = ix2 (y 0) (x 1) := by
    funext a; match a with
    | ⟨0, _⟩ => exact Fin.ext e.symm
    | ⟨1, _⟩ => rfl
  exact (congrArg (chunk256 h wu wv buf cw) ex).trans (chunk256_eq h wu wv buf cw Wu Wv B Cw (x 1) (y 1) hu hv hb hw (y 0))

/-- A chunk of the product, at a place of the block. -/
theorem prod256_at (h : Vec Ideal S128x2048 .bf16) (wu : Vec Ideal S1x2048x256 .bf16) (Wu : Vec Ideal S1x2048x1408 .bf16) (x : S128x256.Idx) (y : S128x1408.Idx)
    (e : (y 0).val = (x 0).val) (hu : ∀ k : Fin 2048, wu (ix3 0 k (x 1)) = Wu (ix3 0 k (y 1))) :
    k0_pay4 (F := Ideal) h wu x = UBLOCK h Wu y := by
  have ex : x = ix2 (y 0) (x 1) := by
    funext a; match a with
    | ⟨0, _⟩ => exact Fin.ext e.symm
    | ⟨1, _⟩ => rfl
  exact (congrArg (k0_pay4 (F := Ideal) h wu) ex).trans (prod256_eq h wu Wu (x 1) (y 1) hu (y 0))

/-- Where a chunk's columns lie in a block of weights. -/
theorem off3_128 (o : ℕ) (k : Fin 2048) (j : Fin 128) (j' : Fin 1408) (e : j'.val = o + j.val) :
    ∀ a, ((ix3 0 k j' : S1x2048x1408.Idx) a : ℕ) = (![0, 0, o] : Fin 3 → ℕ) a + ((ix3 0 k j : S1x2048x128.Idx) a : ℕ)
  | ⟨0, _⟩ => rfl
  | ⟨1, _⟩ => (Nat.zero_add _).symm
  | ⟨2, _⟩ => e

/-- Where a chunk's columns lie in the buffered rows. -/
theorem offb_128 (o : ℕ) (k : Fin 128) (j : Fin 128) (j' : Fin 1408) (e : j'.val = o + j.val) :
    ∀ a, ((ix2 k j' : S128x1408.Idx) a : ℕ) = (![0, o] : Fin 2 → ℕ) a + ((ix2 k j : S128x128.Idx) a : ℕ)
  | ⟨0, _⟩ => (Nat.zero_add _).symm
  | ⟨1, _⟩ => e

/-- Where a chunk's columns lie in the taps' weights. -/
theorem offw_128 (o : ℕ) (k : Fin 3) (j : Fin 128) (j' : Fin 1408) (e : j'.val = o + j.val) :
    ∀ a, ((ix2 k j' : S3x1408.Idx) a : ℕ) = (![0, o] : Fin 2 → ℕ) a + ((ix2 k j : S3x128.Idx) a : ℕ)
  | ⟨0, _⟩ => (Nat.zero_add _).symm
  | ⟨1, _⟩ => e

/-- A chunk of the activation, at a place of the block. -/
theorem chunk128_at (h : Vec Ideal S128x2048 .bf16) (wu wv : Vec Ideal S1x2048x128 .bf16) (buf : Vec Ideal S128x128 .f32) (cw : Vec Ideal S3x128 .f32)
    (Wu Wv : Vec Ideal S1x2048x1408 .bf16) (B : Vec Ideal S128x1408 .f32) (Cw : Vec Ideal S3x1408 .f32) (x : S128x128.Idx) (y : S128x1408.Idx)
    (e : (y 0).val = (x 0).val)
    (hu : ∀ k : Fin 2048, wu (ix3 0 k (x 1)) = Wu (ix3 0 k (y 1))) (hv : ∀ k : Fin 2048, wv (ix3 0 k (x 1)) = Wv (ix3 0 k (y 1)))
    (hb : ∀ i : Fin 128, buf (ix2 i (x 1)) = B (ix2 i (y 1))) (hw : ∀ i : Fin 3, cw (ix2 i (x 1)) = Cw (ix2 i (y 1))) :
    chunk128 h wu wv buf cw x = BLOCK h Wu Wv B Cw y := by
  have ex : x = ix2 (y 0) (x 1) := by
    funext a; match a with
    | ⟨0, _⟩ => exact Fin.ext e.symm
    | ⟨1, _⟩ => rfl
  exact (congrArg (chunk128 h wu wv buf cw) ex).trans (chunk128_eq h wu wv buf cw Wu Wv B Cw (x 1) (y 1) hu hv hb hw (y 0))

/-- A chunk of the product, at a place of the block. -/
theorem prod128_at (h : Vec Ideal S128x2048 .bf16) (wu : Vec Ideal S1x2048x128 .bf16) (Wu : Vec Ideal S1x2048x1408 .bf16) (x : S128x128.Idx) (y : S128x1408.Idx)
    (e : (y 0).val = (x 0).val) (hu : ∀ k : Fin 2048, wu (ix3 0 k (x 1)) = Wu (ix3 0 k (y 1))) :
    k0_pay21 (F := Ideal) (k0_pay2 h) wu x = UBLOCK h Wu y := by
  have ex : x = ix2 (y 0) (x 1) := by
    funext a; match a with
    | ⟨0, _⟩ => exact Fin.ext e.symm
    | ⟨1, _⟩ => rfl
  exact (congrArg (k0_pay21 (F := Ideal) (k0_pay2 h) wu) ex).trans (prod128_eq h wu Wu (x 1) (y 1) hu (y 0))

/-- The block of the activation a point stores. -/
theorem act_out (c : Dev nD) (t : Fin cfg0.N) :
    (outsAt0 m c t).1 = BLOCK (iblk m c 0 t) (iblk m c 1 t) (iblk m c 2 t) (iblk m c 4 t) (iblk m c 3 t) := by
  funext y
  unfold outsAt0
  dsimp only
  frame_out
  canon_tiles x h using (View.cover_of_tiledBy (s := S128x1408) _ ![128, 128] (by sl_kernel_rfl) y)
  · exact (chunk128_at _ _ _ _ _ _ _ _ _ _ _ (h0.trans (by omega)) (fun k => View.ld_unit_apply_of _ _ _ _ _ _ (off3_128 1280 k _ _ (h1.trans (by omega)))) (fun k => View.ld_unit_apply_of _ _ _ _ _ _ (off3_128 1280 k _ _ (h1.trans (by omega)))) (fun k => View.ld_unit_apply_of _ _ _ _ _ _ (offb_128 1280 k _ _ (h1.trans (by omega)))) (fun k => View.ld_unit_apply_of _ _ _ _ _ _ (offw_128 1280 k _ _ (h1.trans (by omega)))))
  · exact (congrFun (chunk4 _ _ _ _ _) _).trans (chunk256_at _ _ _ _ _ _ _ _ _ _ _ (h0.trans (by omega)) (fun k => View.ld_unit_apply_of _ _ _ _ _ _ (off3_256 1024 k _ _ (h1.trans (by omega)))) (fun k => View.ld_unit_apply_of _ _ _ _ _ _ (off3_256 1024 k _ _ (h1.trans (by omega)))) (fun k => View.ld_unit_apply_of _ _ _ _ _ _ (offb_256 1024 k _ _ (h1.trans (by omega)))) (fun k => View.ld_unit_apply_of _ _ _ _ _ _ (offw_256 1024 k _ _ (h1.trans (by omega)))))
  · exact (congrFun (chunk3 _ _ _ _ _) _).trans (chunk256_at _ _ _ _ _ _ _ _ _ _ _ (h0.trans (by omega)) (fun k => View.ld_unit_apply_of _ _ _ _ _ _ (off3_256 768 k _ _ (h1.trans (by omega)))) (fun k => View.ld_unit_apply_of _ _ _ _ _ _ (off3_256 768 k _ _ (h1.trans (by omega)))) (fun k => View.ld_unit_apply_of _ _ _ _ _ _ (offb_256 768 k _ _ (h1.trans (by omega)))) (fun k => View.ld_unit_apply_of _ _ _ _ _ _ (offw_256 768 k _ _ (h1.trans (by omega)))))
  · exact (congrFun (chunk2 _ _ _ _ _) _).trans (chunk256_at _ _ _ _ _ _ _ _ _ _ _ (h0.trans (by omega)) (fun k => View.ld_unit_apply_of _ _ _ _ _ _ (off3_256 512 k _ _ (h1.trans (by omega)))) (fun k => View.ld_unit_apply_of _ _ _ _ _ _ (off3_256 512 k _ _ (h1.trans (by omega)))) (fun k => View.ld_unit_apply_of _ _ _ _ _ _ (offb_256 512 k _ _ (h1.trans (by omega)))) (fun k => View.ld_unit_apply_of _ _ _ _ _ _ (offw_256 512 k _ _ (h1.trans (by omega)))))
  · exact (congrFun (chunk1 _ _ _ _ _) _).trans (chunk256_at _ _ _ _ _ _ _ _ _ _ _ (h0.trans (by omega)) (fun k => View.ld_unit_apply_of _ _ _ _ _ _ (off3_256 256 k _ _ (h1.trans (by omega)))) (fun k => View.ld_unit_apply_of _ _ _ _ _ _ (off3_256 256 k _ _ (h1.trans (by omega)))) (fun k => View.ld_unit_apply_of _ _ _ _ _ _ (offb_256 256 k _ _ (h1.trans (by omega)))) (fun k => View.ld_unit_apply_of _ _ _ _ _ _ (offw_256 256 k _ _ (h1.trans (by omega)))))
  · exact (chunk256_at _ _ _ _ _ _ _ _ _ _ _ (h0.trans (by omega)) (fun k => View.ld_unit_apply_of _ _ _ _ _ _ (off3_256 0 k _ _ (h1.trans (by omega)))) (fun k => View.ld_unit_apply_of _ _ _ _ _ _ (off3_256 0 k _ _ (h1.trans (by omega)))) (fun k => View.ld_unit_apply_of _ _ _ _ _ _ (offb_256 0 k _ _ (h1.trans (by omega)))) (fun k => View.ld_unit_apply_of _ _ _ _ _ _ (offw_256 0 k _ _ (h1.trans (by omega)))))

/-- The block of the product a point stores. -/
theorem u_out (c : Dev nD) (t : Fin cfg0.N) : (outsAt0 m c t).2 = UBLOCK (iblk m c 0 t) (iblk m c 1 t) := by
  funext y
  unfold outsAt0
  dsimp only
  frame_out
  canon_tiles x h using (View.cover_of_tiledBy (s := S128x1408) _ ![128, 128] (by sl_kernel_rfl) y)
  · exact (prod128_at _ _ _ _ _ (h0.trans (by omega)) (fun k => View.ld_unit_apply_of _ _ _ _ _ _ (off3_128 1280 k _ _ (h1.trans (by omega)))))
  · exact (congrFun (uchunk4 _ _) _).trans (prod256_at _ _ _ _ _ (h0.trans (by omega)) (fun k => View.ld_unit_apply_of _ _ _ _ _ _ (off3_256 1024 k _ _ (h1.trans (by omega)))))
  · exact (congrFun (uchunk3 _ _) _).trans (prod256_at _ _ _ _ _ (h0.trans (by omega)) (fun k => View.ld_unit_apply_of _ _ _ _ _ _ (off3_256 768 k _ _ (h1.trans (by omega)))))
  · exact (congrFun (uchunk2 _ _) _).trans (prod256_at _ _ _ _ _ (h0.trans (by omega)) (fun k => View.ld_unit_apply_of _ _ _ _ _ _ (off3_256 512 k _ _ (h1.trans (by omega)))))
  · exact (congrFun (uchunk1 _ _) _).trans (prod256_at _ _ _ _ _ (h0.trans (by omega)) (fun k => View.ld_unit_apply_of _ _ _ _ _ _ (off3_256 256 k _ _ (h1.trans (by omega)))))
  · exact (prod256_at _ _ _ _ _ (h0.trans (by omega)) (fun k => View.ld_unit_apply_of _ _ _ _ _ _ (off3_256 0 k _ _ (h1.trans (by omega)))))

end Cert.Kernel8Ideal.StepUp
end
end
-- ==== Proof.StepUpRef.lean ====
module

public import proofs.«01_k».proof.Proof.Gen.Reference8Ideal.Run
public import Idealize.ShloMosaic.Lib.Pointwise

/-! The reference of the step's up projection with its convolution, from its parts. -/

set_option maxRecDepth 16384

@[expose] public section
noncomputable section

open Idealize.ShloMosaic Idealize.ShloMosaic.TcCoe Idealize.SL.Sem

namespace Cert.Reference8Ideal.StepUp

open Cert.Reference8Ideal Cert.Reference8Ideal.Gen

/-- The gated activation of a convolved value `a` and its gate `v`. -/
def gated (a v : EReal) : EReal :=
  a * (Ideal.ofBits .f32 1056964608#32 * (1 + Ideal.tanh (Ideal.ofBits .f32 1061962282#32 * (a + Ideal.ofBits .f32 1027024659#32 * (a * (a * a)))))) * v

/-- The product. -/
abbrev dot (X : FVec Ideal S8x4x2048 .bf16) (W : FVec Ideal S4x2048x11264 .f32) : FVec Ideal S8x4x11264 .f32 :=
  Host.dotGeneral dot_S8x4x2048_S2048x11264_S8x4x11264_2_0_01_1_n_n none (extf .f32 X bitsLt_bf16_f32)
    (shapeCast _ (extractStridedSlice S1x2048x11264 ![0, 0, 0] W slices_S4x2048x11264_S1x2048x11264_0_0_0) shapeCasts_S1x2048x11264_S2048x11264)

/-- The buffered rows, followed by the first half of the product. -/
abbrev ext (B : FVec Ideal S4x8x2x5632 .f32) (D : FVec Ideal S8x4x5632 .f32) : FVec Ideal S8x6x5632 .f32 :=
  concatenate S8x6x5632 1 [⟨S8x2x5632, (shapeCast S8x2x5632 (extractStridedSlice S1x8x2x5632 ![0, 0, 0, 0] B slices_S4x8x2x5632_S1x8x2x5632_0_0_0_0) shapeCasts_S1x8x2x5632_S8x2x5632 : FVec Ideal S8x2x5632 .f32)⟩,
    ⟨S8x4x5632, D⟩] concatenates_S8x2x5632_S8x4x5632_S8x6x5632_d1

/-- The first half of the product. -/
abbrev half (D : FVec Ideal S8x4x11264 .f32) : FVec Ideal S8x4x5632 .f32 := extractStridedSlice S8x4x5632 ![0, 0, 0] D slices_S8x4x11264_S8x4x5632_0_0_0

/-- The second half of the product. -/
abbrev gate (D : FVec Ideal S8x4x11264 .f32) : FVec Ideal S8x4x5632 .f32 := extractStridedSlice S8x4x5632 ![0, 0, 5632] D slices_S8x4x11264_S8x4x5632_0_0_5632

/-- One tap's weights, repeated for each row. -/
abbrev tap0 (C : FVec Ideal S4x3x5632 .f32) : FVec Ideal S8x4x5632 .f32 :=
  broadcastInDim S8x4x5632 ![0, 1, 2] bcast_S1x1x5632_S8x4x5632_0_1_2 (broadcastInDim S1x1x5632 ![2] bcast_S5632_S1x1x5632_2
    (shapeCast S5632 (extractStridedSlice S1x1x5632 ![0, 0, 0] C slices_S4x3x5632_S1x1x5632_0_0_0) shapeCasts_S1x1x5632_S5632))

/-- The second tap's weights. -/
abbrev tap1 (C : FVec Ideal S4x3x5632 .f32) : FVec Ideal S8x4x5632 .f32 :=
  broadcastInDim S8x4x5632 ![0, 1, 2] bcast_S1x1x5632_S8x4x5632_0_1_2 (broadcastInDim S1x1x5632 ![2] bcast_S5632_S1x1x5632_2
    (shapeCast S5632 (extractStridedSlice S1x1x5632 ![0, 1, 0] C slices_S4x3x5632_S1x1x5632_0_1_0) shapeCasts_S1x1x5632_S5632))

/-- The third tap's weights. -/
abbrev tap2 (C : FVec Ideal S4x3x5632 .f32) : FVec Ideal S8x4x5632 .f32 :=
  broadcastInDim S8x4x5632 ![0, 1, 2] bcast_S1x1x5632_S8x4x5632_0_1_2 (broadcastInDim S1x1x5632 ![2] bcast_S5632_S1x1x5632_2
    (shapeCast S5632 (extractStridedSlice S1x1x5632 ![0, 2, 0] C slices_S4x3x5632_S1x1x5632_0_2_0) shapeCasts_S1x1x5632_S5632))

/-- The convolution, summed from zero. -/
abbrev conv (E : FVec Ideal S8x6x5632 .f32) (C : FVec Ideal S4x3x5632 .f32) : FVec Ideal S8x4x5632 .f32 :=
  addf (addf (addf (broadcastInDim S8x4x5632 ![] bcast_S_S8x4x5632 (constant S_ .f32 0x00000000#32))
    (mulf (extractStridedSlice S8x4x5632 ![0, 0, 0] E slices_S8x6x5632_S8x4x5632_0_0_0) (tap0 C)))
    (mulf (extractStridedSlice S8x4x5632 ![0, 1, 0] E slices_S8x6x5632_S8x4x5632_0_1_0) (tap1 C)))
    (mulf (extractStridedSlice S8x4x5632 ![0, 2, 0] E slices_S8x6x5632_S8x4x5632_0_2_0) (tap2 C))

/-- One number, everywhere. -/
abbrev num (b : BitVec 32) : FVec Ideal S8x4x5632 .f32 := broadcastInDim S8x4x5632 ![] bcast_S_S8x4x5632 (constant S_ .f32 b)

/-- The gated activation of the convolution, rounded. -/
abbrev act (A V : FVec Ideal S8x4x5632 .f32) : FVec Ideal S8x4x5632 .bf16 :=
  truncf .bf16 (mulf (mulf A (mulf (num 0x3F000000#32) (addf (num 0x3F800000#32)
    (Host.tanh (mulf (num 0x3F4C422A#32) (addf A (mulf (num 0x3D372713#32) (mulf (mulf A A) A)))))))) V) bitsLt_bf16_f32

/-- The activation. -/
abbrev REF (X : FVec Ideal S8x4x2048 .bf16) (W : FVec Ideal S4x2048x11264 .f32) (C : FVec Ideal S4x3x5632 .f32) (B : FVec Ideal S4x8x2x5632 .f32) : FVec Ideal S8x4x5632 .bf16 :=
  act (conv (ext B (half (dot X W))) C) (gate (dot X W))

/-- The buffer handed on: the last two rows. -/
abbrev TAIL (X : FVec Ideal S8x4x2048 .bf16) (W : FVec Ideal S4x2048x11264 .f32) (B : FVec Ideal S4x8x2x5632 .f32) : FVec Ideal S8x2x5632 .f32 :=
  extractStridedSlice S8x2x5632 ![0, 4, 0] (ext B (half (dot X W))) slices_S8x6x5632_S8x2x5632_0_4_0

/-- The product at an element. -/
theorem dot_at (X : FVec Ideal S8x4x2048 .bf16) (W : FVec Ideal S4x2048x11264 .f32) (b : Fin 8) (s : Fin 4) (j : Fin 11264) :
    dot X W (ix3 b s j) = (∑ k : Fin 2048, X (ix3 b s k) * W (ix3 (0 : Fin 4) k j) : EReal) := by
  pointwise [dot]

/-- The first half at an element. -/
theorem half_at (D : FVec Ideal S8x4x11264 .f32) (b : Fin 8) (s : Fin 4) (j : Fin 5632) : half D (ix3 b s j) = D (ix3 b s (⟨j.val, by omega⟩ : Fin 11264)) := by
  pointwise [half]

/-- The second half at an element. -/
theorem gate_at (D : FVec Ideal S8x4x11264 .f32) (b : Fin 8) (s : Fin 4) (j : Fin 5632) : gate D (ix3 b s j) = D (ix3 b s (⟨5632 + j.val, by omega⟩ : Fin 11264)) := by
  pointwise [gate]

/-- The buffered rows and the product at an element. -/
theorem ext_at (B : FVec Ideal S4x8x2x5632 .f32) (D : FVec Ideal S8x4x5632 .f32) (b : Fin 8) (s : Fin 6) (j : Fin 5632) :
    ext B D (ix3 b s j) = if h : 2 ≤ s.val then D (ix3 b ⟨s.val - 2, by omega⟩ j) else B (ix4 0 b ⟨s.val, by omega⟩ j) := by
  unfold ext
  pointwise
  by_cases h : 2 ≤ s.val
  · rw [dif_pos h, dif_neg (by omega)]
  · rw [dif_neg h, dif_pos (by omega)]

/-- Three products summed in either order. -/
theorem three (e0 e1 e2 c0 c1 c2 : EReal) : e0 * c0 + e1 * c1 + e2 * c2 = c2 * e2 + c1 * e1 + c0 * e0 := by
  rw [mul_comm e0, mul_comm e1, mul_comm e2, add_comm (c0 * e0 + c1 * e1), add_comm (c0 * e0), ← add_assoc]

/-- The convolution at an element. -/
theorem conv_at (E : FVec Ideal S8x6x5632 .f32) (C : FVec Ideal S4x3x5632 .f32) (b : Fin 8) (s : Fin 4) (j : Fin 5632) :
    conv E C (ix3 b s j) = C (ix3 0 2 j) * E (ix3 b ⟨2 + s.val, by omega⟩ j) + C (ix3 0 1 j) * E (ix3 b ⟨1 + s.val, by omega⟩ j)
      + C (ix3 0 0 j) * E (ix3 b ⟨s.val, by omega⟩ j) := by
  unfold conv
  pointwise
  exact three _ _ _ _ _ _

/-- The activation at an element. -/
theorem act_at (A V : FVec Ideal S8x4x5632 .f32) (b : Fin 8) (s : Fin 4) (j : Fin 5632) :
    act A V (ix3 b s j) = gated (A (ix3 b s j)) (V (ix3 b s j)) := by
  unfold act num gated
  pointwise
  generalize A (ix3 b s j) = a
  have e : (a * a * a : EReal) = a * (a * a) := mul_comm _ _
  exact congrArg (fun q : EReal => a * (Ideal.ofBits .f32 1056964608#32 * (1 + Ideal.tanh (Ideal.ofBits .f32 1061962282#32 * (a + Ideal.ofBits .f32 1027024659#32 * q)))) * _) e

/-- The reference's first result, as it ends. -/
theorem out0 (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v45; rfl

end Cert.Reference8Ideal.StepUp
end
end
-- ==== Proof.StepUp.lean ====
module

public import proofs.«01_k».proof.Proof.StepUpRun
public import proofs.«01_k».proof.Proof.StepUpRef
public import proofs.«01_k».proof.Proof.StepRows

/-! The step's up projection: the two arrays after the region are the reference's at the step's rows. -/

set_option maxRecDepth 16384

@[expose] public section
noncomputable section

open Idealize.ShloMosaic Idealize.ShloMosaic.TcCoe Idealize.SL.Sem Idealize.ShloMosaic.StableHlo
open Idealize.ShloMosaic.Pipeline (Dat)

namespace Cert.Kernel8Ideal.StepUp

open Cert.Kernel8Ideal Cert.Kernel8Ideal.Gen
open Cert.Reference8Ideal.StepUp (REF TAIL dot half gate ext conv)

/-- The step's rows, each sequence's from row eight of sixteen. -/
def zh (X : FVec Ideal S8x4x2048 .bf16) : FVec Ideal S128x2048 .bf16 :=
  shapeCast S128x2048 (Host.scatter scatter_S8x16x2048_S1_S8x4x2048_012_n_1_0 (fun _ b => b)
    (broadcastInDim S8x16x2048 ![] bcast_S_S8x16x2048 (constant S_ .bf16 0x0000#16) : FVec Ideal S8x16x2048 .bf16)
    (broadcastInDim S1 ![] bcast_S_S1 (constantI S_ 32 8#32)) X) shapeCasts_S8x16x2048_S128x2048

/-- The first layer's buffered rows. -/
abbrev layer (B : FVec Ideal S4x8x2x5632 .f32) : FVec Ideal S8x2x5632 .f32 :=
  shapeCast S8x2x5632 (extractStridedSlice S1x8x2x5632 ![0, 0, 0, 0] B slices_S4x8x2x5632_S1x8x2x5632_0_0_0_0) shapeCasts_S1x8x2x5632_S8x2x5632

/-- The buffered rows, each sequence's from row six of sixteen. -/
def zb (B : FVec Ideal S4x8x2x5632 .f32) : FVec Ideal S128x5632 .f32 :=
  shapeCast S128x5632 (Host.scatter scatter_S8x16x5632_S1_S8x2x5632_012_n_1_0 (fun _ b => b)
    (broadcastInDim S8x16x5632 ![] bcast_S_S8x16x5632 (constant S_ .f32 0x00000000#32) : FVec Ideal S8x16x5632 .f32)
    (broadcastInDim S1 ![] bcast_S_S1 (constantI S_ 32 6#32)) (layer B)) shapeCasts_S8x16x5632_S128x5632

/-- A row of a sequence among the sixteen. -/
theorem zh_at (X : FVec Ideal S8x4x2048 .bf16) (b : Fin 8) (t : Fin 4) (j : Fin 2048) :
    zh X (ix2 (⟨b.val * 16 + (8 + t.val), by omega⟩ : Fin 128) j) = X (ix3 b t j) := by
  have h := StepRows.set_at (R := 16) scatter_S8x16x2048_S1_S8x4x2048_012_n_1_0 8 (broadcastInDim S8x16x2048 ![] bcast_S_S8x16x2048 (constant S_ .bf16 0x0000#16) : FVec Ideal S8x16x2048 .bf16) (broadcastInDim S1 ![] bcast_S_S1 (constantI S_ 32 8#32)) X (fun k => ⟨rfl, rfl, rfl⟩) (fun k => ⟨rfl, rfl, rfl⟩) b t j (by omega)
  refine Eq.trans ?_ h
  unfold zh
  generalize Host.scatter scatter_S8x16x2048_S1_S8x4x2048_012_n_1_0 (fun _ b => b) (broadcastInDim S8x16x2048 ![] bcast_S_S8x16x2048 (constant S_ .bf16 0x0000#16) : FVec Ideal S8x16x2048 .bf16) (broadcastInDim S1 ![] bcast_S_S1 (constantI S_ 32 8#32)) X = Z
  pointwise
  exact congrArg (fun x : Fin 16 => Z (ix3 b x j)) (Fin.ext (by dsimp only; omega))

/-- An entry of the first layer's buffered rows. -/
theorem layer_at (B : FVec Ideal S4x8x2x5632 .f32) (b : Fin 8) (t : Fin 2) (j : Fin 5632) : layer B (ix3 b t j) = B (ix4 0 b t j) := by
  pointwise [layer]

/-- A buffered row of a sequence among the sixteen. -/
theorem zb_at (B : FVec Ideal S4x8x2x5632 .f32) (b : Fin 8) (t : Fin 2) (j : Fin 5632) :
    zb B (ix2 (⟨b.val * 16 + (6 + t.val), by omega⟩ : Fin 128) j) = B (ix4 0 b t j) := by
  have h := StepRows.set_at (R := 16) scatter_S8x16x5632_S1_S8x2x5632_012_n_1_0 6 (broadcastInDim S8x16x5632 ![] bcast_S_S8x16x5632 (constant S_ .f32 0x00000000#32) : FVec Ideal S8x16x5632 .f32) (broadcastInDim S1 ![] bcast_S_S1 (constantI S_ 32 6#32)) (layer B) (fun k => ⟨rfl, rfl, rfl⟩) (fun k => ⟨rfl, rfl, rfl⟩) b t j (by omega)
  refine Eq.trans ?_ (h.trans (layer_at B b t j))
  unfold zb
  generalize Host.scatter scatter_S8x16x5632_S1_S8x2x5632_012_n_1_0 (fun _ b => b) (broadcastInDim S8x16x5632 ![] bcast_S_S8x16x5632 (constant S_ .f32 0x00000000#32) : FVec Ideal S8x16x5632 .f32) (broadcastInDim S1 ![] bcast_S_S1 (constantI S_ 32 6#32)) (layer B) = Z
  pointwise
  exact congrArg (fun x : Fin 16 => Z (ix3 b x j)) (Fin.ext (by dsimp only; omega))

/-- The product of the placed rows, at an element. -/
def PZ (X : FVec Ideal S8x4x2048 .bf16) (W : FVec Ideal S4x2048x11264 .f32) (r : Fin 128) (j : Fin 11264) : EReal :=
  ∑ k : Fin 2048, zh X (ix2 r k) * W (ix3 (0 : Fin 4) k j)

/-- The product with the buffered rows in their places. -/
def UP (X : FVec Ideal S8x4x2048 .bf16) (W : FVec Ideal S4x2048x11264 .f32) (B : FVec Ideal S4x8x2x5632 .f32) (r : Fin 128) (j : Fin 5632) : EReal :=
  if 6 ≤ r.val % 16 ∧ r.val % 16 < 8 then zb B (ix2 r j) else PZ X W r ⟨j.val, by omega⟩

/-- The activation of the placed rows, at an element. -/
def FULL (X : FVec Ideal S8x4x2048 .bf16) (W : FVec Ideal S4x2048x11264 .f32) (C : FVec Ideal S4x3x5632 .f32) (B : FVec Ideal S4x8x2x5632 .f32)
    (r : Fin 128) (j : Fin 5632) : EReal :=
  cell (C (ix3 0 2 j) * UP X W B r j + C (ix3 0 1 j) * UP X W B (back 1 r) j + C (ix3 0 0 j) * UP X W B (back 2 r) j) (PZ X W r ⟨5632 + j.val, by omega⟩)

/-- The activation of the placed rows. -/
def ACTS (X : FVec Ideal S8x4x2048 .bf16) (W : FVec Ideal S4x2048x11264 .f32) (C : FVec Ideal S4x3x5632 .f32) (B : FVec Ideal S4x8x2x5632 .f32) :
    FVec Ideal S128x5632 .bf16 := fun y => FULL X W C B (y 0) (y 1)

/-- The first half of the product of the placed rows. -/
def PRODS (X : FVec Ideal S8x4x2048 .bf16) (W : FVec Ideal S4x2048x11264 .f32) : FVec Ideal S128x5632 .f32 :=
  fun y => PZ X W (y 0) ⟨(y 1).val, by have := (y 1).isLt; change _ < 5632 at this; omega⟩

/-- The product of the placed rows, at a row of a sequence, is the reference's. -/
theorem PZ_at (X : FVec Ideal S8x4x2048 .bf16) (W : FVec Ideal S4x2048x11264 .f32) (b : Fin 8) (s : Fin 4) (j : Fin 11264) :
    PZ X W (⟨b.val * 16 + (8 + s.val), by omega⟩ : Fin 128) j = dot X W (ix3 b s j) := by
  refine Eq.trans ?_ (Cert.Reference8Ideal.StepUp.dot_at X W b s j).symm
  exact Finset.sum_congr rfl fun k _ => congrArg (· * W (ix3 (0 : Fin 4) k j)) (zh_at X b s k)

/-- The rows from the buffered ones on are the reference's buffered rows and product. -/
theorem UP_at (X : FVec Ideal S8x4x2048 .bf16) (W : FVec Ideal S4x2048x11264 .f32) (B : FVec Ideal S4x8x2x5632 .f32) (r : Fin 128) (b : Fin 8) (i : Fin 6)
    (e : r.val = b.val * 16 + (6 + i.val)) (j : Fin 5632) : UP X W B r j = ext B (half (dot X W)) (ix3 b i j) := by
  rw [Cert.Reference8Ideal.StepUp.ext_at]
  unfold UP
  by_cases h : 2 ≤ i.val
  · rw [dif_pos h, if_neg (by omega), Cert.Reference8Ideal.StepUp.half_at, ← PZ_at]
    exact congrArg (fun q => PZ X W q _) (Fin.ext (by show r.val = b.val * 16 + (8 + (i.val - 2)); omega))
  · rw [dif_neg h, if_pos (by omega), ← zb_at B b ⟨i.val, by omega⟩ j]
    exact congrArg (fun q => zb B (ix2 q j)) (Fin.ext (by show r.val = b.val * 16 + (6 + i.val); omega))

/-- The activation of the placed rows, at a row of a sequence, is the reference's. -/
theorem FULL_at (X : FVec Ideal S8x4x2048 .bf16) (W : FVec Ideal S4x2048x11264 .f32) (C : FVec Ideal S4x3x5632 .f32) (B : FVec Ideal S4x8x2x5632 .f32)
    (b : Fin 8) (s : Fin 4) (j : Fin 5632) : FULL X W C B (⟨b.val * 16 + (8 + s.val), by omega⟩ : Fin 128) j = REF X W C B (ix3 b s j) := by
  unfold FULL
  refine Eq.trans ?_ (Cert.Reference8Ideal.StepUp.act_at (conv (ext B (half (dot X W))) C) (gate (dot X W)) b s j).symm
  rw [Cert.Reference8Ideal.StepUp.conv_at, Cert.Reference8Ideal.StepUp.gate_at, ← PZ_at,
    UP_at X W B _ b ⟨2 + s.val, by omega⟩ (by show b.val * 16 + (8 + s.val) = b.val * 16 + (6 + (2 + s.val)); omega) j,
    UP_at X W B _ b ⟨1 + s.val, by omega⟩ (by show (b.val * 16 + (8 + s.val) + 128 - 1) % 128 = b.val * 16 + (6 + (1 + s.val)); omega) j,
    UP_at X W B _ b ⟨s.val, by omega⟩ (by show (b.val * 16 + (8 + s.val) + 128 - 2) % 128 = b.val * 16 + (6 + s.val); omega) j]
  rfl

variable (m : (ℓ : Loc nD τ sig) → Buf (Elt Ideal) ℓ)

/-- Which block of its array each window stages at a point. -/
theorem idx : ∀ t : Fin cfg0.N, win0_0.index t = ![0, 0] ∧ win0_1.index t = ![0, 0, t.val] ∧ win0_2.index t = ![0, 0, 4 + t.val]
    ∧ win0_3.index t = ![0, t.val] ∧ win0_4.index t = ![0, t.val] ∧ win0_5.index t = ![0, t.val] ∧ win0_6.index t = ![0, t.val] :=
  (by decide +kernel : ∀ t : Fin grid0.N, _)

/-- There are four points. -/
theorem lt4 : ∀ t : Fin cfg0.N, t.val < 4 := (by decide +kernel : ∀ t : Fin grid0.N, t.val < 4)

/-- The rows at the region's start. -/
theorem entry_h (c : Dev nD) : V m c main_v3 = zh (m ((c : Thread nD τ).loc main_arg0)) := by
  simp only [V, V0, hostOps0, List.flatten_cons, List.flatten_nil, List.append_nil, List.cons_append, List.nil_append]
  entry_read
  unfold zh
  rfl

/-- The buffered rows at the region's start. -/
theorem entry_b (c : Dev nD) : V m c main_v12 = zb (m ((c : Thread nD τ).loc main_arg3)) := by
  simp only [V, V0, hostOps0, List.flatten_cons, List.flatten_nil, List.append_nil, List.cons_append, List.nil_append]
  entry_read
  unfold zb
  rfl

/-- The weights at the region's start. -/
theorem entry_w (c : Dev nD) (i : Fin 4) (k : Fin 2048) (j : Fin 11264) : V m c main_v4 (ix3 i k j) = (m ((c : Thread nD τ).loc main_arg1)) (ix3 i k j) := by
  simp only [V, V0, hostOps0, List.flatten_cons, List.flatten_nil, List.append_nil, List.cons_append, List.nil_append]
  entry_read
  pointwise

/-- The taps' weights at the region's start. -/
theorem entry_c (c : Dev nD) (i : Fin 3) (j : Fin 5632) : V m c main_v6 (ix2 i j) = (m ((c : Thread nD τ).loc main_arg2)) (ix3 0 i j) := by
  simp only [V, V0, hostOps0, List.flatten_cons, List.flatten_nil, List.append_nil, List.cons_append, List.nil_append]
  entry_read
  pointwise

/-- A block of rows: all of them. -/
theorem rows (c : Dev nD) (t : Fin cfg0.N) (r : Fin 128) (k : Fin 2048) : iblk m c 0 t (ix2 r k) = zh (m ((c : Thread nD τ).loc main_arg0)) (ix2 r k) := by
  refine (congrArg (V m c main_v3) (?_ : ((cfg0.win 0).blk t).view.emb (ix2 r k) = ix2 r k)).trans (congrFun (entry_h m c) _)
  blk_ext [idx t]

/-- A block of the first half of the weights. -/
theorem cols (c : Dev nD) (t : Fin cfg0.N) (k : Fin 2048) (j : Fin 1408) : iblk m c 1 t (ix3 (0 : Fin 1) k j)
    = (m ((c : Thread nD τ).loc main_arg1)) (ix3 (0 : Fin 4) k (⟨t.val * 1408 + j.val, by have := lt4 t; omega⟩ : Fin 11264)) := by
  have hT := lt4 t
  refine (congrArg (V m c main_v4) (?_ : ((cfg0.win 1).blk t).view.emb (ix3 (0 : Fin 1) k j) = ix3 (0 : Fin 4) k (⟨t.val * 1408 + j.val, by omega⟩ : Fin 11264))).trans (entry_w m c _ _ _)
  blk_ext [idx t]

/-- A block of the second half of the weights. -/
theorem gcols (c : Dev nD) (t : Fin cfg0.N) (k : Fin 2048) (j : Fin 1408) : iblk m c 2 t (ix3 (0 : Fin 1) k j)
    = (m ((c : Thread nD τ).loc main_arg1)) (ix3 (0 : Fin 4) k (⟨5632 + (t.val * 1408 + j.val), by have := lt4 t; omega⟩ : Fin 11264)) := by
  have hT := lt4 t
  refine (congrArg (V m c main_v4) (?_ : ((cfg0.win 2).blk t).view.emb (ix3 (0 : Fin 1) k j) = ix3 (0 : Fin 4) k (⟨5632 + (t.val * 1408 + j.val), by omega⟩ : Fin 11264))).trans (entry_w m c _ _ _)
  blk_ext [idx t]

/-- A block of the taps' weights. -/
theorem taps (c : Dev nD) (t : Fin cfg0.N) (i : Fin 3) (j : Fin 1408) : iblk m c 3 t (ix2 i j)
    = (m ((c : Thread nD τ).loc main_arg2)) (ix3 (0 : Fin 4) i (⟨t.val * 1408 + j.val, by have := lt4 t; omega⟩ : Fin 5632)) := by
  have hT := lt4 t
  refine (congrArg (V m c main_v6) (?_ : ((cfg0.win 3).blk t).view.emb (ix2 i j) = ix2 i (⟨t.val * 1408 + j.val, by omega⟩ : Fin 5632))).trans (entry_c m c _ _)
  blk_ext [idx t]

/-- A block of the buffered rows. -/
theorem bufs (c : Dev nD) (t : Fin cfg0.N) (i : Fin 128) (j : Fin 1408) : iblk m c 4 t (ix2 i j)
    = zb (m ((c : Thread nD τ).loc main_arg3)) (ix2 i (⟨t.val * 1408 + j.val, by have := lt4 t; omega⟩ : Fin 5632)) := by
  have hT := lt4 t
  refine (congrArg (V m c main_v12) (?_ : ((cfg0.win 4).blk t).view.emb (ix2 i j) = ix2 i (⟨t.val * 1408 + j.val, by omega⟩ : Fin 5632))).trans (congrFun (entry_b m c) _)
  blk_ext [idx t]

/-- A block's product is the whole product's. -/
theorem U_eq (c : Dev nD) (t : Fin cfg0.N) (r : Fin 128) (j : Fin 1408) : U (iblk m c 0 t) (iblk m c 1 t) r j
    = PZ (m ((c : Thread nD τ).loc main_arg0)) (m ((c : Thread nD τ).loc main_arg1)) r ⟨t.val * 1408 + j.val, by have := lt4 t; omega⟩ :=
  Finset.sum_congr rfl fun k _ => by rw [rows m c t r k, cols m c t k j]

/-- A block's gate is the whole gate's. -/
theorem G_eq (c : Dev nD) (t : Fin cfg0.N) (r : Fin 128) (j : Fin 1408) : U (iblk m c 0 t) (iblk m c 2 t) r j
    = PZ (m ((c : Thread nD τ).loc main_arg0)) (m ((c : Thread nD τ).loc main_arg1)) r ⟨5632 + (t.val * 1408 + j.val), by have := lt4 t; omega⟩ :=
  Finset.sum_congr rfl fun k _ => by rw [rows m c t r k, gcols m c t k j]

/-- A block's product with the buffered rows is the whole one's. -/
theorem UZ_eq (c : Dev nD) (t : Fin cfg0.N) (r : Fin 128) (j : Fin 1408) : UZ (iblk m c 0 t) (iblk m c 1 t) (iblk m c 4 t) r j
    = UP (m ((c : Thread nD τ).loc main_arg0)) (m ((c : Thread nD τ).loc main_arg1)) (m ((c : Thread nD τ).loc main_arg3)) r ⟨t.val * 1408 + j.val, by have := lt4 t; omega⟩ := by
  unfold UZ UP
  rw [U_eq m c t, bufs m c t]

/-- A block of the activation is the whole activation's. -/
theorem block_eq (c : Dev nD) (t : Fin cfg0.N) (r : Fin 128) (j : Fin 1408) :
    BLOCK (iblk m c 0 t) (iblk m c 1 t) (iblk m c 2 t) (iblk m c 4 t) (iblk m c 3 t) (ix2 r j)
      = ACTS (m ((c : Thread nD τ).loc main_arg0)) (m ((c : Thread nD τ).loc main_arg1)) (m ((c : Thread nD τ).loc main_arg2)) (m ((c : Thread nD τ).loc main_arg3)) (ix2 r (⟨t.val * 1408 + j.val, by have := lt4 t; omega⟩ : Fin 5632)) := by
  show ACT (iblk m c 0 t) (iblk m c 1 t) (iblk m c 2 t) (iblk m c 4 t) (iblk m c 3 t) r j = _
  unfold ACT
  rw [UZ_eq m c t, UZ_eq m c t, UZ_eq m c t, G_eq m c t, taps m c t, taps m c t, taps m c t]
  rfl

/-- The activation after the run. -/
theorem final5 (c : Dev nD) : (dats m 0 c).arrAt 5 (cfgs 0).N = ACTS (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, j, rfl⟩ : ∃ (r : Fin 128) (j : Fin 1408), y = ix2 r j := ⟨y 0, y 1, by idx_ext⟩
  have hT := lt4 t
  have e : ((cfg0.win 5).blk t).view.emb (ix2 r j) = ix2 r (⟨t.val * 1408 + j.val, by omega⟩ : Fin 5632) := by
    blk_ext [idx t]
  exact (congrFun (act_out m c t) _).trans ((block_eq m c t r j).trans (congrArg (ACTS (m ((c : Thread nD τ).loc main_arg0)) (m ((c : Thread nD τ).loc main_arg1)) (m ((c : Thread nD τ).loc main_arg2)) (m ((c : Thread nD τ).loc main_arg3))) e.symm))

/-- A block of the product is the whole product's. -/
theorem ublock_eq (c : Dev nD) (t : Fin cfg0.N) (r : Fin 128) (j : Fin 1408) :
    UBLOCK (iblk m c 0 t) (iblk m c 1 t) (ix2 r j) = PRODS (m ((c : Thread nD τ).loc main_arg0)) (m ((c : Thread nD τ).loc main_arg1)) (ix2 r (⟨t.val * 1408 + j.val, by have := lt4 t; omega⟩ : Fin 5632)) := by
  show U (iblk m c 0 t) (iblk m c 1 t) r j = _
  rw [U_eq m c t]
  rfl

/-- The product after the run. -/
theorem final6 (c : Dev nD) : (dats m 0 c).arrAt 6 (cfgs 0).N = PRODS (m ((c : Thread nD τ).loc main_arg0)) (m ((c : Thread nD τ).loc main_arg1)) := by
  refine (dats m 0 c).arrAt_eq_of_covers 6 _ (by decide +kernel) fun t _ y => ?_
  blk_simp
  rw [after0_6]
  obtain ⟨r, j, rfl⟩ : ∃ (r : Fin 128) (j : Fin 1408), y = ix2 r j := ⟨y 0, y 1, by idx_ext⟩
  have hT := lt4 t
  have e : ((cfg0.win 6).blk t).view.emb (ix2 r j) = ix2 r (⟨t.val * 1408 + j.val, by omega⟩ : Fin 5632) := by
    blk_ext [idx t]
  exact (congrFun (u_out m c t) _).trans ((ublock_eq m c t r j).trans (congrArg (PRODS (m ((c : Thread nD τ).loc main_arg0)) (m ((c : Thread nD τ).loc main_arg1))) e.symm))

/-- The contents when the region has ended. -/
abbrev atEnd (c : Dev nD) : Valuation τ sig (Elt Ideal) :=
  Pipeline.withArrays (cfgs 0).spec c (V0 m c) fun w => (dats m 0 c).arrAt w (cfgs 0).N

/-- The activation at the region's end. -/
theorem atEnd_act (c : Dev nD) : atEnd m c (Proc.devRef .tc main_v13_0) = ACTS (m ((c : Thread nD τ).loc main_arg0)) (m ((c : Thread nD τ).loc main_arg1)) (m ((c : Thread nD τ).loc main_arg2)) (m ((c : Thread nD τ).loc main_arg3)) :=
  (Pipeline.Dat.withArrays_arrAt (dats m 0 c) sharedIn0 (V0 m c) (A_eq m c) 5).trans (final5 m c)

/-- The product at the region's end. -/
theorem atEnd_u (c : Dev nD) : atEnd m c (Proc.devRef .tc main_v13_1) = PRODS (m ((c : Thread nD τ).loc main_arg0)) (m ((c : Thread nD τ).loc main_arg1)) :=
  (Pipeline.Dat.withArrays_arrAt (dats m 0 c) sharedIn0 (V0 m c) (A_eq m c) 6).trans (final6 m c)

/-- The buffered rows at the region's end. -/
theorem atEnd_buf (c : Dev nD) : atEnd m c (Proc.devRef .tc main_arg3) = (m ((c : Thread nD τ).loc main_arg3)) := by
  refine (Pipeline.withArrays_of_ne (cfgs 0).spec c (V0 m c) (fun w => (dats m 0 c).arrAt w (cfgs 0).N) main_arg3 (by decide)).trans ?_
  exact V_main_arg3 m c

/-- The step's rows of an array. -/
abbrev cut (E : FVec Ideal S128x5632 .f32) : FVec Ideal S8x4x5632 .f32 :=
  extractStridedSlice S8x4x5632 ![0, 8, 0] (shapeCast S8x16x5632 E shapeCasts_S128x5632_S8x16x5632) slices_S8x16x5632_S8x4x5632_0_8_0

/-- The step's rows of the activation, as the lines cut them. -/
theorem line_act (σ : Valuation τ sig (Elt Ideal)) : StableHlo.after (List.flatten [hostOps1]) σ (Proc.devRef .tc main_v15)
    = extractStridedSlice S8x4x5632 ![0, 8, 0] (shapeCast S8x16x5632 (σ (Proc.devRef .tc main_v13_0)) shapeCasts_S128x5632_S8x16x5632) slices_S8x16x5632_S8x4x5632_0_8_0 := rfl

/-- The buffer handed on, as the lines make it. -/
theorem line_buf (σ : Valuation τ sig (Elt Ideal)) : StableHlo.after (List.flatten [hostOps1]) σ (Proc.devRef .tc main_v21)
    = extractStridedSlice S8x2x5632 ![0, 4, 0] (ext (σ (Proc.devRef .tc main_arg3)) (cut (σ (Proc.devRef .tc main_v13_1)))) slices_S8x6x5632_S8x2x5632_0_4_0 := rfl

/-- An entry of the step's rows. -/
theorem cut_at (E : FVec Ideal S128x5632 .f32) (b : Fin 8) (s : Fin 4) (j : Fin 5632) :
    cut E (ix3 b s j) = E (ix2 (⟨b.val * 16 + (8 + s.val), by omega⟩ : Fin 128) j) := by
  pointwise [cut]

/-- The same of the rounded rows. -/
theorem cut_at' (E : FVec Ideal S128x5632 .bf16) (b : Fin 8) (s : Fin 4) (j : Fin 5632) :
    (extractStridedSlice S8x4x5632 ![0, 8, 0] (shapeCast S8x16x5632 E shapeCasts_S128x5632_S8x16x5632) slices_S8x16x5632_S8x4x5632_0_8_0 : FVec Ideal S8x4x5632 .bf16) (ix3 b s j)
      = E (ix2 (⟨b.val * 16 + (8 + s.val), by omega⟩ : Fin 128) j) := by
  pointwise

/-- The step's rows of the product are the first half of the reference's. -/
theorem cut_prods (X : FVec Ideal S8x4x2048 .bf16) (W : FVec Ideal S4x2048x11264 .f32) : cut (PRODS X W) = half (dot X W) := by
  funext y
  obtain ⟨b, s, j, rfl⟩ : ∃ (b : Fin 8) (s : Fin 4) (j : Fin 5632), y = ix3 b s j := ⟨y 0, y 1, y 2, by idx_ext⟩
  exact (cut_at _ b s j).trans ((PZ_at X W b s _).trans (Cert.Reference8Ideal.StepUp.half_at _ b s j).symm)

/-- The activation after the run. -/
theorem tail_act (c : Dev nD) : Pipeline.afterTail₀ cfgs (dats m) 0 (V0 m) [hostOps1] c main_v15 = REF (m ((c : Thread nD τ).loc main_arg0)) (m ((c : Thread nD τ).loc main_arg1)) (m ((c : Thread nD τ).loc main_arg2)) (m ((c : Thread nD τ).loc main_arg3)) := by
  refine (line_act (atEnd m c)).trans ?_
  rw [atEnd_act m c]
  funext y
  obtain ⟨b, s, j, rfl⟩ : ∃ (b : Fin 8) (s : Fin 4) (j : Fin 5632), y = ix3 b s j := ⟨y 0, y 1, y 2, by idx_ext⟩
  exact (cut_at' _ b s j).trans (FULL_at _ _ _ _ b s j)

/-- The buffer handed on after the run. -/
theorem tail_buf (c : Dev nD) : Pipeline.afterTail₀ cfgs (dats m) 0 (V0 m) [hostOps1] c main_v21 = TAIL (m ((c : Thread nD τ).loc main_arg0)) (m ((c : Thread nD τ).loc main_arg1)) (m ((c : Thread nD τ).loc main_arg3)) := by
  refine (line_buf (atEnd m c)).trans ?_
  rw [atEnd_u m c, atEnd_buf m c, cut_prods]

end Cert.Kernel8Ideal.StepUp
end
end
-- ==== Proof.Claim8.lean ====
module

public import proofs.«01_k».proof.Defs
public import proofs.«01_k».proof.Proof.StepUp
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import Idealize.ShloMosaic.Lib.Claim
public import Idealize.ShloMosaic.Lib.Quiescent

/-! The claims about the step's up projection: the frames, and that kernel and reference end with the same two results. -/

set_option maxRecDepth 16384

@[expose] public section
noncomputable section

open Idealize.ShloMosaic Idealize.SL.Sem

namespace Cert.StepUpClaim

/-- The printed kernel runs, leaves its arguments and its counters. -/
theorem frame_kernel : Cert.quiescent_Kernel8 (hKernel8 := Cert.Kernel8.Gen.facts) := fun m g _ => Cert.Kernel8.Gen.frame m g

/-- The idealized kernel runs, leaves its arguments and its counters. -/
theorem frame_ideal : Cert.quiescent_Kernel8Ideal (hKernel8Ideal := Cert.Kernel8Ideal.Gen.facts) := fun m g _ => Cert.Kernel8Ideal.Gen.frame m g

/-- The reference runs, leaves its arguments and its counters. -/
theorem frame_reference : Cert.quiescent_Reference8Ideal (hReference8Ideal := Cert.Reference8Ideal.Gen.facts) := by
  intro m g _
  exact (θ_run Cert.Reference8Ideal.defs _ _).mono (fun r h => ⟨fun c => (h c).2.2, sem_eq_zero_of_no_sems rfl _⟩)
    (Cert.Reference8Ideal.Value.run m g)

/-- The kernel and the reference end with the same two results. -/
theorem value : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
    · exact Cert.Kernel8Ideal.Gen.W_main_arg0 m (Cert.Kernel8Ideal.Gen.dats m) c
    · exact Cert.Kernel8Ideal.Gen.W_main_arg1 m (Cert.Kernel8Ideal.Gen.dats m) c
    · exact Cert.Kernel8Ideal.Gen.W_main_arg2 m (Cert.Kernel8Ideal.Gen.dats m) c
    · exact Cert.Kernel8Ideal.Gen.W_main_arg3 m (Cert.Kernel8Ideal.Gen.dats m) c
  · run_from Cert.Reference8Ideal.Value.run m' g'
    · refine (Cert.Reference8Ideal.StepUp.out0 m' c).trans (Eq.trans ?_ (Cert.Kernel8Ideal.StepUp.tail_act m c).symm)
      rw [(hagree c).1, (hagree c).2.1, (hagree c).2.2.1, (hagree c).2.2.2]; try rfl
    · refine Eq.trans (b := Cert.Reference8Ideal.StepUp.TAIL (m (c.tc.loc Cert.Kernel8Ideal.main_arg0)) (m (c.tc.loc Cert.Kernel8Ideal.main_arg1)) (m' (c.tc.loc Cert.Reference8Ideal.main_arg3))) rfl (Eq.trans ?_ (Cert.Kernel8Ideal.StepUp.tail_buf m c).symm)
      rw [(hagree c).2.2.2]; try rfl

end Cert.StepUpClaim
end
end
-- ==== Proof.StepScanPure.lean ====
module

public import proofs.«01_k».proof.Proof.Gen.Kernel9Ideal.Skeleton
public import Idealize.ShloMosaic.Lib.Pointwise
public import Idealize.ShloMosaic.Lib.Pipeline.ValueKit

/-! The values one grid point of the step's recurrence kernel computes, read at an index. A grid point holds the sixteen rows
of one sequence: the eight heads lie side by side in the lanes of its blocks, 128 lanes a head. -/

set_option maxRecDepth 16384

@[expose] public section
noncomputable section

open Idealize.ShloMosaic Idealize.ShloMosaic.TcCoe Idealize.SL.Sem
open Cert.Kernel9Ideal Cert.Kernel9Ideal.Gen

namespace Cert.StepScan

/-- Lane `d` of head `h` among the 1024 lanes that hold eight heads of 128. -/
abbrev lane (h : Fin 8) (d : Fin 128) : Fin 1024 := ⟨128 * h.val + d.val, by omega⟩

/-- Column `j` of head `h` among the 128 lanes that hold eight heads' 16 attention columns. -/
abbrev col (h : Fin 8) (j : Fin 16) : Fin 128 := ⟨16 * h.val + j.val, by omega⟩

set_option maxHeartbeats 1600000 in
/-- The chunk's corrected values: `u − w S` for every head. -/
theorem corrected_at (S : Vec Ideal S8x128x128 .f32) (u : Vec Ideal S16x1024 .f32) (w : Vec Ideal S16x1024 .bf16)
    (h : Fin 8) (i : Fin 16) (e : Fin 128) :
    k0_pay11 (F := Ideal) S u w (ix3 h i e) =
      u (ix2 i (lane h e)) - ∑ d : Fin 128, w (ix2 i (lane h d)) * S (ix3 h d e) := by
  pointwise [k0_pay11, k0_pay10]
  fin_vals h with hk
  all_goals simp only [hk, lane, col, Nat.reduceSub, Nat.reduceLT, Nat.reduceMul, Nat.zero_add, ↓reduceDIte, zero_add]

set_option maxHeartbeats 1600000 in
/-- What the chunk reads out before its norm: the gated query with the state, and the chunk's own scores with the
corrected values. -/
theorem readout_at (S : FVec Ideal S8x128x128 .bf16) (v : FVec Ideal S8x16x128 .bf16) (q : Vec Ideal S16x1024 .bf16)
    (s : Vec Ideal S16x128 .bf16) (h : Fin 8) (i : Fin 16) (e : Fin 128) :
    k0_pay12 (F := Ideal) S v q s (ix3 h i e) =
      (∑ d : Fin 128, q (ix2 i (lane h d)) * S (ix3 h d e)) + ∑ j : Fin 16, s (ix2 i (col h j)) * v (ix3 h j e) := by
  pointwise [k0_pay12]
  fin_vals h with hk
  all_goals simp only [hk, lane, col, Nat.reduceSub, Nat.reduceLT, Nat.reduceMul, Nat.zero_add, ↓reduceDIte, zero_add]

set_option maxHeartbeats 1600000 in
/-- The state times its head's decay over the chunk. -/
theorem decayed_at (S : Vec Ideal S8x128x128 .f32) (g0 g1 g2 g3 g4 g5 g6 g7 : Vec Ideal S1x1x128 .f32)
    (h : Fin 8) (d e : Fin 128) (G : Fin 8 → EReal)
    (e0 : g0 (ix3 0 0 e) = G 0) (e1 : g1 (ix3 0 0 e) = G 1) (e2 : g2 (ix3 0 0 e) = G 2) (e3 : g3 (ix3 0 0 e) = G 3)
    (e4 : g4 (ix3 0 0 e) = G 4) (e5 : g5 (ix3 0 0 e) = G 5) (e6 : g6 (ix3 0 0 e) = G 6) (e7 : g7 (ix3 0 0 e) = G 7) :
    k0_pay15 (F := Ideal) S (k0_pay13 g0) (k0_pay14 g1) g2 g3 g4 g5 g6 g7 (ix3 h d e) = S (ix3 h d e) * G h := by
  pointwise [k0_pay15, k0_pay13, k0_pay14]
  fin_vals h with hk
  all_goals simp only [hk, Nat.reduceSub, Nat.reduceLT, ↓reduceDIte]
  all_goals first
    | exact congrArg (S (ix3 h d e) * ·) (e0.trans (congrArg G (Fin.ext (by rw [hk]; rfl))))
    | exact congrArg (S (ix3 h d e) * ·) (e1.trans (congrArg G (Fin.ext (by rw [hk]; rfl))))
    | exact congrArg (S (ix3 h d e) * ·) (e2.trans (congrArg G (Fin.ext (by rw [hk]; rfl))))
    | exact congrArg (S (ix3 h d e) * ·) (e3.trans (congrArg G (Fin.ext (by rw [hk]; rfl))))
    | exact congrArg (S (ix3 h d e) * ·) (e4.trans (congrArg G (Fin.ext (by rw [hk]; rfl))))
    | exact congrArg (S (ix3 h d e) * ·) (e5.trans (congrArg G (Fin.ext (by rw [hk]; rfl))))
    | exact congrArg (S (ix3 h d e) * ·) (e6.trans (congrArg G (Fin.ext (by rw [hk]; rfl))))
    | exact congrArg (S (ix3 h d e) * ·) (e7.trans (congrArg G (Fin.ext (by rw [hk]; rfl))))

set_option maxHeartbeats 1600000 in
/-- What the chunk adds to the state: its keys with its corrected values. -/
theorem added_at (v : FVec Ideal S8x16x128 .bf16) (k : Vec Ideal S16x1024 .bf16) (h : Fin 8) (d e : Fin 128) :
    k0_pay16 (F := Ideal) v k (ix3 h d e) = ∑ i : Fin 16, k (ix2 i (lane h d)) * v (ix3 h i e) := by
  pointwise [k0_pay16]
  fin_vals h with hk
  all_goals simp only [hk, lane, col, Nat.reduceSub, Nat.reduceLT, Nat.reduceMul, Nat.zero_add, ↓reduceDIte, zero_add]

/-- One head's normed and gated output: `o · rsqrt(mean o² + ε) · g · (z · σ(z))`. -/
def gated (o : Fin 128 → EReal) (g z : EReal) (e : Fin 128) : EReal :=
  o e * Ideal.rsqrt (Ideal.div (∑ d : Fin 128, o d * o d) (Ideal.ofBits .f32 0x43000000#32)
    + Ideal.ofBits .f32 0x358637BD#32) * g * (z * Ideal.logistic z)

set_option maxHeartbeats 1600000 in
/-- The chunk's outputs are the read-outs normed and gated. -/
theorem gated_at (o : FVec Ideal S8x16x128 .f32) (g : Vec Ideal S1x128 .f32) (z : Vec Ideal S16x1024 .f32)
    (h : Fin 8) (i : Fin 16) (e : Fin 128) :
    k0_pay18 (F := Ideal) o g z (ix3 h i e) =
      gated (fun d => o (ix3 h i d)) (g (ix2 0 e)) (z (ix2 i (lane h e))) e := by
  pointwise [k0_pay18, gated]
  fin_vals h with hk
  all_goals simp only [hk, lane, col, Nat.reduceSub, Nat.reduceLT, Nat.reduceMul, Nat.zero_add, ↓reduceDIte, zero_add]

/-- The tile of head 0 holds that head's outputs. -/
theorem tile0_at (o : FVec Ideal S8x16x128 .f32) (g : Vec Ideal S1x128 .f32) (z : Vec Ideal S16x1024 .f32) (y : S16x128.Idx) :
    k0_pay19 (F := Ideal) o g z y = k0_pay18 (F := Ideal) o g z (ix3 (0 : Fin 8) (y 0) (y 1)) := by
  pointwise [k0_pay19, k0_pay1]
  try rfl

/-- The tile of head 1 holds that head's outputs. -/
theorem tile1_at (o : FVec Ideal S8x16x128 .f32) (g : Vec Ideal S1x128 .f32) (z : Vec Ideal S16x1024 .f32) (y : S16x128.Idx) :
    k0_pay1 (F := Ideal) (k0_pay20 o g z) y = k0_pay18 (F := Ideal) o g z (ix3 (1 : Fin 8) (y 0) (y 1)) := by
  pointwise [k0_pay20, k0_pay1]
  try rfl

/-- The tile of head 2 holds that head's outputs. -/
theorem tile2_at (o : FVec Ideal S8x16x128 .f32) (g : Vec Ideal S1x128 .f32) (z : Vec Ideal S16x1024 .f32) (y : S16x128.Idx) :
    k0_pay2 (F := Ideal) (k0_pay18 o g z) y = k0_pay18 (F := Ideal) o g z (ix3 (2 : Fin 8) (y 0) (y 1)) := by
  pointwise [k0_pay2]
  try rfl

/-- The tile of head 3 holds that head's outputs. -/
theorem tile3_at (o : FVec Ideal S8x16x128 .f32) (g : Vec Ideal S1x128 .f32) (z : Vec Ideal S16x1024 .f32) (y : S16x128.Idx) :
    k0_pay3 (F := Ideal) (k0_pay18 o g z) y = k0_pay18 (F := Ideal) o g z (ix3 (3 : Fin 8) (y 0) (y 1)) := by
  pointwise [k0_pay3]
  try rfl

/-- The tile of head 4 holds that head's outputs. -/
theorem tile4_at (o : FVec Ideal S8x16x128 .f32) (g : Vec Ideal S1x128 .f32) (z : Vec Ideal S16x1024 .f32) (y : S16x128.Idx) :
    k0_pay4 (F := Ideal) (k0_pay18 o g z) y = k0_pay18 (F := Ideal) o g z (ix3 (4 : Fin 8) (y 0) (y 1)) := by
  pointwise [k0_pay4]
  try rfl

/-- The tile of head 5 holds that head's outputs. -/
theorem tile5_at (o : FVec Ideal S8x16x128 .f32) (g : Vec Ideal S1x128 .f32) (z : Vec Ideal S16x1024 .f32) (y : S16x128.Idx) :
    k0_pay5 (F := Ideal) (k0_pay18 o g z) y = k0_pay18 (F := Ideal) o g z (ix3 (5 : Fin 8) (y 0) (y 1)) := by
  pointwise [k0_pay5]
  try rfl

/-- The tile of head 6 holds that head's outputs. -/
theorem tile6_at (o : FVec Ideal S8x16x128 .f32) (g : Vec Ideal S1x128 .f32) (z : Vec Ideal S16x1024 .f32) (y : S16x128.Idx) :
    k0_pay6 (F := Ideal) (k0_pay18 o g z) y = k0_pay18 (F := Ideal) o g z (ix3 (6 : Fin 8) (y 0) (y 1)) := by
  pointwise [k0_pay6]
  try rfl

/-- The tile of head 7 holds that head's outputs. -/
theorem tile7_at (o : FVec Ideal S8x16x128 .f32) (g : Vec Ideal S1x128 .f32) (z : Vec Ideal S16x1024 .f32) (y : S16x128.Idx) :
    k0_pay7 (F := Ideal) (k0_pay18 o g z) y = k0_pay18 (F := Ideal) o g z (ix3 (7 : Fin 8) (y 0) (y 1)) := by
  pointwise [k0_pay7]
  try rfl

end Cert.StepScan
end
end
-- ==== Proof.StepScanSpec.lean ====
module

public import proofs.«01_k».proof.Proof.StepScanPure

/-! One step of the recurrence on four tokens, which both programs compute, over plain functions of sequence, token, lane and head. -/

set_option maxRecDepth 16384

@[expose] public section
noncomputable section

open Idealize.ShloMosaic

namespace Cert.StepScan

/-- The arrays of the step. -/
structure In where
  /-- the values -/
  u : Fin 8 → Fin 4 → Fin 1024 → EReal
  /-- the keys that read the state -/
  w : Fin 8 → Fin 4 → Fin 1024 → EReal
  /-- the gated queries -/
  q : Fin 8 → Fin 4 → Fin 1024 → EReal
  /-- the keys that write the state -/
  k : Fin 8 → Fin 4 → Fin 1024 → EReal
  /-- the scores among the four tokens -/
  s : Fin 8 → Fin 4 → Fin 8 → Fin 4 → EReal
  /-- a head's decay over the step -/
  g : Fin 8 → Fin 8 → EReal
  /-- the output gate -/
  z : Fin 8 → Fin 4 → Fin 1024 → EReal
  /-- the norm's weight -/
  n : Fin 128 → EReal
  /-- the state before the step -/
  s0 : Fin 8 → Fin 8 → Fin 128 → Fin 128 → EReal

variable (x : In) (b : Fin 8) (h : Fin 8)

/-- The corrected values. -/
def corr (i : Fin 4) (e : Fin 128) : EReal := x.u b i (lane h e) - ∑ d : Fin 128, x.w b i (lane h d) * x.s0 b h d e

/-- The state after the step. -/
def next (d e : Fin 128) : EReal := x.s0 b h d e * x.g b h + ∑ i : Fin 4, x.k b i (lane h d) * corr x b h i e

/-- What the step reads out. -/
def read (i : Fin 4) (e : Fin 128) : EReal :=
  (∑ d : Fin 128, x.q b i (lane h d) * x.s0 b h d e) + ∑ j : Fin 4, x.s b i h j * corr x b h j e

/-- The output at a token. -/
def outp (i : Fin 4) (e : Fin 128) : EReal := gated (read x b h i) (x.n e) (x.z b i (lane h e)) e

/-- Row `i` of the sixteen that hold four from the eighth on, with zeros around. -/
def seat (f : Fin 4 → EReal) (i : Fin 16) : EReal := if e : 8 ≤ i.val ∧ i.val < 12 then f ⟨i.val - 8, by omega⟩ else 0

/-- The row of token `j` among the sixteen. -/
abbrev row (j : Fin 4) : Fin 16 := ⟨8 + j.val, by omega⟩

/-- At a token's row stands that token. -/
theorem seat_row (f : Fin 4 → EReal) (j : Fin 4) : seat f (row j) = f j := by
  unfold seat
  rw [dif_pos ⟨by show 8 ≤ 8 + j.val; omega, by show 8 + j.val < 12; omega⟩]
  exact congrArg f (Fin.ext (by show 8 + j.val - 8 = j.val; omega))

/-- A row that isn't a token's holds zero. -/
theorem seat_other (f : Fin 4 → EReal) (i : Fin 16) (e : ¬(8 ≤ i.val ∧ i.val < 12)) : seat f i = 0 := dif_neg e

/-- A sum over the sixteen rows against seated values is the sum over the four tokens. -/
theorem sum_seat (f : Fin 4 → EReal) (g : Fin 16 → EReal) : ∑ i : Fin 16, seat f i * g i = ∑ j : Fin 4, f j * g (row j) := by
  have e1 : ∑ i : Fin 16, seat f i * g i = ∑ i : Fin 8, seat f (Fin.castAdd 8 i) * g (Fin.castAdd 8 i) + ∑ i : Fin 8, seat f (Fin.natAdd 8 i) * g (Fin.natAdd 8 i) :=
    Fin.sum_univ_add (a := 8) (b := 8) fun i : Fin 16 => seat f i * g i
  have e2 : ∑ i : Fin 8, seat f (Fin.natAdd 8 i) * g (Fin.natAdd 8 i) = ∑ j : Fin 4, seat f (Fin.natAdd 8 (Fin.castAdd 4 j)) * g (Fin.natAdd 8 (Fin.castAdd 4 j)) + ∑ j : Fin 4, seat f (Fin.natAdd 8 (Fin.natAdd 4 j)) * g (Fin.natAdd 8 (Fin.natAdd 4 j)) :=
    Fin.sum_univ_add (a := 4) (b := 4) fun i : Fin 8 => seat f (Fin.natAdd 8 i) * g (Fin.natAdd 8 i)
  have z1 : ∑ i : Fin 8, seat f (Fin.castAdd 8 i) * g (Fin.castAdd 8 i) = 0 :=
    Finset.sum_eq_zero fun i _ => by rw [seat_other f _ (by show ¬(8 ≤ i.val ∧ i.val < 12); omega), zero_mul]
  have z2 : ∑ j : Fin 4, seat f (Fin.natAdd 8 (Fin.natAdd 4 j)) * g (Fin.natAdd 8 (Fin.natAdd 4 j)) = 0 :=
    Finset.sum_eq_zero fun j _ => by rw [seat_other f _ (by show ¬(8 ≤ 8 + (4 + j.val) ∧ 8 + (4 + j.val) < 12); omega), zero_mul]
  rw [e1, e2, z1, z2, zero_add, add_zero]
  exact Finset.sum_congr rfl fun j _ => congrArg (· * g (row j)) (seat_row f j)

open Cert.Kernel9Ideal Cert.Kernel9Ideal.Gen

variable (S' : Vec Ideal S8x128x128 .f32) (U : Vec Ideal S16x1024 .f32) (W : Vec Ideal S16x1024 .bf16)

/-- The kernel's corrected values at a token's row are the step's. -/
theorem corr_at (hS : ∀ d e, S' (ix3 h d e) = x.s0 b h d e) (hU : ∀ i l, U (ix2 i l) = seat (fun j => x.u b j l) i)
    (hW : ∀ i l, W (ix2 i l) = seat (fun j => x.w b j l) i) (j : Fin 4) (e : Fin 128) :
    k0_pay11 (F := Ideal) S' U W (ix3 h (row j) e) = corr x b h j e := by
  rw [corrected_at, hU, seat_row]
  exact congrArg (x.u b j (lane h e) - ·) (Finset.sum_congr rfl fun d _ => by rw [hW, hS, seat_row])

/-- The state the kernel stores is the step's. -/
theorem next_at (K : Vec Ideal S16x1024 .bf16) (g0 g1 g2 g3 g4 g5 g6 g7 : Vec Ideal S1x1x128 .f32)
    (hS : ∀ d e, S' (ix3 h d e) = x.s0 b h d e) (hU : ∀ i l, U (ix2 i l) = seat (fun j => x.u b j l) i)
    (hW : ∀ i l, W (ix2 i l) = seat (fun j => x.w b j l) i) (hK : ∀ i l, K (ix2 i l) = seat (fun j => x.k b j l) i) (d e : Fin 128)
    (e0 : g0 (ix3 0 0 e) = x.g b 0) (e1 : g1 (ix3 0 0 e) = x.g b 1) (e2 : g2 (ix3 0 0 e) = x.g b 2)
    (e3 : g3 (ix3 0 0 e) = x.g b 3) (e4 : g4 (ix3 0 0 e) = x.g b 4) (e5 : g5 (ix3 0 0 e) = x.g b 5)
    (e6 : g6 (ix3 0 0 e) = x.g b 6) (e7 : g7 (ix3 0 0 e) = x.g b 7) :
    k0_pay17 (F := Ideal) (k0_pay15 S' (k0_pay13 g0) (k0_pay14 g1) g2 g3 g4 g5 g6 g7) (k0_pay16 (k0_pay11 S' U W) K)
      (ix3 h d e) = next x b h d e := by
  pointwise [k0_pay17]
  rw [decayed_at S' g0 g1 g2 g3 g4 g5 g6 g7 h d e (x.g b) e0 e1 e2 e3 e4 e5 e6 e7, added_at, hS]
  refine congrArg (x.s0 b h d e * x.g b h + ·) ?_
  refine (Finset.sum_congr rfl fun i _ => by rw [hK]).trans ((sum_seat _ _).trans (Finset.sum_congr rfl fun j _ => ?_))
  exact congrArg (x.k b j (lane h d) * ·) (corr_at x b h S' U W hS hU hW j e)

/-- The outputs the kernel stores at a token's row are the step's. -/
theorem outp_at (Q : Vec Ideal S16x1024 .bf16) (R : Vec Ideal S16x128 .bf16) (N : Vec Ideal S1x128 .f32)
    (Z : Vec Ideal S16x1024 .f32)
    (hS : ∀ d e, S' (ix3 h d e) = x.s0 b h d e) (hU : ∀ i l, U (ix2 i l) = seat (fun j => x.u b j l) i)
    (hW : ∀ i l, W (ix2 i l) = seat (fun j => x.w b j l) i) (hQ : ∀ i l, Q (ix2 i l) = seat (fun j => x.q b j l) i)
    (hR : ∀ i h j, R (ix2 i (col h j)) = seat (fun i => seat (fun j => x.s b i h j) j) i) (hN : ∀ e, N (ix2 0 e) = x.n e)
    (hZ : ∀ i l, Z (ix2 i l) = seat (fun j => x.z b j l) i) (i : Fin 4) (e : Fin 128) :
    k0_pay18 (F := Ideal) (k0_pay12 (k0_pay10 S') (k0_pay11 S' U W) Q R) N Z (ix3 h (row i) e) = outp x b h i e := by
  rw [gated_at, hN, hZ, seat_row]
  unfold outp
  refine congrArg (fun f => gated f (x.n e) (x.z b i (lane h e)) e) (funext fun e => ?_)
  rw [readout_at]
  refine congrArg₂ (· + ·) (Finset.sum_congr rfl fun d _ => ?_) ?_
  · pointwise [k0_pay10]
    rw [hQ, hS, seat_row]
  · refine (Finset.sum_congr rfl fun j _ => by rw [hR, seat_row]).trans ((sum_seat _ _).trans (Finset.sum_congr rfl fun j _ => ?_))
    exact congrArg (x.s b i h j * ·) (corr_at x b h S' U W hS hU hW j e)

end Cert.StepScan
end
end
-- ==== Proof.StepScanRef.lean ====
module

public import proofs.«01_k».proof.Proof.StepScanSpec
public import proofs.«01_k».proof.Proof.Gen.Reference9Ideal.Run
public import Idealize.ShloMosaic.Lib.Pointwise

/-! The reference's two results are the step's output and its state. -/

set_option maxRecDepth 16384

@[expose] public section
noncomputable section

open Idealize.ShloMosaic Idealize.ShloMosaic.TcCoe Idealize.SL.Sem

namespace Cert.StepScan.R

open Cert.Reference9Ideal Cert.Reference9Ideal.Gen

/-- Tokens by heads of 128 lanes, heads first. -/
abbrev heads (T : FVec Ideal S8x4x1024 .f32) : FVec Ideal S8x8x4x128 .f32 :=
  transpose S8x8x4x128 [0, 2, 1, 3] (shapeCast S8x4x8x128 T shapeCasts_S8x4x1024_S8x4x8x128) transposes_S8x4x8x128_S8x8x4x128_0_2_1_3

/-- The same of a rounded array. -/
abbrev heads' (T : FVec Ideal S8x4x1024 .bf16) : FVec Ideal S8x8x4x128 .f32 :=
  transpose S8x8x4x128 [0, 2, 1, 3] (shapeCast S8x4x8x128 (extf .f32 T bitsLt_bf16_f32) shapeCasts_S8x4x1024_S8x4x8x128) transposes_S8x4x8x128_S8x8x4x128_0_2_1_3

/-- The scores, heads first. -/
abbrev scores (T : FVec Ideal S8x4x8x4 .bf16) : FVec Ideal S8x8x4x4 .f32 :=
  transpose S8x8x4x4 [0, 2, 1, 3] (extf .f32 T bitsLt_bf16_f32) transposes_S8x4x8x4_S8x8x4x4_0_2_1_3

/-- An array times the state. -/
abbrev onState (A : FVec Ideal S8x8x4x128 .f32) (S : FVec Ideal S8x8x128x128 .f32) : FVec Ideal S8x8x4x128 .f32 :=
  Host.dotGeneral dot_S8x8x4x128_S8x8x128x128_S8x8x4x128_3_2_2_3_01_01 none A S

/-- The scores times values. -/
abbrev onValues (A : FVec Ideal S8x8x4x4 .f32) (C : FVec Ideal S8x8x4x128 .f32) : FVec Ideal S8x8x4x128 .f32 :=
  Host.dotGeneral dot_S8x8x4x4_S8x8x4x128_S8x8x4x128_3_2_2_3_01_01 none A C

/-- The decays, repeated over a head's state. -/
abbrev decays (G : FVec Ideal S8x8 .f32) : FVec Ideal S8x8x128x128 .f32 :=
  broadcastInDim S8x8x128x128 ![0, 1, 2, 3] bcast_S8x8x1x1_S8x8x128x128_0_1_2_3 (broadcastInDim S8x8x1x1 ![0, 1] bcast_S8x8_S8x8x1x1_0_1 G)

/-- What keys and values add to the state. -/
abbrev outer (A C : FVec Ideal S8x8x4x128 .f32) : FVec Ideal S8x8x128x128 .f32 :=
  Host.dotGeneral dot_S8x8x128x4_S8x8x4x128_S8x8x128x128_3_2_2_3_01_01 none (transpose S8x8x128x4 [0, 1, 3, 2] A transposes_S8x8x4x128_S8x8x128x4_0_1_3_2) C

/-- Heads, read at a head's lane. -/
theorem heads_at (T : FVec Ideal S8x4x1024 .f32) (b h : Fin 8) (i : Fin 4) (e : Fin 128) : heads T (ix4 b h i e) = T (ix3 b i (lane h e)) := by
  pointwise [heads]
  exact congrArg (fun l : Fin 1024 => T (ix3 b i l)) (Fin.ext (by show h.val * 128 + e.val = 128 * h.val + e.val; omega))

/-- The same of a rounded array. -/
theorem heads'_at (T : FVec Ideal S8x4x1024 .bf16) (b h : Fin 8) (i : Fin 4) (e : Fin 128) : heads' T (ix4 b h i e) = T (ix3 b i (lane h e)) := by
  pointwise [heads']
  exact congrArg (fun l : Fin 1024 => T (ix3 b i l)) (Fin.ext (by show h.val * 128 + e.val = 128 * h.val + e.val; omega))

/-- The scores at an element. -/
theorem scores_at (T : FVec Ideal S8x4x8x4 .bf16) (b h : Fin 8) (i j : Fin 4) : scores T (ix4 b h i j) = T (ix4 b i h j) := by
  pointwise [scores]

/-- A product with the state at an element. -/
theorem onState_at (A : FVec Ideal S8x8x4x128 .f32) (S : FVec Ideal S8x8x128x128 .f32) (b h : Fin 8) (i : Fin 4) (e : Fin 128) :
    onState A S (ix4 b h i e) = (∑ d : Fin 128, A (ix4 b h i d) * S (ix4 b h d e) : EReal) := by
  pointwise [onState]

/-- A product of scores and values at an element. -/
theorem onValues_at (A : FVec Ideal S8x8x4x4 .f32) (C : FVec Ideal S8x8x4x128 .f32) (b h : Fin 8) (i : Fin 4) (e : Fin 128) :
    onValues A C (ix4 b h i e) = (∑ j : Fin 4, A (ix4 b h i j) * C (ix4 b h j e) : EReal) := by
  pointwise [onValues]

/-- The decays at an element. -/
theorem decays_at (G : FVec Ideal S8x8 .f32) (b h : Fin 8) (d e : Fin 128) : decays G (ix4 b h d e) = G (ix2 b h) := by
  pointwise [decays]

/-- What is added to the state, at an element. -/
theorem outer_at (A C : FVec Ideal S8x8x4x128 .f32) (b h : Fin 8) (d e : Fin 128) :
    outer A C (ix4 b h d e) = (∑ j : Fin 4, A (ix4 b h j d) * C (ix4 b h j e) : EReal) := by
  pointwise [outer]

/-- The corrected values. -/
abbrev CORR (u : FVec Ideal S8x4x1024 .f32) (w : FVec Ideal S8x4x1024 .bf16) (S : FVec Ideal S8x8x128x128 .f32) : FVec Ideal S8x8x4x128 .f32 :=
  subf (heads u) (onState (heads' w) S)

/-- The read-out. -/
abbrev READ (u : FVec Ideal S8x4x1024 .f32) (w q : FVec Ideal S8x4x1024 .bf16) (s : FVec Ideal S8x4x8x4 .bf16) (S : FVec Ideal S8x8x128x128 .f32) :
    FVec Ideal S8x8x4x128 .f32 := addf (onState (heads' q) S) (onValues (scores s) (CORR u w S))

/-- The state after the step. -/
abbrev NEXT (u : FVec Ideal S8x4x1024 .f32) (w k : FVec Ideal S8x4x1024 .bf16) (g : FVec Ideal S8x8 .f32) (S : FVec Ideal S8x8x128x128 .f32) :
    FVec Ideal S8x8x128x128 .f32 := addf (mulf S (decays g)) (outer (heads' k) (CORR u w S))

variable (m : (ℓ : Loc nD τ sig) → Buf (Elt Ideal) ℓ)

/-- The step's arrays as arguments hold them. -/
def pack (u : FVec Ideal S8x4x1024 .f32) (w q k : FVec Ideal S8x4x1024 .bf16) (s : FVec Ideal S8x4x8x4 .bf16) (g : FVec Ideal S8x8 .f32)
    (z : FVec Ideal S8x4x1024 .f32) (n : FVec Ideal S128 .f32) (S : FVec Ideal S8x8x128x128 .f32) : In where
  u := fun b t l => u (ix3 b t l)
  w := fun b t l => w (ix3 b t l)
  q := fun b t l => q (ix3 b t l)
  k := fun b t l => k (ix3 b t l)
  s := fun b i h j => s (ix4 b i h j)
  g := fun b h => g (ix2 b h)
  z := fun b t l => z (ix3 b t l)
  n := fun e => n (ix1 e)
  s0 := fun b h d e => S (ix4 b h d e)

variable (u : FVec Ideal S8x4x1024 .f32) (w q k : FVec Ideal S8x4x1024 .bf16) (s : FVec Ideal S8x4x8x4 .bf16) (g : FVec Ideal S8x8 .f32)
    (z : FVec Ideal S8x4x1024 .f32) (n : FVec Ideal S128 .f32) (S : FVec Ideal S8x8x128x128 .f32)

/-- The corrected values are the step's. -/
theorem CORR_at (b h : Fin 8) (i : Fin 4) (e : Fin 128) : CORR u w S (ix4 b h i e) = corr (pack u w q k s g z n S) b h i e := by
  show heads u (ix4 b h i e) - onState (heads' w) S (ix4 b h i e) = _
  rw [heads_at, onState_at]
  exact congrArg (u (ix3 b i (lane h e)) - ·) (Finset.sum_congr rfl fun d _ => by rw [heads'_at]; rfl)

/-- The read-out is the step's. -/
theorem READ_at (b h : Fin 8) (i : Fin 4) (e : Fin 128) : READ u w q s S (ix4 b h i e) = read (pack u w q k s g z n S) b h i e := by
  show onState (heads' q) S (ix4 b h i e) + onValues (scores s) (CORR u w S) (ix4 b h i e) = _
  rw [onState_at, onValues_at]
  refine congrArg₂ (· + ·) (Finset.sum_congr rfl fun d _ => by rw [heads'_at]; rfl) (Finset.sum_congr rfl fun j _ => ?_)
  rw [scores_at, CORR_at u w q k s g z n S]
  rfl

/-- The state after the step is the step's. -/
theorem NEXT_at (b h : Fin 8) (d e : Fin 128) : NEXT u w k g S (ix4 b h d e) = next (pack u w q k s g z n S) b h d e := by
  show S (ix4 b h d e) * decays g (ix4 b h d e) + outer (heads' k) (CORR u w S) (ix4 b h d e) = _
  rw [decays_at, outer_at]
  refine congrArg (S (ix4 b h d e) * g (ix2 b h) + ·) (Finset.sum_congr rfl fun j _ => ?_)
  rw [heads'_at, CORR_at u w q k s g z n S]
  rfl

/-- A read-out normed and gated, as the reference writes it. -/
abbrev GATE (O : FVec Ideal S8x8x4x128 .f32) (n : FVec Ideal S128 .f32) (z : FVec Ideal S8x4x1024 .f32) : FVec Ideal S8x4x1024 .bf16 :=
  truncf .bf16 (shapeCast S8x4x1024 (mulf (mulf (mulf (transpose S8x4x8x128 [0, 2, 1, 3] O transposes_S8x8x4x128_S8x4x8x128_0_2_1_3) (broadcastInDim S8x4x8x128 ![0, 1, 2, 3] bcast_S8x4x8x1_S8x4x8x128_0_1_2_3 (Host.rsqrt (addf (Host.divf (broadcastInDim S8x4x8x1 ![0, 1, 2] bcast_S8x4x8_S8x4x8x1_0_1_2 (Host.reduceAdd (mulf (transpose S8x4x8x128 [0, 2, 1, 3] O transposes_S8x8x4x128_S8x4x8x128_0_2_1_3) (transpose S8x4x8x128 [0, 2, 1, 3] O transposes_S8x8x4x128_S8x4x8x128_0_2_1_3)) (constant S_ .f32 0x00000000#32) reducesTo_S8x4x8x128_S8x4x8_d3 h_S_)) (broadcastInDim S8x4x8x1 ![] bcast_S_S8x4x8x1 (constant S_ .f32 0x43000000#32))) (broadcastInDim S8x4x8x1 ![] bcast_S_S8x4x8x1 (constant S_ .f32 0x358637BD#32)))))) (broadcastInDim S8x4x8x128 ![0, 1, 2, 3] bcast_S1x1x1x128_S8x4x8x128_0_1_2_3 (broadcastInDim S1x1x1x128 ![3] bcast_S128_S1x1x1x128_3 n))) (mulf (shapeCast S8x4x8x128 z shapeCasts_S8x4x1024_S8x4x8x128) (Host.divf (broadcastInDim S8x4x8x128 ![] bcast_S_S8x4x8x128 (constant S_ .f32 0x3F800000#32)) (addf (broadcastInDim S8x4x8x128 ![] bcast_S_S8x4x8x128 (constant S_ .f32 0x3F800000#32)) (Host.exp (Host.negf (shapeCast S8x4x8x128 z shapeCasts_S8x4x1024_S8x4x8x128))))))) shapeCasts_S8x4x8x128_S8x4x1024) bitsLt_bf16_f32

/-- The head of a lane. -/
abbrev hd (l : Fin 1024) : Fin 8 := ⟨l.val / 128, by omega⟩
/-- A lane's number within its head. -/
abbrev ln (l : Fin 1024) : Fin 128 := ⟨l.val % 128, Nat.mod_lt _ (by decide)⟩

set_option maxHeartbeats 1600000 in
/-- The normed and gated read-out at an element. -/
theorem GATE_at (O : FVec Ideal S8x8x4x128 .f32) (b : Fin 8) (i : Fin 4) (l : Fin 1024) :
    GATE O n z (ix3 b i l) = gated (fun e => O (ix4 b (hd l) i e)) (n (ix1 (ln l))) (z (ix3 b i l)) (ln l) := by
  unfold GATE gated
  pointwise
  rfl

/-- The reference's output is the step's. -/
theorem out_at (b : Fin 8) (i : Fin 4) (l : Fin 1024) :
    GATE (READ u w q s S) n z (ix3 b i l) = outp (pack u w q k s g z n S) b (hd l) i (ln l) := by
  rw [GATE_at]
  unfold outp
  have e : (fun e => READ u w q s S (ix4 b (hd l) i e)) = read (pack u w q k s g z n S) b (hd l) i := funext fun e => READ_at u w q k s g z n S b (hd l) i e
  rw [e]
  exact congrArg (fun j : Fin 1024 => gated (read (pack u w q k s g z n S) b (hd l) i) (n (ix1 (ln l))) (z (ix3 b i j)) (ln l)) (Fin.ext (by show l.val = 128 * (l.val / 128) + l.val % 128; omega))

/-- The reference's first result, as it ends. -/
theorem out0 (c : Dev nD) : Value.res_out0 m c
    = GATE (READ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg8)))
      (m ((c.tc : Thread nD τ).loc main_arg7)) (m ((c.tc : Thread nD τ).loc main_arg6)) := by
  unfold Value.res_out0 Value.res_main_v42; rfl

end Cert.StepScan.R
end
end
-- ==== Proof.StepScanStep.lean ====
module

public import proofs.«01_k».proof.Proof.StepScanSpec
public import proofs.«01_k».proof.Proof.StepScanRef
public import proofs.«01_k».proof.Proof.Gen.Kernel9Ideal.Frame
public import Idealize.ShloMosaic.Lib.Claim

/-! The step's recurrence kernel, point by point: the output block holds the step's normed and gated read-out at the tokens' rows,
and the state's block the state after the step. -/

set_option maxRecDepth 16384

@[expose] public section
noncomputable section

open Idealize.ShloMosaic Idealize.ShloMosaic.TcCoe Idealize.SL.Sem
open Idealize.ShloMosaic.Pipeline (Dat)
open Cert.Kernel9Ideal Cert.Kernel9Ideal.Gen

namespace Cert.StepScan.K

variable (m : (ℓ : Loc nD τ sig) → Buf (Elt Ideal) ℓ)

/-- The step's arrays as the kernel's arguments hold them. -/
def args (c : Dev nD) : In := R.pack (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8))

/-- The windows' block indices: the sequence's number. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0, 0]
    ∧ win0_6.index t = ![t.val, 4] ∧ win0_7.index t = ![0, 0] ∧ win0_8.index t = ![t.val, 0, 0, 0]
    ∧ win0_9.index t = ![t.val, 0] ∧ win0_10.index t = ![t.val, 0, 0, 0] :=
  (by decide +kernel : ∀ t : Fin grid0.N, _)

/-- There are eight points. -/
theorem lt8 : ∀ t : Fin cfg0.N, t.val < 8 := (by decide +kernel : ∀ t : Fin grid0.N, t.val < 8)

/-- The sequence of grid point `t`. -/
abbrev sq (t : Fin cfg0.N) : Fin 8 := ⟨t.val, lt8 t⟩

/-- The number zero, as a real number. -/
theorem nil_eq (t : FTy) : (FloatOps.sitofp t (0#32 : BitVec 32) : Ideal t) = (0 : EReal) := by
  show (((0#32 : BitVec 32).toInt : ℝ) : EReal) = 0
  norm_num

/-- The sequence of a row. -/
abbrev rs (r : Fin 128) : Fin 8 := ⟨r.val / 16, by omega⟩
/-- A row's number within its sequence. -/
abbrev rr (r : Fin 128) : Fin 16 := ⟨r.val % 16, Nat.mod_lt _ (by decide)⟩

/-- The placed values, read at a row. -/
theorem entry_u (c : Dev nD) (r : Fin 128) (l : Fin 1024) :
    V m c main_v7 (ix2 r l) = seat (fun j => m ((c : Thread nD τ).loc main_arg0) (ix3 (rs r) j l)) (rr r) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  unfold seat
  by_cases e : 8 ≤ (rr r).val ∧ (rr r).val < 12
  · have e1 : 8 ≤ r.val % 16 := e.1
    have e2 : r.val % 16 < 12 := e.2
    rw [dif_pos ⟨by omega, by omega, by omega⟩, dif_pos e]
  · rw [dif_neg (fun h => e ⟨h.2.1, by show r.val % 16 < 12; omega⟩), dif_neg e]
    exact nil_eq _

/-- The block of values at a grid point. -/
theorem blk_u (c : Dev nD) (t : Fin cfg0.N) (i : Fin 16) (l : Fin 1024) :
    iblk m c 0 t (ix2 i l) = seat (fun j => (args m c).u (sq t) j l) i := by
  have ht := lt8 t
  refine (congrArg (V m c main_v7) (?_ : ((cfg0.win 0).blk t).view.emb (ix2 i l) = ix2 (⟨16 * t.val + i.val, by omega⟩ : Fin 128) l)).trans
    ((entry_u m c _ _).trans ?_)
  · blk_ext [idx t]
  · have e1 : rs ⟨16 * t.val + i.val, by omega⟩ = sq t := Fin.ext (by show (16 * t.val + i.val) / 16 = t.val; omega)
    have e2 : rr ⟨16 * t.val + i.val, by omega⟩ = i := Fin.ext (by show (16 * t.val + i.val) % 16 = i.val; omega)
    rw [e1, e2]
    rfl

/-- The placed state-reading keys, read at a row. -/
theorem entry_w (c : Dev nD) (r : Fin 128) (l : Fin 1024) :
    V m c main_v9 (ix2 r l) = seat (fun j => m ((c : Thread nD τ).loc main_arg1) (ix3 (rs r) j l)) (rr r) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  unfold seat
  by_cases e : 8 ≤ (rr r).val ∧ (rr r).val < 12
  · have e1 : 8 ≤ r.val % 16 := e.1
    have e2 : r.val % 16 < 12 := e.2
    rw [dif_pos ⟨by omega, by omega, by omega⟩, dif_pos e]
  · rw [dif_neg (fun h => e ⟨h.2.1, by show r.val % 16 < 12; omega⟩), dif_neg e]
    exact nil_eq _

/-- The block of state-reading keys at a grid point. -/
theorem blk_w (c : Dev nD) (t : Fin cfg0.N) (i : Fin 16) (l : Fin 1024) :
    iblk m c 1 t (ix2 i l) = seat (fun j => (args m c).w (sq t) j l) i := by
  have ht := lt8 t
  refine (congrArg (V m c main_v9) (?_ : ((cfg0.win 1).blk t).view.emb (ix2 i l) = ix2 (⟨16 * t.val + i.val, by omega⟩ : Fin 128) l)).trans
    ((entry_w m c _ _).trans ?_)
  · blk_ext [idx t]
  · have e1 : rs ⟨16 * t.val + i.val, by omega⟩ = sq t := Fin.ext (by show (16 * t.val + i.val) / 16 = t.val; omega)
    have e2 : rr ⟨16 * t.val + i.val, by omega⟩ = i := Fin.ext (by show (16 * t.val + i.val) % 16 = i.val; omega)
    rw [e1, e2]
    rfl

/-- The placed queries, read at a row. -/
theorem entry_q (c : Dev nD) (r : Fin 128) (l : Fin 1024) :
    V m c main_v11 (ix2 r l) = seat (fun j => m ((c : Thread nD τ).loc main_arg2) (ix3 (rs r) j l)) (rr r) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  unfold seat
  by_cases e : 8 ≤ (rr r).val ∧ (rr r).val < 12
  · have e1 : 8 ≤ r.val % 16 := e.1
    have e2 : r.val % 16 < 12 := e.2
    rw [dif_pos ⟨by omega, by omega, by omega⟩, dif_pos e]
  · rw [dif_neg (fun h => e ⟨h.2.1, by show r.val % 16 < 12; omega⟩), dif_neg e]
    exact nil_eq _

/-- The block of queries at a grid point. -/
theorem blk_q (c : Dev nD) (t : Fin cfg0.N) (i : Fin 16) (l : Fin 1024) :
    iblk m c 2 t (ix2 i l) = seat (fun j => (args m c).q (sq t) j l) i := by
  have ht := lt8 t
  refine (congrArg (V m c main_v11) (?_ : ((cfg0.win 2).blk t).view.emb (ix2 i l) = ix2 (⟨16 * t.val + i.val, by omega⟩ : Fin 128) l)).trans
    ((entry_q m c _ _).trans ?_)
  · blk_ext [idx t]
  · have e1 : rs ⟨16 * t.val + i.val, by omega⟩ = sq t := Fin.ext (by show (16 * t.val + i.val) / 16 = t.val; omega)
    have e2 : rr ⟨16 * t.val + i.val, by omega⟩ = i := Fin.ext (by show (16 * t.val + i.val) % 16 = i.val; omega)
    rw [e1, e2]
    rfl

/-- The placed state-writing keys, read at a row. -/
theorem entry_k (c : Dev nD) (r : Fin 128) (l : Fin 1024) :
    V m c main_v13 (ix2 r l) = seat (fun j => m ((c : Thread nD τ).loc main_arg3) (ix3 (rs r) j l)) (rr r) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  unfold seat
  by_cases e : 8 ≤ (rr r).val ∧ (rr r).val < 12
  · have e1 : 8 ≤ r.val % 16 := e.1
    have e2 : r.val % 16 < 12 := e.2
    rw [dif_pos ⟨by omega, by omega, by omega⟩, dif_pos e]
  · rw [dif_neg (fun h => e ⟨h.2.1, by show r.val % 16 < 12; omega⟩), dif_neg e]
    exact nil_eq _

/-- The block of state-writing keys at a grid point. -/
theorem blk_k (c : Dev nD) (t : Fin cfg0.N) (i : Fin 16) (l : Fin 1024) :
    iblk m c 3 t (ix2 i l) = seat (fun j => (args m c).k (sq t) j l) i := by
  have ht := lt8 t
  refine (congrArg (V m c main_v13) (?_ : ((cfg0.win 3).blk t).view.emb (ix2 i l) = ix2 (⟨16 * t.val + i.val, by omega⟩ : Fin 128) l)).trans
    ((entry_k m c _ _).trans ?_)
  · blk_ext [idx t]
  · have e1 : rs ⟨16 * t.val + i.val, by omega⟩ = sq t := Fin.ext (by show (16 * t.val + i.val) / 16 = t.val; omega)
    have e2 : rr ⟨16 * t.val + i.val, by omega⟩ = i := Fin.ext (by show (16 * t.val + i.val) % 16 = i.val; omega)
    rw [e1, e2]
    rfl

/-- A placed pair of rows, by the places' conditions taken together. -/
theorem pick (A : Fin 8 → Fin 4 → Fin 8 → Fin 4 → EReal) (r l : Fin 128) :
    (if h : r.val / 16 < 8 ∧ (8 ≤ r.val % 16 ∧ r.val % 16 - 8 < 4) ∧ l.val / 16 < 8 ∧ 8 ≤ l.val % 16 ∧ l.val % 16 - 8 < 4 then
      A ⟨r.val / 16, h.1⟩ ⟨r.val % 16 - 8, h.2.1.2⟩ ⟨l.val / 16, h.2.2.1⟩ ⟨l.val % 16 - 8, h.2.2.2.2⟩ else 0)
      = seat (fun i => seat (fun j => A (rs r) i (rs l) j) (rr l)) (rr r) := by
  unfold seat
  by_cases e : 8 ≤ (rr r).val ∧ (rr r).val < 12
  · have e1 : 8 ≤ r.val % 16 := e.1
    have e2 : r.val % 16 < 12 := e.2
    rw [dif_pos e]
    beta_reduce
    by_cases f : 8 ≤ (rr l).val ∧ (rr l).val < 12
    · have f1 : 8 ≤ l.val % 16 := f.1
      have f2 : l.val % 16 < 12 := f.2
      rw [dif_pos ⟨by omega, ⟨by omega, by omega⟩, by omega, by omega, by omega⟩]
      rw [dif_pos f]
    · rw [dif_neg (fun h => f ⟨h.2.2.2.1, by show l.val % 16 < 12; omega⟩)]
      rw [dif_neg f]
  · rw [dif_neg (fun h => e ⟨h.2.1.1, by show r.val % 16 < 12; omega⟩), dif_neg e]

/-- The placed scores, read at a row. -/
theorem entry_s (c : Dev nD) (r l : Fin 128) :
    V m c main_v1 (ix2 r l) = seat (fun i => seat (fun j => m ((c : Thread nD τ).loc main_arg4) (ix4 (rs r) i (rs l) j)) (rr l)) (rr r) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  rw [nil_eq]
  exact pick (fun b i h j => m ((c : Thread nD τ).loc main_arg4) (ix4 b i h j)) r l

/-- The block of scores at a grid point. -/
theorem blk_s (c : Dev nD) (t : Fin cfg0.N) (i : Fin 16) (h : Fin 8) (j : Fin 16) :
    iblk m c 4 t (ix2 i (col h j)) = seat (fun i => seat (fun j => (args m c).s (sq t) i h j) j) i := by
  have ht := lt8 t
  refine (congrArg (V m c main_v1) (?_ : ((cfg0.win 4).blk t).view.emb (ix2 i (col h j)) = ix2 (⟨16 * t.val + i.val, by omega⟩ : Fin 128) (col h j))).trans
    ((entry_s m c _ _).trans ?_)
  · blk_ext [idx t]
  · have e1 : rs ⟨16 * t.val + i.val, by omega⟩ = sq t := Fin.ext (by show (16 * t.val + i.val) / 16 = t.val; omega)
    have e2 : rr ⟨16 * t.val + i.val, by omega⟩ = i := Fin.ext (by show (16 * t.val + i.val) % 16 = i.val; omega)
    have e3 : rs (col h j) = h := Fin.ext (by show (16 * h.val + j.val) / 16 = h.val; omega)
    have e4 : rr (col h j) = j := Fin.ext (by show (16 * h.val + j.val) % 16 = j.val; omega)
    rw [e1, e2, e3, e4]
    rfl

/-- The placed output gates, read at a column of the gates. -/
theorem entry_z (c : Dev nD) (r : Fin 128) (l : Fin 1024) :
    V m c main_v5 (ix2 r (⟨4096 + l.val, by omega⟩ : Fin 7168)) = seat (fun j => m ((c : Thread nD τ).loc main_arg6) (ix3 (rs r) j l)) (rr r) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  unfold seat
  by_cases e : 8 ≤ (rr r).val ∧ (rr r).val < 12
  · have e1 : 8 ≤ r.val % 16 := e.1
    have e2 : r.val % 16 < 12 := e.2
    rw [dif_pos ⟨by omega, by omega, by omega⟩, dif_pos e]
  · rw [dif_neg (fun h => e ⟨h.2.1, by show r.val % 16 < 12; omega⟩), dif_neg e]
    exact nil_eq _

/-- The block of output gates at a grid point. -/
theorem blk_z (c : Dev nD) (t : Fin cfg0.N) (i : Fin 16) (l : Fin 1024) :
    iblk m c 6 t (ix2 i l) = seat (fun j => (args m c).z (sq t) j l) i := by
  have ht := lt8 t
  refine (congrArg (V m c main_v5) (?_ : ((cfg0.win 6).blk t).view.emb (ix2 i l) = ix2 (⟨16 * t.val + i.val, by omega⟩ : Fin 128) (⟨4096 + l.val, by omega⟩ : Fin 7168))).trans
    ((entry_z m c _ _).trans ?_)
  · blk_ext [idx t]
  · have e1 : rs ⟨16 * t.val + i.val, by omega⟩ = sq t := Fin.ext (by show (16 * t.val + i.val) / 16 = t.val; omega)
    have e2 : rr ⟨16 * t.val + i.val, by omega⟩ = i := Fin.ext (by show (16 * t.val + i.val) % 16 = i.val; omega)
    rw [e1, e2]
    rfl

/-- The decays, one row a head. -/
theorem entry_g (c : Dev nD) (r h : Fin 8) (l : Fin 128) :
    V m c main_v3 (ix3 r h l) = m ((c : Thread nD τ).loc main_arg5) (ix2 r h) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The block of decays at a grid point, one row a head. -/
theorem blk_g (c : Dev nD) (t : Fin cfg0.N) (h : Fin 8) (l : Fin 128) :
    iblk m c 5 t (ix3 0 h l) = (args m c).g (sq t) h := by
  have ht := lt8 t
  refine (congrArg (V m c main_v3) (?_ : ((cfg0.win 5).blk t).view.emb (ix3 0 h l) = ix3 (⟨t.val, ht⟩ : Fin 8) h l)).trans
    (entry_g m c _ _ _)
  blk_ext [idx t]

/-- The norm's weight as one row. -/
theorem entry_n (c : Dev nD) (l : Fin 128) : V m c main_v14 (ix2 0 l) = m ((c : Thread nD τ).loc main_arg7) (ix1 l) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The norm's weight at a grid point. -/
theorem blk_n (c : Dev nD) (t : Fin cfg0.N) (l : Fin 128) :
    iblk m c 7 t (ix2 0 l) = (args m c).n l := by
  have ht := lt8 t
  refine (congrArg (V m c main_v14) (?_ : ((cfg0.win 7).blk t).view.emb (ix2 0 l) = ix2 0 l)).trans (entry_n m c l)
  blk_ext [idx t]

/-- The states' block at a grid point. -/
theorem blk_s0 (c : Dev nD) (t : Fin cfg0.N) (h : Fin 8) (d e : Fin 128) :
    iblk m c 8 t (ix4 0 h d e) = (args m c).s0 (sq t) h d e := by
  have ht := lt8 t
  refine (congrArg (V m c main_arg8) (?_ : ((cfg0.win 8).blk t).view.emb (ix4 0 h d e) = ix4 (sq t) h d e)).trans
    (congrFun (V_main_arg8 m c) _)
  blk_ext [idx t]

end Cert.StepScan.K
end
end
-- ==== Proof.StepScanRun.lean ====
module

public import proofs.«01_k».proof.Proof.StepScanStep

/-! The step's recurrence kernel's run: its two arrays after the region are the reference's results. -/

set_option maxRecDepth 16384

@[expose] public section
noncomputable section

open Idealize.ShloMosaic Idealize.ShloMosaic.TcCoe Idealize.SL.Sem
open Idealize.ShloMosaic.Pipeline (Dat)
open Cert.Kernel9Ideal Cert.Kernel9Ideal.Gen

namespace Cert.StepScan.K

variable (m : (ℓ : Loc nD τ sig) → Buf (Elt Ideal) ℓ)

/-- An output is determined by the numbers of its sequence, head, token and lane. -/
theorem outp_congr (x : In) {b b' h h' : Fin 8} {i i' : Fin 4} {e e' : Fin 128} (hb : b.val = b'.val) (hh : h.val = h'.val)
    (hi : i.val = i'.val) (he : e.val = e'.val) : outp x b h i e = outp x b' h' i' e' := by
  obtain rfl := Fin.ext hb; obtain rfl := Fin.ext hh; obtain rfl := Fin.ext hi; obtain rfl := Fin.ext he; rfl

/-- What a grid point computes for a token's row of its output's block, from the state before the step. -/
theorem out_at (c : Dev nD) (t : Fin cfg0.N) (S' : Vec Ideal S8x128x128 .f32)
    (hS : ∀ h d e, S' (ix3 h d e) = (args m c).s0 (sq t) h d e)
    (h : Fin 8) (r : Fin 16) (e : Fin 128) (i : Fin 4) (hr : r.val = 8 + i.val) :
    k0_pay18 (F := Ideal) (k0_pay12 (k0_pay10 S') (k0_pay11 S' (iblk m c 0 t) (iblk m c 1 t)) (iblk m c 2 t) (iblk m c 4 t))
      (iblk m c 7 t) (iblk m c 6 t) (ix3 h r e) = outp (args m c) (sq t) h i e := by
  obtain rfl : r = row i := Fin.ext hr
  exact outp_at (args m c) (sq t) h S' _ _ _ _ _ _ (hS h) (blk_u m c t) (blk_w m c t) (blk_q m c t) (blk_s m c t)
    (blk_n m c t) (blk_z m c t) i e

set_option maxHeartbeats 1600000 in
/-- What a grid point stores at a token's row of its output's block. -/
theorem out_eq (c : Dev nD) (t : Fin cfg0.N) (y : S16x1024.Idx) (i : Fin 4) (hi : (y 0).val = 8 + i.val) :
    (outsAt0 m c t).1 y = outp (args m c) (sq t) (⟨(y 1).val / 128, by have : (y 1).val < 1024 := (y 1).isLt; omega⟩ : Fin 8)
      i (⟨(y 1).val % 128, Nat.mod_lt _ (by decide)⟩ : Fin 128) := by
  unfold outsAt0
  frame_out
  canon_tiles y hy
  · refine (tile7_at _ _ _ _).trans ((out_at m c t _ (fun h d e => ?_) _ _ _ i (by first | omega | (rw [← hi]; first | exact hy0.symm | exact hy0))).trans (outp_congr _ rfl (by show (7 : ℕ) = _ / 128; omega) rfl (by show _ = _ % 128; omega))); pointwise [k0_pay9]; exact blk_s0 m c t h d e
  · refine (tile6_at _ _ _ _).trans ((out_at m c t _ (fun h d e => ?_) _ _ _ i (by first | omega | (rw [← hi]; first | exact hy0.symm | exact hy0))).trans (outp_congr _ rfl (by show (6 : ℕ) = _ / 128; omega) rfl (by show _ = _ % 128; omega))); pointwise [k0_pay9]; exact blk_s0 m c t h d e
  · refine (tile5_at _ _ _ _).trans ((out_at m c t _ (fun h d e => ?_) _ _ _ i (by first | omega | (rw [← hi]; first | exact hy0.symm | exact hy0))).trans (outp_congr _ rfl (by show (5 : ℕ) = _ / 128; omega) rfl (by show _ = _ % 128; omega))); pointwise [k0_pay9]; exact blk_s0 m c t h d e
  · refine (tile4_at _ _ _ _).trans ((out_at m c t _ (fun h d e => ?_) _ _ _ i (by first | omega | (rw [← hi]; first | exact hy0.symm | exact hy0))).trans (outp_congr _ rfl (by show (4 : ℕ) = _ / 128; omega) rfl (by show _ = _ % 128; omega))); pointwise [k0_pay9]; exact blk_s0 m c t h d e
  · refine (tile3_at _ _ _ _).trans ((out_at m c t _ (fun h d e => ?_) _ _ _ i (by first | omega | (rw [← hi]; first | exact hy0.symm | exact hy0))).trans (outp_congr _ rfl (by show (3 : ℕ) = _ / 128; omega) rfl (by show _ = _ % 128; omega))); pointwise [k0_pay9]; exact blk_s0 m c t h d e
  · refine (tile2_at _ _ _ _).trans ((out_at m c t _ (fun h d e => ?_) _ _ _ i (by first | omega | (rw [← hi]; first | exact hy0.symm | exact hy0))).trans (outp_congr _ rfl (by show (2 : ℕ) = _ / 128; omega) rfl (by show _ = _ % 128; omega))); pointwise [k0_pay9]; exact blk_s0 m c t h d e
  · refine (tile1_at _ _ _ _).trans ((out_at m c t _ (fun h d e => ?_) _ _ _ i (by first | omega | (rw [← hi]; first | exact hy0.symm | exact hy0))).trans (outp_congr _ rfl (by show (1 : ℕ) = _ / 128; omega) rfl (by show _ = _ % 128; omega))); pointwise [k0_pay9]; exact blk_s0 m c t h d e
  · refine (tile0_at _ _ _ _).trans ((out_at m c t _ (fun h d e => ?_) _ _ _ i (by first | omega | (rw [← hi]; first | exact hy0.symm | exact hy0))).trans (outp_congr _ rfl (by show (0 : ℕ) = _ / 128; omega) rfl (by show _ = _ % 128; omega))); pointwise [k0_pay9]; exact blk_s0 m c t h d e

set_option maxHeartbeats 1600000 in
/-- What a grid point stores in the state's block. -/
theorem state_eq (c : Dev nD) (t : Fin cfg0.N) (h : Fin 8) (d e : Fin 128) :
    (outsAt0 m c t).2 (ix4 0 h d e) = next (args m c) (sq t) h d e := by
  unfold outsAt0
  frame_out
  pointwise [k0_pay8]
  refine next_at (args m c) (sq t) h _ _ _ _ _ _ _ _ _ _ _ _ (fun d e => by pointwise [k0_pay9]; exact blk_s0 m c t h d e)
    (blk_u m c t) (blk_w m c t) (blk_k m c t) d e ?_ ?_ ?_ ?_ ?_ ?_ ?_ ?_
  all_goals
    pointwise
    exact blk_g m c t _ e

/-- There are eight points. -/
theorem N8 : cfg0.N = 8 := by decide +kernel

/-- The output's rows, by sequence and row. -/
def OUT (c : Dev nD) : FVec Ideal S128x1024 .bf16 := fun y => (outsAt0 m c ⟨(y 0).val / 16, by
  have h : (y 0).val < 128 := (y 0).isLt
  rw [N8]; omega⟩).1 (ix2 (⟨(y 0).val % 16, Nat.mod_lt _ (by decide)⟩ : Fin 16) (y 1))

/-- The states after the step. -/
def STATE (c : Dev nD) : FVec Ideal S8x8x128x128 .f32 := fun y => next (args m c) (y 0) (y 1) (y 2) (y 3)

/-- The output array after the run. -/
theorem final_o (c : Dev nD) : (dats m 0 c).arrAt 9 (cfgs 0).N = OUT m c := by
  refine (dats m 0 c).arrAt_eq_of_covers 9 _ (by decide +kernel) fun t _ y => ?_
  blk_simp
  rw [after0_9]
  obtain ⟨r, l, rfl⟩ : ∃ (r : Fin 16) (l : Fin 1024), y = ix2 r l := ⟨y 0, y 1, by idx_ext⟩
  have hT := lt8 t
  have e : ((cfg0.win 9).blk t).view.emb (ix2 r l) = ix2 (⟨t.val * 16 + r.val, by omega⟩ : Fin 128) l := by
    blk_ext [idx t]
  refine Eq.trans ?_ (congrArg (OUT m c) e.symm)
  have a : ∀ (t' : Fin cfg0.N) (r' : Fin 16), t' = t → r' = r → (outsAt0 m c t).1 (ix2 r l) = (outsAt0 m c t').1 (ix2 r' l) := by
    intro t' r' h1 h2; rw [h1, h2]
  exact a _ _ (Fin.ext (by show (t.val * 16 + r.val) / 16 = t.val; omega)) (Fin.ext (by show (t.val * 16 + r.val) % 16 = r.val; omega))

/-- The state array after the run. -/
theorem final_s (c : Dev nD) : (dats m 0 c).arrAt 10 (cfgs 0).N = STATE m c := by
  refine (dats m 0 c).arrAt_eq_of_covers 10 _ (by decide +kernel) fun t _ y => ?_
  blk_simp
  rw [after0_10]
  obtain ⟨o, h, d, e, rfl⟩ : ∃ (o : Fin 1) (h : Fin 8) (d e : Fin 128), y = ix4 o h d e := ⟨y 0, y 1, y 2, y 3, by idx_ext⟩
  obtain rfl : o = 0 := Subsingleton.elim _ _
  have hT := lt8 t
  have e : ((cfg0.win 10).blk t).view.emb (ix4 0 h d e) = ix4 (sq t) h d e := by
    blk_ext [idx t]
  exact (state_eq m c t h d _).trans (congrArg (STATE m c) e.symm)

/-- The contents when the region has ended. -/
abbrev atEnd (c : Dev nD) : Valuation τ sig (Elt Ideal) :=
  Pipeline.withArrays (cfgs 0).spec c (V0 m c) fun w => (dats m 0 c).arrAt w (cfgs 0).N

/-- The output at the region's end. -/
theorem atEnd_o (c : Dev nD) : atEnd m c (Proc.devRef .tc main_v15_0) = OUT m c :=
  (Pipeline.withArrays_arr (cfgs 0).spec launch0.win.arr_inj c (V0 m c) (fun w => (dats m 0 c).arrAt w (cfgs 0).N) 9).trans (final_o m c)

/-- The step's rows of the output, as the lines cut them. -/
theorem line_o (σ : Valuation τ sig (Elt Ideal)) : StableHlo.after (List.flatten [hostOps1]) σ (Proc.devRef .tc main_v17)
    = extractStridedSlice S8x4x1024 ![0, 8, 0] (shapeCast S8x16x1024 (σ (Proc.devRef .tc main_v15_0)) shapeCasts_S128x1024_S8x16x1024) slices_S8x16x1024_S8x4x1024_0_8_0 := rfl

/-- An entry of the step's rows. -/
theorem cut_at (E : FVec Ideal S128x1024 .bf16) (b : Fin 8) (s : Fin 4) (j : Fin 1024) :
    (extractStridedSlice S8x4x1024 ![0, 8, 0] (shapeCast S8x16x1024 E shapeCasts_S128x1024_S8x16x1024) slices_S8x16x1024_S8x4x1024_0_8_0 : FVec Ideal S8x4x1024 .bf16) (ix3 b s j)
      = E (ix2 (⟨b.val * 16 + (8 + s.val), by omega⟩ : Fin 128) j) := by
  pointwise

/-- A token's row of the output holds the step's output. -/
theorem OUT_at (c : Dev nD) (b : Fin 8) (s : Fin 4) (j : Fin 1024) :
    OUT m c (ix2 (⟨b.val * 16 + (8 + s.val), by omega⟩ : Fin 128) j) = outp (args m c) b (R.hd j) s (R.ln j) := by
  refine (out_eq m c _ _ s (by show (b.val * 16 + (8 + s.val)) % 16 = 8 + s.val; omega)).trans ?_
  exact outp_congr _ (by show (b.val * 16 + (8 + s.val)) / 16 = b.val; omega) rfl rfl rfl

/-- The output after the run. -/
theorem tail_o (c : Dev nD) : Pipeline.afterTail₀ cfgs (dats m) 0 (V0 m) [hostOps1] c main_v17 = R.GATE (R.READ (m ((c : Thread nD τ).loc main_arg0)) (m ((c : Thread nD τ).loc main_arg1)) (m ((c : Thread nD τ).loc main_arg2)) (m ((c : Thread nD τ).loc main_arg4)) (m ((c : Thread nD τ).loc main_arg8))) (m ((c : Thread nD τ).loc main_arg7)) (m ((c : Thread nD τ).loc main_arg6)) := by
  refine (line_o (atEnd m c)).trans ?_
  rw [atEnd_o m c]
  funext y
  obtain ⟨b, s, j, rfl⟩ : ∃ (b : Fin 8) (s : Fin 4) (j : Fin 1024), y = ix3 b s j := ⟨y 0, y 1, y 2, by idx_ext⟩
  exact (cut_at _ b s j).trans ((OUT_at m c b s j).trans (R.out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b s j).symm)

/-- The state after the run. -/
theorem state_ref (c : Dev nD) : (dats m 0 c).arrAt 10 (cfgs 0).N = R.NEXT (m ((c : Thread nD τ).loc main_arg0)) (m ((c : Thread nD τ).loc main_arg1)) (m ((c : Thread nD τ).loc main_arg3)) (m ((c : Thread nD τ).loc main_arg5)) (m ((c : Thread nD τ).loc main_arg8)) := by
  rw [final_s m c]
  funext y
  obtain ⟨b, h, d, e, rfl⟩ : ∃ (b h : Fin 8) (d e : Fin 128), y = ix4 b h d e := ⟨y 0, y 1, y 2, y 3, by idx_ext⟩
  exact (R.NEXT_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b h d e).symm

end Cert.StepScan.K
end
end
-- ==== Proof.Claim9.lean ====
module

public import proofs.«01_k».proof.Defs
public import proofs.«01_k».proof.Proof.Gen.Kernel9Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import Idealize.ShloMosaic.Lib.Claim
public import Idealize.ShloMosaic.Lib.Quiescent
public import proofs.«01_k».proof.Proof.StepScanRun

/-! The claims about the step's recurrence: the frames, and that kernel and reference end with the same output and state. -/

set_option maxRecDepth 16384

@[expose] public section
noncomputable section

open Idealize.ShloMosaic Idealize.SL.Sem

namespace Cert.StepScan

/-- The printed kernel runs, leaves its arguments and its counters. -/
theorem frame_kernel : Cert.quiescent_Kernel9 (hKernel9 := Cert.Kernel9.Gen.facts) := fun m g _ => Cert.Kernel9.Gen.frame m g

/-- The idealized kernel runs, leaves its arguments and its counters. -/
theorem frame_ideal : Cert.quiescent_Kernel9Ideal (hKernel9Ideal := Cert.Kernel9Ideal.Gen.facts) := fun m g _ => Cert.Kernel9Ideal.Gen.frame m g

/-- The reference runs, leaves its arguments and its counters. -/
theorem frame_reference : Cert.quiescent_Reference9Ideal (hReference9Ideal := Cert.Reference9Ideal.Gen.facts) := by
  intro m g _
  exact (θ_run Cert.Reference9Ideal.defs _ _).mono (fun r h => ⟨fun c => (h c).2.2, sem_eq_zero_of_no_sems rfl _⟩)
    (Cert.Reference9Ideal.Value.run m g)

/-- The kernel and the reference end with the same output and the same state. -/
theorem value : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
    · exact Cert.Kernel9Ideal.Gen.W_main_arg0 m (Cert.Kernel9Ideal.Gen.dats m) c
    · exact Cert.Kernel9Ideal.Gen.W_main_arg1 m (Cert.Kernel9Ideal.Gen.dats m) c
    · exact Cert.Kernel9Ideal.Gen.W_main_arg2 m (Cert.Kernel9Ideal.Gen.dats m) c
    · exact Cert.Kernel9Ideal.Gen.W_main_arg3 m (Cert.Kernel9Ideal.Gen.dats m) c
    · exact Cert.Kernel9Ideal.Gen.W_main_arg4 m (Cert.Kernel9Ideal.Gen.dats m) c
    · exact Cert.Kernel9Ideal.Gen.W_main_arg5 m (Cert.Kernel9Ideal.Gen.dats m) c
    · exact Cert.Kernel9Ideal.Gen.W_main_arg6 m (Cert.Kernel9Ideal.Gen.dats m) c
    · exact Cert.Kernel9Ideal.Gen.W_main_arg7 m (Cert.Kernel9Ideal.Gen.dats m) c
  · run_from Cert.Reference9Ideal.Value.run m' g'
    · refine (R.out0 m' c).trans (Eq.trans ?_ (K.tail_o m c).symm)
      obtain ⟨h0, h1, h2, h3, h4, h5, h6, h7, h8⟩ := hagree c
      rw [h0, h1, h2, h4, h6, h7, h8]; try rfl
    · refine Eq.trans ?_ (K.state_ref m c).symm
      rfl

end Cert.StepScan
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.ScanClaim
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import proofs.«01_k».proof.Proof.Claim8
public import proofs.«01_k».proof.Proof.Claim9
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Scan.frame_kernel, Cert.Scan.frame_ideal, Cert.Scan.frame_reference,
  Cert.ProjClaim.frame_kernel, Cert.ProjClaim.frame_ideal, Cert.ProjClaim.frame_reference,
  Cert.DownClaim.frame_kernel, Cert.DownClaim.frame_ideal, Cert.DownClaim.frame_reference,
  Cert.MixClaim.frame_kernel, Cert.MixClaim.frame_ideal, Cert.MixClaim.frame_reference,
  Cert.UpClaim.frame_kernel, Cert.UpClaim.frame_ideal, Cert.UpClaim.frame_reference,
  Cert.StepProjClaim.frame_kernel, Cert.StepProjClaim.frame_ideal, Cert.StepProjClaim.frame_reference,
  Cert.StepDownClaim.frame_kernel, Cert.StepDownClaim.frame_ideal, Cert.StepDownClaim.frame_reference,
  Cert.StepUpClaim.frame_kernel, Cert.StepUpClaim.frame_ideal, Cert.StepUpClaim.frame_reference,
  Cert.StepScan.frame_kernel, Cert.StepScan.frame_ideal, Cert.StepScan.frame_reference,
  trivial, Cert.Scan.value,
  trivial, Cert.ProjClaim.value,
  trivial, Cert.DownClaim.value,
  trivial, Cert.MixClaim.value,
  trivial, Cert.UpClaim.value,
  trivial, Cert.StepProjClaim.value,
  trivial, Cert.StepDownClaim.value,
  trivial, Cert.StepUpClaim.value,
  trivial, Cert.StepScan.value⟩

end Cert.Proof

end
